-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S48x6x5120 : Shape := ⟨3, ![48, 6, 5120]⟩
abbrev S48x6x8x128 : Shape := ⟨4, ![48, 6, 8, 128]⟩
abbrev S128x256 : Shape := ⟨2, ![128, 256]⟩
abbrev S48x3584x8x32 : Shape := ⟨4, ![48, 3584, 8, 32]⟩
abbrev S48x3584x8 : Shape := ⟨3, ![48, 3584, 8]⟩
abbrev S48x3584x8x64 : Shape := ⟨4, ![48, 3584, 8, 64]⟩
abbrev S48 : Shape := ⟨1, ![48]⟩
abbrev S_ : Shape := ⟨0, ![]⟩

class Facts : Prop where
  bcast_S_S48 : S_.BroadcastsInDim S48 (![] : Fin 0 → Fin S48.rank)
  reducesTo_S48_S_d0 : S48.ReducesTo [0] S_
  h_S_ : 0 < S_.numel
  bcast_S_S48x6x5120 : S_.BroadcastsInDim S48x6x5120 (![] : Fin 0 → Fin S48x6x5120.rank)
  reducesTo_S48x6x5120_S_d0_1_2 : S48x6x5120.ReducesTo [0, 1, 2] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S48x6x5120 .bf16) (main_arg1 : FVec F S48x6x8x128 .bf16) (main_arg2 : FVec F S48x6x8x128 .bf16) (main_arg3 : FVec F S128x256 .bf16) (main_arg4 : IVec S48x3584x8x32 8) (main_arg5 : FVec F S48x3584x8 .bf16) (main_arg6 : IVec S48x3584x8x64 8) (main_arg7 : FVec F S48x3584x8 .f32) (main_arg8 : IVec S48 32) : IVec S_ 1 :=
  let main_c : IVec S_ 32 := constantI S_ 32 0#32
  let main_v0 : IVec S48 32 := broadcastInDim S48 ![] bcast_S_S48 main_c
  let main_v1 : IVec S48 1 := cmpi .sge main_arg8 main_v0
  let main_c_0 : IVec S_ 32 := constantI S_ 32 3584#32
  let main_v2 : IVec S48 32 := broadcastInDim S48 ![] bcast_S_S48 main_c_0
  let main_v3 : IVec S48 1 := cmpi .sle main_arg8 main_v2
  let main_v4 : IVec S48 1 := andi main_v1 main_v3
  let main_c_1 : IVec S_ 1 := constantI S_ 1 1#1
  let main_v5 : IVec S_ 1 := (fun x v => Host.reduce IntOp.andi x v reducesTo_S48_S_d0 h_S_) main_v4 main_c_1
  let main_v6 : FVec F S48x6x5120 .bf16 := Host.absf main_arg0
  let main_cst : FVec F S_ .bf16 := constant S_ .bf16 0x7F80#16
  let main_v7 : FVec F S48x6x5120 .bf16 := broadcastInDim S48x6x5120 ![] bcast_S_S48x6x5120 main_cst
  let main_v8 : IVec S48x6x5120 1 := cmpf .olt main_v6 main_v7
  let main_c_2 : IVec S_ 1 := constantI S_ 1 1#1
  let main_v9 : IVec S_ 1 := (fun x v => Host.reduce IntOp.andi x v reducesTo_S48x6x5120_S_d0_1_2 h_S_) main_v8 main_c_2
  let main_v10 : IVec S_ 1 := andi main_v5 main_v9
  let main_v11 : FVec F S128x256 .bf16 := Host.absf main_arg3
  let main_cst_3 : FVec F S_ .bf16 := constant S_ .bf16 0x7F80#16
  let main_v12 : FVec F S128x256 .bf16 := broadcastInDim S128x256 ![] bcast_S_S128x256 main_cst_3
  let main_v13 : IVec S128x256 1 := cmpf .olt main_v11 main_v12
  let main_c_4 : IVec S_ 1 := constantI S_ 1 1#1
  let main_v14 : IVec S_ 1 := (fun x v => Host.reduce IntOp.andi x v reducesTo_S128x256_S_d0_1 h_S_) main_v13 main_c_4
  let main_v15 : IVec S_ 1 := andi main_v10 main_v14
  main_v15
-- ==== Pre_in_range.lean ====
abbrev S48x6x5120 : Shape := ⟨3, ![48, 6, 5120]⟩
abbrev S48x6x8x128 : Shape := ⟨4, ![48, 6, 8, 128]⟩
abbrev S128x256 : Shape := ⟨2, ![128, 256]⟩
abbrev S48x3584x8x32 : Shape := ⟨4, ![48, 3584, 8, 32]⟩
abbrev S48x3584x8 : Shape := ⟨3, ![48, 3584, 8]⟩
abbrev S48x3584x8x64 : Shape := ⟨4, ![48, 3584, 8, 64]⟩
abbrev S48 : Shape := ⟨1, ![48]⟩
abbrev S_ : Shape := ⟨0, ![]⟩

class Facts : Prop where
  bcast_S_S48 : S_.BroadcastsInDim S48 (![] : Fin 0 → Fin S48.rank)

variable [Facts]

def fn {F : FTy → Type} [FloatOps F] (main_arg0 : FVec F S48x6x5120 .bf16) (main_arg1 : FVec F S48x6x8x128 .bf16) (main_arg2 : FVec F S48x6x8x128 .bf16) (main_arg3 : FVec F S128x256 .bf16) (main_arg4 : IVec S48x3584x8x32 8) (main_arg5 : FVec F S48x3584x8 .bf16) (main_arg6 : IVec S48x3584x8x64 8) (main_arg7 : FVec F S48x3584x8 .f32) (main_arg8 : IVec S48 32) : IVec S48 1 :=
  let main_c : IVec S_ 32 := constantI S_ 32 0#32
  let main_v0 : IVec S48 32 := broadcastInDim S48 ![] bcast_S_S48 main_c
  let main_v1 : IVec S48 1 := cmpi .sge main_arg8 main_v0
  let main_c_0 : IVec S_ 32 := constantI S_ 32 3584#32
  let main_v2 : IVec S48 32 := broadcastInDim S48 ![] bcast_S_S48 main_c_0
  let main_v3 : IVec S48 1 := cmpi .sle main_arg8 main_v2
  let main_v4 : IVec S48 1 := andi main_v1 main_v3
  main_v4
-- ==== Kernel.lean ====
abbrev S48x6x5120 : Shape := ⟨3, ![48, 6, 5120]⟩
abbrev S48x6x8x128 : Shape := ⟨4, ![48, 6, 8, 128]⟩
abbrev S128x256 : Shape := ⟨2, ![128, 256]⟩
abbrev S48x3584x8x32 : Shape := ⟨4, ![48, 3584, 8, 32]⟩
abbrev S48x3584x8 : Shape := ⟨3, ![48, 3584, 8]⟩
abbrev S48x3584x8x64 : Shape := ⟨4, ![48, 3584, 8, 64]⟩
abbrev S48 : Shape := ⟨1, ![48]⟩
abbrev S2304x128 : Shape := ⟨2, ![2304, 128]⟩
abbrev S2304x32 : Shape := ⟨2, ![2304, 32]⟩
abbrev S2304x1 : Shape := ⟨2, ![2304, 1]⟩
abbrev S2304x64 : Shape := ⟨2, ![2304, 64]⟩
abbrev S2304x256 : Shape := ⟨2, ![2304, 256]⟩
abbrev S256x256 : Shape := ⟨2, ![256, 256]⟩
abbrev S256x32 : Shape := ⟨2, ![256, 32]⟩
abbrev S2304 : Shape := ⟨1, ![2304]⟩
abbrev S48x6x5x8x128 : Shape := ⟨5, ![48, 6, 5, 8, 128]⟩
abbrev S48x5x6x8x128 : Shape := ⟨5, ![48, 5, 6, 8, 128]⟩
abbrev S48x240x128 : Shape := ⟨3, ![48, 240, 128]⟩
abbrev S48x48x256 : Shape := ⟨3, ![48, 48, 256]⟩
abbrev S48x48x128 : Shape := ⟨3, ![48, 48, 128]⟩
abbrev S48x1x48 : Shape := ⟨3, ![48, 1, 48]⟩
abbrev S48x8x32x3584 : Shape := ⟨4, ![48, 8, 32, 3584]⟩
abbrev S48x8x3584 : Shape := ⟨3, ![48, 8, 3584]⟩
abbrev S48x8x64x3584 : Shape := ⟨4, ![48, 8, 64, 3584]⟩
abbrev S48x6x40x3584 : Shape := ⟨4, ![48, 6, 40, 3584]⟩
abbrev S1x240x128 : Shape := ⟨3, ![1, 240, 128]⟩
abbrev S1x48x256 : Shape := ⟨3, ![1, 48, 256]⟩
abbrev S1x48x128 : Shape := ⟨3, ![1, 48, 128]⟩
abbrev S1x1x48 : Shape := ⟨3, ![1, 1, 48]⟩
abbrev S1x8x32x3584 : Shape := ⟨4, ![1, 8, 32, 3584]⟩
abbrev S1x8x3584 : Shape := ⟨3, ![1, 8, 3584]⟩
abbrev S1x8x64x3584 : Shape := ⟨4, ![1, 8, 64, 3584]⟩
abbrev S1x6x40x3584 : Shape := ⟨4, ![1, 6, 40, 3584]⟩
abbrev S240x256 : Shape := ⟨2, ![240, 256]⟩
abbrev S8x96x256 : Shape := ⟨3, ![8, 96, 256]⟩
abbrev S4x96x256 : Shape := ⟨3, ![4, 96, 256]⟩
abbrev S8x128 : Shape := ⟨2, ![8, 128]⟩
abbrev S1 : Shape := ⟨1, ![1]⟩
abbrev S240x128 : Shape := ⟨2, ![240, 128]⟩
abbrev S240 : Shape := ⟨1, ![240]⟩
abbrev S240x1 : Shape := ⟨2, ![240, 1]⟩
abbrev S48x256 : Shape := ⟨2, ![48, 256]⟩
abbrev S240x48 : Shape := ⟨2, ![240, 48]⟩
abbrev S1x48 : Shape := ⟨2, ![1, 48]⟩
abbrev S8x512 : Shape := ⟨2, ![8, 512]⟩
abbrev S1x1x32x512 : Shape := ⟨4, ![1, 1, 32, 512]⟩
abbrev S32x512 : Shape := ⟨2, ![32, 512]⟩
abbrev S16x512 : Shape := ⟨2, ![16, 512]⟩
abbrev S256x512 : Shape := ⟨2, ![256, 512]⟩
abbrev S48x512 : Shape := ⟨2, ![48, 512]⟩
abbrev S1x96x256 : Shape := ⟨3, ![1, 96, 256]⟩
abbrev S96x256 : Shape := ⟨2, ![96, 256]⟩
abbrev S96x512 : Shape := ⟨2, ![96, 512]⟩
abbrev S1x8x512 : Shape := ⟨3, ![1, 8, 512]⟩
abbrev S1x512 : Shape := ⟨2, ![1, 512]⟩
abbrev S48x1 : Shape := ⟨2, ![48, 1]⟩
abbrev S6x8x512 : Shape := ⟨3, ![6, 8, 512]⟩
abbrev S1x1x512 : Shape := ⟨3, ![1, 1, 512]⟩
abbrev S1x6x8x512 : Shape := ⟨4, ![1, 6, 8, 512]⟩
abbrev S240x512 : Shape := ⟨2, ![240, 512]⟩
abbrev S1x2x64x512 : Shape := ⟨4, ![1, 2, 64, 512]⟩
abbrev S2x64x512 : Shape := ⟨3, ![2, 64, 512]⟩
abbrev S128x512 : Shape := ⟨2, ![128, 512]⟩
abbrev S128x1x512 : Shape := ⟨3, ![128, 1, 512]⟩
abbrev S128x2x512 : Shape := ⟨3, ![128, 2, 512]⟩
abbrev S512x256 : Shape := ⟨2, ![512, 256]⟩
abbrev S96x1 : Shape := ⟨2, ![96, 1]⟩
abbrev S6x40x512 : Shape := ⟨3, ![6, 40, 512]⟩
abbrev S1x6x40x512 : Shape := ⟨4, ![1, 6, 40, 512]⟩
abbrev S48x128 : Shape := ⟨2, ![48, 128]⟩
abbrev S128x128 : Shape := ⟨2, ![128, 128]⟩

abbrev nBuf : Space → Nat
  | .hbm => 30
  | .vmem => 37
  | .smem => 1
  | _ => 0

abbrev bufTy : (tb : Table) → Fin (tcTables nBuf tb) → BufTy
  | .hbm, ⟨0, _⟩ => ⟨S48x6x5120, .bf16⟩
  | .hbm, ⟨1, _⟩ => ⟨S48x6x8x128, .bf16⟩
  | .hbm, ⟨2, _⟩ => ⟨S48x6x8x128, .bf16⟩
  | .hbm, ⟨3, _⟩ => ⟨S128x256, .bf16⟩
  | .hbm, ⟨4, _⟩ => ⟨S48x3584x8x32, .i8⟩
  | .hbm, ⟨5, _⟩ => ⟨S48x3584x8, .bf16⟩
  | .hbm, ⟨6, _⟩ => ⟨S48x3584x8x64, .i8⟩
  | .hbm, ⟨7, _⟩ => ⟨S48x3584x8, .f32⟩
  | .hbm, ⟨8, _⟩ => ⟨S2304x128, .bf16⟩
  | .hbm, ⟨9, _⟩ => ⟨S2304x128, .bf16⟩
  | .hbm, ⟨10, _⟩ => ⟨S2304x32, .i8⟩
  | .hbm, ⟨11, _⟩ => ⟨S2304x1, .bf16⟩
  | .hbm, ⟨12, _⟩ => ⟨S2304x64, .i8⟩
  | .hbm, ⟨13, _⟩ => ⟨S2304x1, .f32⟩
  | .hbm, ⟨14, _⟩ => ⟨S2304x256, .bf16⟩
  | .hbm, ⟨15, _⟩ => ⟨S2304x128, .bf16⟩
  | .hbm, ⟨16, _⟩ => ⟨S128x256, .bf16⟩
  | .hbm, ⟨17, _⟩ => ⟨S48x6x5x8x128, .bf16⟩
  | .hbm, ⟨18, _⟩ => ⟨S48x5x6x8x128, .bf16⟩
  | .hbm, ⟨19, _⟩ => ⟨S48x240x128, .bf16⟩
  | .hbm, ⟨20, _⟩ => ⟨S48x48x256, .bf16⟩
  | .hbm, ⟨21, _⟩ => ⟨S48x48x128, .bf16⟩
  | .hbm, ⟨22, _⟩ => ⟨S48x1x48, .bf16⟩
  | .hbm, ⟨23, _⟩ => ⟨S48x1x48, .f32⟩
  | .hbm, ⟨24, _⟩ => ⟨S48x8x32x3584, .i8⟩
  | .hbm, ⟨25, _⟩ => ⟨S48x8x3584, .bf16⟩
  | .hbm, ⟨26, _⟩ => ⟨S48x8x64x3584, .i8⟩
  | .hbm, ⟨27, _⟩ => ⟨S48x8x3584, .f32⟩
  | .hbm, ⟨28, _⟩ => ⟨S48x240x128, .bf16⟩
  | .hbm, ⟨29, _⟩ => ⟨S48x6x40x3584, .f32⟩
  | .local _ .vmem, ⟨0, _⟩ => ⟨S2304x128, .bf16⟩
  | .local _ .vmem, ⟨1, _⟩ => ⟨S2304x128, .bf16⟩
  | .local _ .vmem, ⟨2, _⟩ => ⟨S128x256, .bf16⟩
  | .local _ .vmem, ⟨3, _⟩ => ⟨S2304x32, .i8⟩
  | .local _ .vmem, ⟨4, _⟩ => ⟨S2304x1, .bf16⟩
  | .local _ .vmem, ⟨5, _⟩ => ⟨S2304x64, .i8⟩
  | .local _ .vmem, ⟨6, _⟩ => ⟨S2304x1, .f32⟩
  | .local _ .vmem, ⟨7, _⟩ => ⟨S2304x256, .bf16⟩
  | .local _ .vmem, ⟨8, _⟩ => ⟨S2304x128, .bf16⟩
  | .local _ .vmem, ⟨9, _⟩ => ⟨S128x256, .bf16⟩
  | .local _ .vmem, ⟨10, _⟩ => ⟨S1x240x128, .bf16⟩
  | .local _ .vmem, ⟨11, _⟩ => ⟨S1x240x128, .bf16⟩
  | .local _ .vmem, ⟨12, _⟩ => ⟨S128x256, .bf16⟩
  | .local _ .vmem, ⟨13, _⟩ => ⟨S1x48x256, .bf16⟩
  | .local _ .vmem, ⟨14, _⟩ => ⟨S1x48x256, .bf16⟩
  | .local _ .vmem, ⟨15, _⟩ => ⟨S1x48x128, .bf16⟩
  | .local _ .vmem, ⟨16, _⟩ => ⟨S1x48x128, .bf16⟩
  | .local _ .vmem, ⟨17, _⟩ => ⟨S1x1x48, .bf16⟩
  | .local _ .vmem, ⟨18, _⟩ => ⟨S1x1x48, .bf16⟩
  | .local _ .vmem, ⟨19, _⟩ => ⟨S1x1x48, .f32⟩
  | .local _ .vmem, ⟨20, _⟩ => ⟨S1x1x48, .f32⟩
  | .local _ .vmem, ⟨21, _⟩ => ⟨S1x8x32x3584, .i8⟩
  | .local _ .vmem, ⟨22, _⟩ => ⟨S1x8x32x3584, .i8⟩
  | .local _ .vmem, ⟨23, _⟩ => ⟨S1x8x3584, .bf16⟩
  | .local _ .vmem, ⟨24, _⟩ => ⟨S1x8x3584, .bf16⟩
  | .local _ .vmem, ⟨25, _⟩ => ⟨S1x8x64x3584, .i8⟩
  | .local _ .vmem, ⟨26, _⟩ => ⟨S1x8x64x3584, .i8⟩
  | .local _ .vmem, ⟨27, _⟩ => ⟨S1x8x3584, .f32⟩
  | .local _ .vmem, ⟨28, _⟩ => ⟨S1x8x3584, .f32⟩
  | .local _ .vmem, ⟨29, _⟩ => ⟨S1x240x128, .bf16⟩
  | .local _ .vmem, ⟨30, _⟩ => ⟨S1x240x128, .bf16⟩
  | .local _ .vmem, ⟨31, _⟩ => ⟨S1x6x40x3584, .f32⟩
  | .local _ .vmem, ⟨32, _⟩ => ⟨S1x6x40x3584, .f32⟩
  | .local _ .vmem, ⟨33, _⟩ => ⟨S240x256, .bf16⟩
  | .local _ .vmem, ⟨34, _⟩ => ⟨S8x96x256, .bf16⟩
  | .local _ .vmem, ⟨35, _⟩ => ⟨S4x96x256, .f32⟩
  | .local _ .vmem, ⟨36, _⟩ => ⟨S8x128, .f32⟩
  | .local _ .smem, ⟨0, _⟩ => ⟨S48, .i32⟩
  | _, _ => ⟨S48x6x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_arg8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := .none

abbrev stage0_0 : Fin 1 → Memref sig .tc .vmem S2304x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x32 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2304x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![48], ![false]⟩

abbrev pre1 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
@[reducible] def k1_t1_loop (v1 : BitVec 32) : Scf.Loop 32 :=
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_212 : BitVec 32 := 1#32
  ⟨c0_i32_210, v629, c1_i32_212⟩

def k1_mult1 (v1 : BitVec 32) (k1_t1 : Fin (k1_t1_loop v1).trips) : BitVec 32 :=
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  v1097
def k1_off2 (v1 : BitVec 32) (k1_t1 : Fin (k1_t1_loop v1).trips) : Fin 4 → Nat :=
  let c0_399 : Index := 0#32
  let c0_400 : Index := 0#32
  let c0_401 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1099 : Index := Scalar.indexCast v1098
  ![0, 0, 0, v1099.toNat]
def k1_off3 (v1 : BitVec 32) (k1_t1 : Fin (k1_t1_loop v1).trips) : Fin 4 → Nat :=
  let c0_431 : Index := 0#32
  let c1_432 : Index := 1#32
  let c0_433 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1187 : Index := Scalar.indexCast v1098
  ![0, 1, 0, v1187.toNat]
def k1_off4 (v1 : BitVec 32) (k1_t1 : Fin (k1_t1_loop v1).trips) : Fin 4 → Nat :=
  let c0_470 : Index := 0#32
  let c2_471 : Index := 2#32
  let c0_472 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1278 : Index := Scalar.indexCast v1098
  ![0, 2, 0, v1278.toNat]
def k1_off5 (v1 : BitVec 32) (k1_t1 : Fin (k1_t1_loop v1).trips) : Fin 4 → Nat :=
  let c0_509 : Index := 0#32
  let c3_510 : Index := 3#32
  let c0_511 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1367 : Index := Scalar.indexCast v1098
  ![0, 3, 0, v1367.toNat]
def k1_off6 (v1 : BitVec 32) (k1_t1 : Fin (k1_t1_loop v1).trips) : Fin 4 → Nat :=
  let c0_548 : Index := 0#32
  let c4_549 : Index := 4#32
  let c0_550 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1458 : Index := Scalar.indexCast v1098
  ![0, 4, 0, v1458.toNat]
def k1_off7 (v1 : BitVec 32) (k1_t1 : Fin (k1_t1_loop v1).trips) : Fin 4 → Nat :=
  let c0_587 : Index := 0#32
  let c5_588 : Index := 5#32
  let c0_589 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1549 : Index := Scalar.indexCast v1098
  ![0, 5, 0, v1549.toNat]
def k1_off8 (v1 : BitVec 32) (k1_t1 : Fin (k1_t1_loop v1).trips) : Fin 4 → Nat :=
  let c0_626 : Index := 0#32
  let c6_627 : Index := 6#32
  let c0_628 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1638 : Index := Scalar.indexCast v1098
  ![0, 6, 0, v1638.toNat]
def k1_off9 (v1 : BitVec 32) (k1_t1 : Fin (k1_t1_loop v1).trips) : Fin 4 → Nat :=
  let c0_665 : Index := 0#32
  let c7_666 : Index := 7#32
  let c0_667 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1729 : Index := Scalar.indexCast v1098
  ![0, 7, 0, v1729.toNat]
def k1_off10 (v1 : BitVec 32) (k1_t1 : Fin (k1_t1_loop v1).trips) : Fin 3 → Nat :=
  let c0_704 : Index := 0#32
  let c0_705 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1818 : Index := Scalar.indexCast v1098
  ![0, 0, v1818.toNat]
def k1_off11 (v1 : BitVec 32) (k1_t1 : Fin (k1_t1_loop v1).trips) : Fin 4 → Nat :=
  let c0_712 : Index := 0#32
  let c0_713 : Index := 0#32
  let c0_714 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1855 : Index := Scalar.indexCast v1098
  ![0, 0, 0, v1855.toNat]
def k1_off12 (v1 : BitVec 32) (k1_t1 : Fin (k1_t1_loop v1).trips) : Fin 4 → Nat :=
  let c0_720 : Index := 0#32
  let c0_721 : Index := 0#32
  let c8 : Index := 8#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1896 : Index := Scalar.indexCast v1098
  ![0, 0, 8, v1896.toNat]
def k1_off13 (v1 : BitVec 32) (k1_t1 : Fin (k1_t1_loop v1).trips) : Fin 4 → Nat :=
  let c0_725 : Index := 0#32
  let c0_726 : Index := 0#32
  let c16 : Index := 16#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1929 : Index := Scalar.indexCast v1098
  ![0, 0, 16, v1929.toNat]
def k1_off14 (v1 : BitVec 32) (k1_t1 : Fin (k1_t1_loop v1).trips) : Fin 4 → Nat :=
  let c0_731 : Index := 0#32
  let c0_732 : Index := 0#32
  let c24 : Index := 24#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v1970 : Index := Scalar.indexCast v1098
  ![0, 0, 24, v1970.toNat]
def k1_off15 (v1 : BitVec 32) (k1_t1 : Fin (k1_t1_loop v1).trips) : Fin 4 → Nat :=
  let c0_736 : Index := 0#32
  let c0_737 : Index := 0#32
  let c32 : Index := 32#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v2003 : Index := Scalar.indexCast v1098
  ![0, 0, 32, v2003.toNat]
def k1_off16 (v1 : BitVec 32) (k1_t1 : Fin (k1_t1_loop v1).trips) : Fin 4 → Nat :=
  let c0_760 : Index := 0#32
  let c0_761 : Index := 0#32
  let c0_762 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v2149 : Index := Scalar.indexCast v1098
  ![0, 0, 0, v2149.toNat]
def k1_off17 (v1 : BitVec 32) (k1_t1 : Fin (k1_t1_loop v1).trips) : Fin 4 → Nat :=
  let c0_781 : Index := 0#32
  let c2_782 : Index := 2#32
  let c0_783 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v2200 : Index := Scalar.indexCast v1098
  ![0, 2, 0, v2200.toNat]
def k1_off18 (v1 : BitVec 32) (k1_t1 : Fin (k1_t1_loop v1).trips) : Fin 4 → Nat :=
  let c0_802 : Index := 0#32
  let c4_803 : Index := 4#32
  let c0_804 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v2251 : Index := Scalar.indexCast v1098
  ![0, 4, 0, v2251.toNat]
def k1_off19 (v1 : BitVec 32) (k1_t1 : Fin (k1_t1_loop v1).trips) : Fin 4 → Nat :=
  let c0_823 : Index := 0#32
  let c6_824 : Index := 6#32
  let c0_825 : Index := 0#32
  let c0_i32_210 : BitVec 32 := 0#32
  let c1_i32_212 : BitVec 32 := 1#32
  let arg18 : BitVec 32 := Scf.iv c0_i32_210 c1_i32_212 k1_t1
  let c512_i32_398 : BitVec 32 := 512#32
  let v1097 : BitVec 32 := Scalar.muli arg18 c512_i32_398
  let v1098 : BitVec 32 := v1097
  let v2302 : Index := Scalar.indexCast v1098
  ![0, 6, 0, v2302.toNat]
@[reducible] def k1_t2_loop (v1 : BitVec 32) : Scf.Loop 32 :=
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let v626 : BitVec 32 := Scalar.addi c0_i32_210 v625
  let c1_i32_213 : BitVec 32 := 1#32
  ⟨v629, v626, c1_i32_213⟩
def k1_mult2 (v1 : BitVec 32) (k1_t2 : Fin (k1_t2_loop v1).trips) : BitVec 32 :=
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  v1097
def k1_off20 (v1 : BitVec 32) (k1_t2 : Fin (k1_t2_loop v1).trips) : Fin 4 → Nat :=
  let c0_399 : Index := 0#32
  let c0_400 : Index := 0#32
  let c0_401 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1099 : Index := Scalar.indexCast v1098
  ![0, 0, 0, v1099.toNat]
def k1_off21 (v1 : BitVec 32) (k1_t2 : Fin (k1_t2_loop v1).trips) : Fin 4 → Nat :=
  let c0_431 : Index := 0#32
  let c1_432 : Index := 1#32
  let c0_433 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1187 : Index := Scalar.indexCast v1098
  ![0, 1, 0, v1187.toNat]
def k1_off22 (v1 : BitVec 32) (k1_t2 : Fin (k1_t2_loop v1).trips) : Fin 4 → Nat :=
  let c0_470 : Index := 0#32
  let c2_471 : Index := 2#32
  let c0_472 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1278 : Index := Scalar.indexCast v1098
  ![0, 2, 0, v1278.toNat]
def k1_off23 (v1 : BitVec 32) (k1_t2 : Fin (k1_t2_loop v1).trips) : Fin 4 → Nat :=
  let c0_509 : Index := 0#32
  let c3_510 : Index := 3#32
  let c0_511 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1367 : Index := Scalar.indexCast v1098
  ![0, 3, 0, v1367.toNat]
def k1_off24 (v1 : BitVec 32) (k1_t2 : Fin (k1_t2_loop v1).trips) : Fin 4 → Nat :=
  let c0_548 : Index := 0#32
  let c4_549 : Index := 4#32
  let c0_550 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1458 : Index := Scalar.indexCast v1098
  ![0, 4, 0, v1458.toNat]
def k1_off25 (v1 : BitVec 32) (k1_t2 : Fin (k1_t2_loop v1).trips) : Fin 4 → Nat :=
  let c0_587 : Index := 0#32
  let c5_588 : Index := 5#32
  let c0_589 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1549 : Index := Scalar.indexCast v1098
  ![0, 5, 0, v1549.toNat]
def k1_off26 (v1 : BitVec 32) (k1_t2 : Fin (k1_t2_loop v1).trips) : Fin 4 → Nat :=
  let c0_626 : Index := 0#32
  let c6_627 : Index := 6#32
  let c0_628 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1638 : Index := Scalar.indexCast v1098
  ![0, 6, 0, v1638.toNat]
def k1_off27 (v1 : BitVec 32) (k1_t2 : Fin (k1_t2_loop v1).trips) : Fin 4 → Nat :=
  let c0_665 : Index := 0#32
  let c7_666 : Index := 7#32
  let c0_667 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1729 : Index := Scalar.indexCast v1098
  ![0, 7, 0, v1729.toNat]
def k1_off28 (v1 : BitVec 32) (k1_t2 : Fin (k1_t2_loop v1).trips) : Fin 3 → Nat :=
  let c0_704 : Index := 0#32
  let c0_705 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1818 : Index := Scalar.indexCast v1098
  ![0, 0, v1818.toNat]
def k1_off29 (v1 : BitVec 32) (k1_t2 : Fin (k1_t2_loop v1).trips) : Fin 4 → Nat :=
  let c0_712 : Index := 0#32
  let c0_713 : Index := 0#32
  let c0_714 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1855 : Index := Scalar.indexCast v1098
  ![0, 0, 0, v1855.toNat]
def k1_off30 (v1 : BitVec 32) (k1_t2 : Fin (k1_t2_loop v1).trips) : Fin 4 → Nat :=
  let c0_720 : Index := 0#32
  let c0_721 : Index := 0#32
  let c8 : Index := 8#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1896 : Index := Scalar.indexCast v1098
  ![0, 0, 8, v1896.toNat]
def k1_off31 (v1 : BitVec 32) (k1_t2 : Fin (k1_t2_loop v1).trips) : Fin 4 → Nat :=
  let c0_725 : Index := 0#32
  let c0_726 : Index := 0#32
  let c16 : Index := 16#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1929 : Index := Scalar.indexCast v1098
  ![0, 0, 16, v1929.toNat]
def k1_off32 (v1 : BitVec 32) (k1_t2 : Fin (k1_t2_loop v1).trips) : Fin 4 → Nat :=
  let c0_731 : Index := 0#32
  let c0_732 : Index := 0#32
  let c24 : Index := 24#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v1970 : Index := Scalar.indexCast v1098
  ![0, 0, 24, v1970.toNat]
def k1_off33 (v1 : BitVec 32) (k1_t2 : Fin (k1_t2_loop v1).trips) : Fin 4 → Nat :=
  let c0_736 : Index := 0#32
  let c0_737 : Index := 0#32
  let c32 : Index := 32#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v2003 : Index := Scalar.indexCast v1098
  ![0, 0, 32, v2003.toNat]
def k1_off34 (v1 : BitVec 32) (k1_t2 : Fin (k1_t2_loop v1).trips) : Fin 4 → Nat :=
  let c0_760 : Index := 0#32
  let c0_761 : Index := 0#32
  let c0_762 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v2149 : Index := Scalar.indexCast v1098
  ![0, 0, 0, v2149.toNat]
def k1_off35 (v1 : BitVec 32) (k1_t2 : Fin (k1_t2_loop v1).trips) : Fin 4 → Nat :=
  let c0_781 : Index := 0#32
  let c2_782 : Index := 2#32
  let c0_783 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v2200 : Index := Scalar.indexCast v1098
  ![0, 2, 0, v2200.toNat]
def k1_off36 (v1 : BitVec 32) (k1_t2 : Fin (k1_t2_loop v1).trips) : Fin 4 → Nat :=
  let c0_802 : Index := 0#32
  let c4_803 : Index := 4#32
  let c0_804 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v2251 : Index := Scalar.indexCast v1098
  ![0, 4, 0, v2251.toNat]
def k1_off37 (v1 : BitVec 32) (k1_t2 : Fin (k1_t2_loop v1).trips) : Fin 4 → Nat :=
  let c0_823 : Index := 0#32
  let c6_824 : Index := 6#32
  let c0_825 : Index := 0#32
  let c0_i32_210 : BitVec 32 := 0#32
  let c511_i32 : BitVec 32 := 511#32
  let v622 : BitVec 32 := Scalar.addi v1 c511_i32
  let c512_i32 : BitVec 32 := 512#32
  let v623 : BitVec 32 := Scalar.divsi v622 c512_i32
  let v625 : BitVec 32 := Scalar.subi v623 c0_i32_210
  let c1_i32_211 : BitVec 32 := 1#32
  let v627 : BitVec 32 := Scalar.divsi v625 c1_i32_211
  let v628 : BitVec 32 := Scalar.muli v627 c1_i32_211
  let v629 : BitVec 32 := Scalar.addi c0_i32_210 v628
  let c1_i32_213 : BitVec 32 := 1#32
  let arg18 : BitVec 32 := Scf.iv v629 c1_i32_213 k1_t2
  let c512_i32_398 : BitVec 32 := 512#32
  let v1097 : BitVec 32 := Scalar.muli arg18 c512_i32_398
  let v1098 : BitVec 32 := v1097
  let v2302 : Index := Scalar.indexCast v1098
  ![0, 6, 0, v2302.toNat]
@[reducible] def k1_t3_loop (v1 : BitVec 32) : Scf.Loop 32 :=
  let c511_i32 : BitVec 32 := 511#32
  let v622 : BitVec 32 := Scalar.addi v1 c511_i32
  let c512_i32 : BitVec 32 := 512#32
  let v623 : BitVec 32 := Scalar.divsi v622 c512_i32
  let c7_i32_215 : BitVec 32 := 7#32
  let v632 : BitVec 32 := Scalar.subi c7_i32_215 v623
  let c1_i32_216 : BitVec 32 := 1#32
  let v634 : BitVec 32 := Scalar.divsi v632 c1_i32_216
  let v635 : BitVec 32 := Scalar.muli v634 c1_i32_216
  let v636 : BitVec 32 := Scalar.addi v623 v635
  let c1_i32_217 : BitVec 32 := 1#32
  ⟨v623, v636, c1_i32_217⟩
def k1_mult3 (v1 : BitVec 32) (k1_t3 : Fin (k1_t3_loop v1).trips) : BitVec 32 :=
  let c511_i32 : BitVec 32 := 511#32
  let v622 : BitVec 32 := Scalar.addi v1 c511_i32
  let c512_i32 : BitVec 32 := 512#32
  let v623 : BitVec 32 := Scalar.divsi v622 c512_i32
  let c1_i32_217 : BitVec 32 := 1#32
  let arg18 : BitVec 32 := Scf.iv v623 c1_i32_217 k1_t3
  let c512_i32_398 : BitVec 32 := 512#32
  let v1097 : BitVec 32 := Scalar.muli arg18 c512_i32_398
  v1097
def k1_off38 (v1 : BitVec 32) (k1_t3 : Fin (k1_t3_loop v1).trips) : Fin 4 → Nat :=
  let c0_400 : Index := 0#32
  let c0_401 : Index := 0#32
  let c0_402 : Index := 0#32
  let c511_i32 : BitVec 32 := 511#32
  let v622 : BitVec 32 := Scalar.addi v1 c511_i32
  let c512_i32 : BitVec 32 := 512#32
  let v623 : BitVec 32 := Scalar.divsi v622 c512_i32
  let c1_i32_217 : BitVec 32 := 1#32
  let arg18 : BitVec 32 := Scf.iv v623 c1_i32_217 k1_t3
  let c512_i32_398 : BitVec 32 := 512#32
  let v1097 : BitVec 32 := Scalar.muli arg18 c512_i32_398
  let v1098 : BitVec 32 := v1097
  let v1100 : Index := Scalar.indexCast v1098
  ![0, 0, 0, v1100.toNat]
@[reducible] def k1_t4_loop (v1 : BitVec 32) : Scf.Loop 32 :=
  let c511_i32 : BitVec 32 := 511#32
  let v622 : BitVec 32 := Scalar.addi v1 c511_i32
  let c512_i32 : BitVec 32 := 512#32
  let v623 : BitVec 32 := Scalar.divsi v622 c512_i32
  let c7_i32_215 : BitVec 32 := 7#32
  let v632 : BitVec 32 := Scalar.subi c7_i32_215 v623
  let c1_i32_216 : BitVec 32 := 1#32
  let v634 : BitVec 32 := Scalar.divsi v632 c1_i32_216
  let v635 : BitVec 32 := Scalar.muli v634 c1_i32_216
  let v636 : BitVec 32 := Scalar.addi v623 v635
  let v633 : BitVec 32 := Scalar.addi v623 v632
  let c1_i32_218 : BitVec 32 := 1#32
  ⟨v636, v633, c1_i32_218⟩
def k1_mult4 (v1 : BitVec 32) (k1_t4 : Fin (k1_t4_loop v1).trips) : BitVec 32 :=
  let c511_i32 : BitVec 32 := 511#32
  let v622 : BitVec 32 := Scalar.addi v1 c511_i32
  let c512_i32 : BitVec 32 := 512#32
  let v623 : BitVec 32 := Scalar.divsi v622 c512_i32
  let c7_i32_215 : BitVec 32 := 7#32
  let v632 : BitVec 32 := Scalar.subi c7_i32_215 v623
  let c1_i32_216 : BitVec 32 := 1#32
  let v634 : BitVec 32 := Scalar.divsi v632 c1_i32_216
  let v635 : BitVec 32 := Scalar.muli v634 c1_i32_216
  let v636 : BitVec 32 := Scalar.addi v623 v635
  let c1_i32_218 : BitVec 32 := 1#32
  let arg18 : BitVec 32 := Scf.iv v636 c1_i32_218 k1_t4
  let c512_i32_398 : BitVec 32 := 512#32
  let v1097 : BitVec 32 := Scalar.muli arg18 c512_i32_398
  v1097
def k1_off39 (v1 : BitVec 32) (k1_t4 : Fin (k1_t4_loop v1).trips) : Fin 4 → Nat :=
  let c0_400 : Index := 0#32
  let c0_401 : Index := 0#32
  let c0_402 : Index := 0#32
  let c511_i32 : BitVec 32 := 511#32
  let v622 : BitVec 32 := Scalar.addi v1 c511_i32
  let c512_i32 : BitVec 32 := 512#32
  let v623 : BitVec 32 := Scalar.divsi v622 c512_i32
  let c7_i32_215 : BitVec 32 := 7#32
  let v632 : BitVec 32 := Scalar.subi c7_i32_215 v623
  let c1_i32_216 : BitVec 32 := 1#32
  let v634 : BitVec 32 := Scalar.divsi v632 c1_i32_216
  let v635 : BitVec 32 := Scalar.muli v634 c1_i32_216
  let v636 : BitVec 32 := Scalar.addi v623 v635
  let c1_i32_218 : BitVec 32 := 1#32
  let arg18 : BitVec 32 := Scf.iv v636 c1_i32_218 k1_t4
  let c512_i32_398 : BitVec 32 := 512#32
  let v1097 : BitVec 32 := Scalar.muli arg18 c512_i32_398
  let v1098 : BitVec 32 := v1097
  let v1100 : Index := Scalar.indexCast v1098
  ![0, 0, 0, v1100.toNat]

def k1_chk1_0 (v1 : BitVec 32) : Prop :=
  ((k1_t1_loop v1).OK) ∧
  (∀ k1_t1 : Fin (k1_t1_loop v1).trips, 512 ∣ (k1_mult1 v1 k1_t1).toNat) ∧
  (∀ k1_t1 : Fin (k1_t1_loop v1).trips, ∀ a, (k1_off2 v1 k1_t1) a + S1x1x32x512.size a ≤ S1x8x32x3584.size a) ∧
  (∀ k1_t1 : Fin (k1_t1_loop v1).trips, ∀ a, (k1_off3 v1 k1_t1) a + S1x1x32x512.size a ≤ S1x8x32x3584.size a) ∧
  (∀ k1_t1 : Fin (k1_t1_loop v1).trips, ∀ a, (k1_off4 v1 k1_t1) a + S1x1x32x512.size a ≤ S1x8x32x3584.size a) ∧
  (∀ k1_t1 : Fin (k1_t1_loop v1).trips, ∀ a, (k1_off5 v1 k1_t1) a + S1x1x32x512.size a ≤ S1x8x32x3584.size a) ∧
  (∀ k1_t1 : Fin (k1_t1_loop v1).trips, ∀ a, (k1_off6 v1 k1_t1) a + S1x1x32x512.size a ≤ S1x8x32x3584.size a) ∧
  (∀ k1_t1 : Fin (k1_t1_loop v1).trips, ∀ a, (k1_off7 v1 k1_t1) a + S1x1x32x512.size a ≤ S1x8x32x3584.size a) ∧
  (∀ k1_t1 : Fin (k1_t1_loop v1).trips, ∀ a, (k1_off8 v1 k1_t1) a + S1x1x32x512.size a ≤ S1x8x32x3584.size a) ∧
  (∀ k1_t1 : Fin (k1_t1_loop v1).trips, ∀ a, (k1_off9 v1 k1_t1) a + S1x1x32x512.size a ≤ S1x8x32x3584.size a) ∧
  (∀ k1_t1 : Fin (k1_t1_loop v1).trips, ∀ a, (k1_off10 v1 k1_t1) a + S1x8x512.size a ≤ S1x8x3584.size a) ∧
  (∀ k1_t1 : Fin (k1_t1_loop v1).trips, ∀ a, (k1_off11 v1 k1_t1) a + S1x6x8x512.size a ≤ S1x6x40x3584.size a) ∧
  (∀ k1_t1 : Fin (k1_t1_loop v1).trips, ∀ a, (k1_off12 v1 k1_t1) a + S1x6x8x512.size a ≤ S1x6x40x3584.size a) ∧
  (∀ k1_t1 : Fin (k1_t1_loop v1).trips, ∀ a, (k1_off13 v1 k1_t1) a + S1x6x8x512.size a ≤ S1x6x40x3584.size a) ∧
  (∀ k1_t1 : Fin (k1_t1_loop v1).trips, ∀ a, (k1_off14 v1 k1_t1) a + S1x6x8x512.size a ≤ S1x6x40x3584.size a) ∧
  (∀ k1_t1 : Fin (k1_t1_loop v1).trips, ∀ a, (k1_off15 v1 k1_t1) a + S1x6x8x512.size a ≤ S1x6x40x3584.size a) ∧
  (∀ k1_t1 : Fin (k1_t1_loop v1).trips, ∀ a, (k1_off16 v1 k1_t1) a + S1x2x64x512.size a ≤ S1x8x64x3584.size a) ∧
  (∀ k1_t1 : Fin (k1_t1_loop v1).trips, ∀ a, (k1_off17 v1 k1_t1) a + S1x2x64x512.size a ≤ S1x8x64x3584.size a) ∧
  (∀ k1_t1 : Fin (k1_t1_loop v1).trips, ∀ a, (k1_off18 v1 k1_t1) a + S1x2x64x512.size a ≤ S1x8x64x3584.size a) ∧
  (∀ k1_t1 : Fin (k1_t1_loop v1).trips, ∀ a, (k1_off19 v1 k1_t1) a + S1x2x64x512.size a ≤ S1x8x64x3584.size a) ∧
  ((k1_t2_loop v1).OK) ∧
  (∀ k1_t2 : Fin (k1_t2_loop v1).trips, 512 ∣ (k1_mult2 v1 k1_t2).toNat) ∧
  (∀ k1_t2 : Fin (k1_t2_loop v1).trips, ∀ a, (k1_off20 v1 k1_t2) a + S1x1x32x512.size a ≤ S1x8x32x3584.size a) ∧
  (∀ k1_t2 : Fin (k1_t2_loop v1).trips, ∀ a, (k1_off21 v1 k1_t2) a + S1x1x32x512.size a ≤ S1x8x32x3584.size a) ∧
  (∀ k1_t2 : Fin (k1_t2_loop v1).trips, ∀ a, (k1_off22 v1 k1_t2) a + S1x1x32x512.size a ≤ S1x8x32x3584.size a) ∧
  (∀ k1_t2 : Fin (k1_t2_loop v1).trips, ∀ a, (k1_off23 v1 k1_t2) a + S1x1x32x512.size a ≤ S1x8x32x3584.size a) ∧
  (∀ k1_t2 : Fin (k1_t2_loop v1).trips, ∀ a, (k1_off24 v1 k1_t2) a + S1x1x32x512.size a ≤ S1x8x32x3584.size a) ∧
  (∀ k1_t2 : Fin (k1_t2_loop v1).trips, ∀ a, (k1_off25 v1 k1_t2) a + S1x1x32x512.size a ≤ S1x8x32x3584.size a) ∧
  (∀ k1_t2 : Fin (k1_t2_loop v1).trips, ∀ a, (k1_off26 v1 k1_t2) a + S1x1x32x512.size a ≤ S1x8x32x3584.size a) ∧
  (∀ k1_t2 : Fin (k1_t2_loop v1).trips, ∀ a, (k1_off27 v1 k1_t2) a + S1x1x32x512.size a ≤ S1x8x32x3584.size a) ∧
  (∀ k1_t2 : Fin (k1_t2_loop v1).trips, ∀ a, (k1_off28 v1 k1_t2) a + S1x8x512.size a ≤ S1x8x3584.size a) ∧
  (∀ k1_t2 : Fin (k1_t2_loop v1).trips, ∀ a, (k1_off29 v1 k1_t2) a + S1x6x8x512.size a ≤ S1x6x40x3584.size a)
def k1_chk1_1 (v1 : BitVec 32) : Prop :=
  (∀ k1_t2 : Fin (k1_t2_loop v1).trips, ∀ a, (k1_off30 v1 k1_t2) a + S1x6x8x512.size a ≤ S1x6x40x3584.size a) ∧
  (∀ k1_t2 : Fin (k1_t2_loop v1).trips, ∀ a, (k1_off31 v1 k1_t2) a + S1x6x8x512.size a ≤ S1x6x40x3584.size a) ∧
  (∀ k1_t2 : Fin (k1_t2_loop v1).trips, ∀ a, (k1_off32 v1 k1_t2) a + S1x6x8x512.size a ≤ S1x6x40x3584.size a) ∧
  (∀ k1_t2 : Fin (k1_t2_loop v1).trips, ∀ a, (k1_off33 v1 k1_t2) a + S1x6x8x512.size a ≤ S1x6x40x3584.size a) ∧
  (∀ k1_t2 : Fin (k1_t2_loop v1).trips, ∀ a, (k1_off34 v1 k1_t2) a + S1x2x64x512.size a ≤ S1x8x64x3584.size a) ∧
  (∀ k1_t2 : Fin (k1_t2_loop v1).trips, ∀ a, (k1_off35 v1 k1_t2) a + S1x2x64x512.size a ≤ S1x8x64x3584.size a) ∧
  (∀ k1_t2 : Fin (k1_t2_loop v1).trips, ∀ a, (k1_off36 v1 k1_t2) a + S1x2x64x512.size a ≤ S1x8x64x3584.size a) ∧
  (∀ k1_t2 : Fin (k1_t2_loop v1).trips, ∀ a, (k1_off37 v1 k1_t2) a + S1x2x64x512.size a ≤ S1x8x64x3584.size a) ∧
  ((k1_t3_loop v1).OK) ∧
  (∀ k1_t3 : Fin (k1_t3_loop v1).trips, 512 ∣ (k1_mult3 v1 k1_t3).toNat) ∧
  (∀ k1_t3 : Fin (k1_t3_loop v1).trips, ∀ a, (k1_off38 v1 k1_t3) a + S1x6x40x512.size a ≤ S1x6x40x3584.size a) ∧
  ((k1_t4_loop v1).OK) ∧
  (∀ k1_t4 : Fin (k1_t4_loop v1).trips, 512 ∣ (k1_mult4 v1 k1_t4).toNat) ∧
  (∀ k1_t4 : Fin (k1_t4_loop v1).trips, ∀ a, (k1_off39 v1 k1_t4) a + S1x6x40x512.size a ≤ S1x6x40x3584.size a)
def k1_chk1 (v1 : BitVec 32) : Prop :=
  k1_chk1_0 v1 ∧
  k1_chk1_1 v1
theorem k1_t1_ok : ∀ (v1 : BitVec 32) (k1_hw1 : k1_chk1 v1), (k1_t1_loop v1).OK := fun v1 k1_hw1 => k1_hw1.1.1
theorem k1_mult1_dvd : ∀ (v1 : BitVec 32) (k1_hw1 : k1_chk1 v1) (k1_t1 : Fin (k1_t1_loop v1).trips), 512 ∣ (k1_mult1 v1 k1_t1).toNat := fun v1 k1_hw1 k1_t1 => k1_hw1.1.2.1 k1_t1
theorem k1_off2_inb : ∀ (v1 : BitVec 32) (k1_hw1 : k1_chk1 v1) (k1_t1 : Fin (k1_t1_loop v1).trips), ∀ a, (k1_off2 v1 k1_t1) a + S1x1x32x512.size a ≤ S1x8x32x3584.size a := fun v1 k1_hw1 k1_t1 => k1_hw1.1.2.2.1 k1_t1
theorem k1_off3_inb : ∀ (v1 : BitVec 32) (k1_hw1 : k1_chk1 v1) (k1_t1 : Fin (k1_t1_loop v1).trips), ∀ a, (k1_off3 v1 k1_t1) a + S1x1x32x512.size a ≤ S1x8x32x3584.size a := fun v1 k1_hw1 k1_t1 => k1_hw1.1.2.2.2.1 k1_t1
theorem k1_off4_inb : ∀ (v1 : BitVec 32) (k1_hw1 : k1_chk1 v1) (k1_t1 : Fin (k1_t1_loop v1).trips), ∀ a, (k1_off4 v1 k1_t1) a + S1x1x32x512.size a ≤ S1x8x32x3584.size a := fun v1 k1_hw1 k1_t1 => k1_hw1.1.2.2.2.2.1 k1_t1
theorem k1_off5_inb : ∀ (v1 : BitVec 32) (k1_hw1 : k1_chk1 v1) (k1_t1 : Fin (k1_t1_loop v1).trips), ∀ a, (k1_off5 v1 k1_t1) a + S1x1x32x512.size a ≤ S1x8x32x3584.size a := fun v1 k1_hw1 k1_t1 => k1_hw1.1.2.2.2.2.2.1 k1_t1
theorem k1_off6_inb : ∀ (v1 : BitVec 32) (k1_hw1 : k1_chk1 v1) (k1_t1 : Fin (k1_t1_loop v1).trips), ∀ a, (k1_off6 v1 k1_t1) a + S1x1x32x512.size a ≤ S1x8x32x3584.size a := fun v1 k1_hw1 k1_t1 => k1_hw1.1.2.2.2.2.2.2.1 k1_t1
theorem k1_off7_inb : ∀ (v1 : BitVec 32) (k1_hw1 : k1_chk1 v1) (k1_t1 : Fin (k1_t1_loop v1).trips), ∀ a, (k1_off7 v1 k1_t1) a + S1x1x32x512.size a ≤ S1x8x32x3584.size a := fun v1 k1_hw1 k1_t1 => k1_hw1.1.2.2.2.2.2.2.2.1 k1_t1
theorem k1_off8_inb : ∀ (v1 : BitVec 32) (k1_hw1 : k1_chk1 v1) (k1_t1 : Fin (k1_t1_loop v1).trips), ∀ a, (k1_off8 v1 k1_t1) a + S1x1x32x512.size a ≤ S1x8x32x3584.size a := fun v1 k1_hw1 k1_t1 => k1_hw1.1.2.2.2.2.2.2.2.2.1 k1_t1
theorem k1_off9_inb : ∀ (v1 : BitVec 32) (k1_hw1 : k1_chk1 v1) (k1_t1 : Fin (k1_t1_loop v1).trips), ∀ a, (k1_off9 v1 k1_t1) a + S1x1x32x512.size a ≤ S1x8x32x3584.size a := fun v1 k1_hw1 k1_t1 => k1_hw1.1.2.2.2.2.2.2.2.2.2.1 k1_t1
theorem k1_off10_inb : ∀ (v1 : BitVec 32) (k1_hw1 : k1_chk1 v1) (k1_t1 : Fin (k1_t1_loop v1).trips), ∀ a, (k1_off10 v1 k1_t1) a + S1x8x512.size a ≤ S1x8x3584.size a := fun v1 k1_hw1 k1_t1 => k1_hw1.1.2.2.2.2.2.2.2.2.2.2.1 k1_t1
theorem k1_off11_inb : ∀ (v1 : BitVec 32) (k1_hw1 : k1_chk1 v1) (k1_t1 : Fin (k1_t1_loop v1).trips), ∀ a, (k1_off11 v1 k1_t1) a + S1x6x8x512.size a ≤ S1x6x40x3584.size a := fun v1 k1_hw1 k1_t1 => k1_hw1.1.2.2.2.2.2.2.2.2.2.2.2.1 k1_t1
theorem k1_off12_inb : ∀ (v1 : BitVec 32) (k1_hw1 : k1_chk1 v1) (k1_t1 : Fin (k1_t1_loop v1).trips), ∀ a, (k1_off12 v1 k1_t1) a + S1x6x8x512.size a ≤ S1x6x40x3584.size a := fun v1 k1_hw1 k1_t1 => k1_hw1.1.2.2.2.2.2.2.2.2.2.2.2.2.1 k1_t1
theorem k1_off13_inb : ∀ (v1 : BitVec 32) (k1_hw1 : k1_chk1 v1) (k1_t1 : Fin (k1_t1_loop v1).trips), ∀ a, (k1_off13 v1 k1_t1) a + S1x6x8x512.size a ≤ S1x6x40x3584.size a := fun v1 k1_hw1 k1_t1 => k1_hw1.1.2.2.2.2.2.2.2.2.2.2.2.2.2.1 k1_t1
theorem k1_off14_inb : ∀ (v1 : BitVec 32) (k1_hw1 : k1_chk1 v1) (k1_t1 : Fin (k1_t1_loop v1).trips), ∀ a, (k1_off14 v1 k1_t1) a + S1x6x8x512.size a ≤ S1x6x40x3584.size a := fun v1 k1_hw1 k1_t1 => k1_hw1.1.2.2.2.2.2.2.2.2.2.2.2.2.2.2.1 k1_t1
theorem k1_off15_inb : ∀ (v1 : BitVec 32) (k1_hw1 : k1_chk1 v1) (k1_t1 : Fin (k1_t1_loop v1).trips), ∀ a, (k1_off15 v1 k1_t1) a + S1x6x8x512.size a ≤ S1x6x40x3584.size a := fun v1 k1_hw1 k1_t1 => k1_hw1.1.2.2.2.2.2.2.2.2.2.2.2.2.2.2.2.1 k1_t1
theorem k1_off16_inb : ∀ (v1 : BitVec 32) (k1_hw1 : k1_chk1 v1) (k1_t1 : Fin (k1_t1_loop v1).trips), ∀ a, (k1_off16 v1 k1_t1) a + S1x2x64x512.size a ≤ S1x8x64x3584.size a := fun v1 k1_hw1 k1_t1 => k1_hw1.1.2.2.2.2.2.2.2.2.2.2.2.2.2.2.2.2.1 k1_t1
theorem k1_off17_inb : ∀ (v1 : BitVec 32) (k1_hw1 : k1_chk1 v1) (k1_t1 : Fin (k1_t1_loop v1).trips), ∀ a, (k1_off17 v1 k1_t1) a + S1x2x64x512.size a ≤ S1x8x64x3584.size a := fun v1 k1_hw1 k1_t1 => k1_hw1.1.2.2.2.2.2.2.2.2.2.2.2.2.2.2.2.2.2.1 k1_t1
theorem k1_off18_inb : ∀ (v1 : BitVec 32) (k1_hw1 : k1_chk1 v1) (k1_t1 : Fin (k1_t1_loop v1).trips), ∀ a, (k1_off18 v1 k1_t1) a + S1x2x64x512.size a ≤ S1x8x64x3584.size a := fun v1 k1_hw1 k1_t1 => k1_hw1.1.2.2.2.2.2.2.2.2.2.2.2.2.2.2.2.2.2.2.1 k1_t1
theorem k1_off19_inb : ∀ (v1 : BitVec 32) (k1_hw1 : k1_chk1 v1) (k1_t1 : Fin (k1_t1_loop v1).trips), ∀ a, (k1_off19 v1 k1_t1) a + S1x2x64x512.size a ≤ S1x8x64x3584.size a := fun v1 k1_hw1 k1_t1 => k1_hw1.1.2.2.2.2.2.2.2.2.2.2.2.2.2.2.2.2.2.2.2.1 k1_t1
theorem k1_t2_ok : ∀ (v1 : BitVec 32) (k1_hw1 : k1_chk1 v1), (k1_t2_loop v1).OK := fun v1 k1_hw1 => k1_hw1.1.2.2.2.2.2.2.2.2.2.2.2.2.2.2.2.2.2.2.2.2.1
theorem k1_mult2_dvd : ∀ (v1 : BitVec 32) (k1_hw1 : k1_chk1 v1) (k1_t2 : Fin (k1_t2_loop v1).trips), 512 ∣ (k1_mult2 v1 k1_t2).toNat := fun v1 k1_hw1 k1_t2 => k1_hw1.1.2.2.2.2.2.2.2.2.2.2.2.2.2.2.2.2.2.2.2.2.2.1 k1_t2
theorem k1_off20_inb : ∀ (v1 : BitVec 32) (k1_hw1 : k1_chk1 v1) (k1_t2 : Fin (k1_t2_loop v1).trips), ∀ a, (k1_off20 v1 k1_t2) a + S1x1x32x512.size a ≤ S1x8x32x3584.size a := fun v1 k1_hw1 k1_t2 => k1_hw1.1.2.2.2.2.2.2.2.2.2.2.2.2.2.2.2.2.2.2.2.2.2.2.1 k1_t2
theorem k1_off21_inb : ∀ (v1 : BitVec 32) (k1_hw1 : k1_chk1 v1) (k1_t2 : Fin (k1_t2_loop v1).trips), ∀ a, (k1_off21 v1 k1_t2) a + S1x1x32x512.size a ≤ S1x8x32x3584.size a := fun v1 k1_hw1 k1_t2 => k1_hw1.1.2.2.2.2.2.2.2.2.2.2.2.2.2.2.2.2.2.2.2.2.2.2.2.1 k1_t2
theorem k1_off22_inb : ∀ (v1 : BitVec 32) (k1_hw1 : k1_chk1 v1) (k1_t2 : Fin (k1_t2_loop v1).trips), ∀ a, (k1_off22 v1 k1_t2) a + S1x1x32x512.size a ≤ S1x8x32x3584.size a := fun v1 k1_hw1 k1_t2 => k1_hw1.1.2.2.2.2.2.2.2.2.2.2.2.2.2.2.2.2.2.2.2.2.2.2.2.2.1 k1_t2
theorem k1_off23_inb : ∀ (v1 : BitVec 32) (k1_hw1 : k1_chk1 v1) (k1_t2 : Fin (k1_t2_loop v1).trips), ∀ a, (k1_off23 v1 k1_t2) a + S1x1x32x512.size a ≤ S1x8x32x3584.size a := fun v1 k1_hw1 k1_t2 => k1_hw1.1.2.2.2.2.2.2.2.2.2.2.2.2.2.2.2.2.2.2.2.2.2.2.2.2.2.1 k1_t2
theorem k1_off24_inb : ∀ (v1 : BitVec 32) (k1_hw1 : k1_chk1 v1) (k1_t2 : Fin (k1_t2_loop v1).trips), ∀ a, (k1_off24 v1 k1_t2) a + S1x1x32x512.size a ≤ S1x8x32x3584.size a := fun v1 k1_hw1 k1_t2 => k1_hw1.1.2.2.2.2.2.2.2.2.2.2.2.2.2.2.2.2.2.2.2.2.2.2.2.2.2.2.1 k1_t2
theorem k1_off25_inb : ∀ (v1 : BitVec 32) (k1_hw1 : k1_chk1 v1) (k1_t2 : Fin (k1_t2_loop v1).trips), ∀ a, (k1_off25 v1 k1_t2) a + S1x1x32x512.size a ≤ S1x8x32x3584.size a := fun v1 k1_hw1 k1_t2 => k1_hw1.1.2.2.2.2.2.2.2.2.2.2.2.2.2.2.2.2.2.2.2.2.2.2.2.2.2.2.2.1 k1_t2
theorem k1_off26_inb : ∀ (v1 : BitVec 32) (k1_hw1 : k1_chk1 v1) (k1_t2 : Fin (k1_t2_loop v1).trips), ∀ a, (k1_off26 v1 k1_t2) a + S1x1x32x512.size a ≤ S1x8x32x3584.size a := fun v1 k1_hw1 k1_t2 => k1_hw1.1.2.2.2.2.2.2.2.2.2.2.2.2.2.2.2.2.2.2.2.2.2.2.2.2.2.2.2.2.1 k1_t2
theorem k1_off27_inb : ∀ (v1 : BitVec 32) (k1_hw1 : k1_chk1 v1) (k1_t2 : Fin (k1_t2_loop v1).trips), ∀ a, (k1_off27 v1 k1_t2) a + S1x1x32x512.size a ≤ S1x8x32x3584.size a := fun v1 k1_hw1 k1_t2 => k1_hw1.1.2.2.2.2.2.2.2.2.2.2.2.2.2.2.2.2.2.2.2.2.2.2.2.2.2.2.2.2.2.1 k1_t2
theorem k1_off28_inb : ∀ (v1 : BitVec 32) (k1_hw1 : k1_chk1 v1) (k1_t2 : Fin (k1_t2_loop v1).trips), ∀ a, (k1_off28 v1 k1_t2) a + S1x8x512.size a ≤ S1x8x3584.size a := fun v1 k1_hw1 k1_t2 => k1_hw1.1.2.2.2.2.2.2.2.2.2.2.2.2.2.2.2.2.2.2.2.2.2.2.2.2.2.2.2.2.2.2.1 k1_t2
theorem k1_off29_inb : ∀ (v1 : BitVec 32) (k1_hw1 : k1_chk1 v1) (k1_t2 : Fin (k1_t2_loop v1).trips), ∀ a, (k1_off29 v1 k1_t2) a + S1x6x8x512.size a ≤ S1x6x40x3584.size a := fun v1 k1_hw1 k1_t2 => k1_hw1.1.2.2.2.2.2.2.2.2.2.2.2.2.2.2.2.2.2.2.2.2.2.2.2.2.2.2.2.2.2.2.2 k1_t2
theorem k1_off30_inb : ∀ (v1 : BitVec 32) (k1_hw1 : k1_chk1 v1) (k1_t2 : Fin (k1_t2_loop v1).trips), ∀ a, (k1_off30 v1 k1_t2) a + S1x6x8x512.size a ≤ S1x6x40x3584.size a := fun v1 k1_hw1 k1_t2 => k1_hw1.2.1 k1_t2
theorem k1_off31_inb : ∀ (v1 : BitVec 32) (k1_hw1 : k1_chk1 v1) (k1_t2 : Fin (k1_t2_loop v1).trips), ∀ a, (k1_off31 v1 k1_t2) a + S1x6x8x512.size a ≤ S1x6x40x3584.size a := fun v1 k1_hw1 k1_t2 => k1_hw1.2.2.1 k1_t2
theorem k1_off32_inb : ∀ (v1 : BitVec 32) (k1_hw1 : k1_chk1 v1) (k1_t2 : Fin (k1_t2_loop v1).trips), ∀ a, (k1_off32 v1 k1_t2) a + S1x6x8x512.size a ≤ S1x6x40x3584.size a := fun v1 k1_hw1 k1_t2 => k1_hw1.2.2.2.1 k1_t2
theorem k1_off33_inb : ∀ (v1 : BitVec 32) (k1_hw1 : k1_chk1 v1) (k1_t2 : Fin (k1_t2_loop v1).trips), ∀ a, (k1_off33 v1 k1_t2) a + S1x6x8x512.size a ≤ S1x6x40x3584.size a := fun v1 k1_hw1 k1_t2 => k1_hw1.2.2.2.2.1 k1_t2
theorem k1_off34_inb : ∀ (v1 : BitVec 32) (k1_hw1 : k1_chk1 v1) (k1_t2 : Fin (k1_t2_loop v1).trips), ∀ a, (k1_off34 v1 k1_t2) a + S1x2x64x512.size a ≤ S1x8x64x3584.size a := fun v1 k1_hw1 k1_t2 => k1_hw1.2.2.2.2.2.1 k1_t2
theorem k1_off35_inb : ∀ (v1 : BitVec 32) (k1_hw1 : k1_chk1 v1) (k1_t2 : Fin (k1_t2_loop v1).trips), ∀ a, (k1_off35 v1 k1_t2) a + S1x2x64x512.size a ≤ S1x8x64x3584.size a := fun v1 k1_hw1 k1_t2 => k1_hw1.2.2.2.2.2.2.1 k1_t2
theorem k1_off36_inb : ∀ (v1 : BitVec 32) (k1_hw1 : k1_chk1 v1) (k1_t2 : Fin (k1_t2_loop v1).trips), ∀ a, (k1_off36 v1 k1_t2) a + S1x2x64x512.size a ≤ S1x8x64x3584.size a := fun v1 k1_hw1 k1_t2 => k1_hw1.2.2.2.2.2.2.2.1 k1_t2
theorem k1_off37_inb : ∀ (v1 : BitVec 32) (k1_hw1 : k1_chk1 v1) (k1_t2 : Fin (k1_t2_loop v1).trips), ∀ a, (k1_off37 v1 k1_t2) a + S1x2x64x512.size a ≤ S1x8x64x3584.size a := fun v1 k1_hw1 k1_t2 => k1_hw1.2.2.2.2.2.2.2.2.1 k1_t2
theorem k1_t3_ok : ∀ (v1 : BitVec 32) (k1_hw1 : k1_chk1 v1), (k1_t3_loop v1).OK := fun v1 k1_hw1 => k1_hw1.2.2.2.2.2.2.2.2.2.1
theorem k1_mult3_dvd : ∀ (v1 : BitVec 32) (k1_hw1 : k1_chk1 v1) (k1_t3 : Fin (k1_t3_loop v1).trips), 512 ∣ (k1_mult3 v1 k1_t3).toNat := fun v1 k1_hw1 k1_t3 => k1_hw1.2.2.2.2.2.2.2.2.2.2.1 k1_t3
theorem k1_off38_inb : ∀ (v1 : BitVec 32) (k1_hw1 : k1_chk1 v1) (k1_t3 : Fin (k1_t3_loop v1).trips), ∀ a, (k1_off38 v1 k1_t3) a + S1x6x40x512.size a ≤ S1x6x40x3584.size a := fun v1 k1_hw1 k1_t3 => k1_hw1.2.2.2.2.2.2.2.2.2.2.2.1 k1_t3
theorem k1_t4_ok : ∀ (v1 : BitVec 32) (k1_hw1 : k1_chk1 v1), (k1_t4_loop v1).OK := fun v1 k1_hw1 => k1_hw1.2.2.2.2.2.2.2.2.2.2.2.2.1
theorem k1_mult4_dvd : ∀ (v1 : BitVec 32) (k1_hw1 : k1_chk1 v1) (k1_t4 : Fin (k1_t4_loop v1).trips), 512 ∣ (k1_mult4 v1 k1_t4).toNat := fun v1 k1_hw1 k1_t4 => k1_hw1.2.2.2.2.2.2.2.2.2.2.2.2.2.1 k1_t4
theorem k1_off39_inb : ∀ (v1 : BitVec 32) (k1_hw1 : k1_chk1 v1) (k1_t4 : Fin (k1_t4_loop v1).trips), ∀ a, (k1_off39 v1 k1_t4) a + S1x6x40x512.size a ≤ S1x6x40x3584.size a := fun v1 k1_hw1 k1_t4 => k1_hw1.2.2.2.2.2.2.2.2.2.2.2.2.2.2 k1_t4

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x240x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x48x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x48x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x48 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x32x3584 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x8x3584 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x8x64x3584 .i8 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x8x3584 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x240x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x6x40x3584 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== KernelIdeal.lean ====
variable {F : FTy → Type} [FloatOps F] [Named F]
def κ : String → Option EReal := fun
  | "neg" => some ⊥
  | _ => none
-- ==== ReferenceIdeal.lean ====
abbrev S48x6x5120 : Shape := ⟨3, ![48, 6, 5120]⟩
abbrev S48x6x8x128 : Shape := ⟨4, ![48, 6, 8, 128]⟩
abbrev S128x256 : Shape := ⟨2, ![128, 256]⟩
abbrev S48x3584x8x32 : Shape := ⟨4, ![48, 3584, 8, 32]⟩
abbrev S48x3584x8 : Shape := ⟨3, ![48, 3584, 8]⟩
abbrev S48x3584x8x64 : Shape := ⟨4, ![48, 3584, 8, 64]⟩
abbrev S48 : Shape := ⟨1, ![48]⟩
abbrev S48x6x40x128 : Shape := ⟨4, ![48, 6, 40, 128]⟩
abbrev S48x6x40x256 : Shape := ⟨4, ![48, 6, 40, 256]⟩
abbrev S48x6x8x5x256 : Shape := ⟨5, ![48, 6, 8, 5, 256]⟩
abbrev S48x8x3584x32 : Shape := ⟨4, ![48, 8, 3584, 32]⟩
abbrev S8 : Shape := ⟨1, ![8]⟩
abbrev S48x8x3584x32x1 : Shape := ⟨5, ![48, 8, 3584, 32, 1]⟩
abbrev S1x1x1x1x8 : Shape := ⟨5, ![1, 1, 1, 1, 8]⟩
abbrev S48x8x3584x32x8 : Shape := ⟨5, ![48, 8, 3584, 32, 8]⟩
abbrev S_ : Shape := ⟨0, ![]⟩
abbrev S48x8x3584x256 : Shape := ⟨4, ![48, 8, 3584, 256]⟩
abbrev S48x8x3584x6x5 : Shape := ⟨5, ![48, 8, 3584, 6, 5]⟩
abbrev S48x6x8x5x3584 : Shape := ⟨5, ![48, 6, 8, 5, 3584]⟩
abbrev S48x8x3584 : Shape := ⟨3, ![48, 8, 3584]⟩
abbrev S48x1x8x1x3584 : Shape := ⟨5, ![48, 1, 8, 1, 3584]⟩
abbrev S3584 : Shape := ⟨1, ![3584]⟩
abbrev S1x3584 : Shape := ⟨2, ![1, 3584]⟩
abbrev S48x1 : Shape := ⟨2, ![48, 1]⟩
abbrev S48x3584 : Shape := ⟨2, ![48, 3584]⟩
abbrev S48x1x1x1x3584 : Shape := ⟨5, ![48, 1, 1, 1, 3584]⟩
abbrev S48x6x40x3584 : Shape := ⟨4, ![48, 6, 40, 3584]⟩

abbrev nBuf : Space → Nat
  | .hbm => 55
  | .vmem => 0
  | .smem => 0
  | _ => 0

abbrev bufTy : (tb : Table) → Fin (tcTables nBuf tb) → BufTy
  | .hbm, ⟨0, _⟩ => ⟨S48x6x5120, .bf16⟩
  | .hbm, ⟨1, _⟩ => ⟨S48x6x8x128, .bf16⟩
  | .hbm, ⟨2, _⟩ => ⟨S48x6x8x128, .bf16⟩
  | .hbm, ⟨3, _⟩ => ⟨S128x256, .bf16⟩
  | .hbm, ⟨4, _⟩ => ⟨S48x3584x8x32, .i8⟩
  | .hbm, ⟨5, _⟩ => ⟨S48x3584x8, .bf16⟩
  | .hbm, ⟨6, _⟩ => ⟨S48x3584x8x64, .i8⟩
  | .hbm, ⟨7, _⟩ => ⟨S48x3584x8, .f32⟩
  | .hbm, ⟨8, _⟩ => ⟨S48, .i32⟩
  | .hbm, ⟨9, _⟩ => ⟨S48x6x40x128, .bf16⟩
  | .hbm, ⟨10, _⟩ => ⟨S48x6x40x256, .f32⟩
  | .hbm, ⟨11, _⟩ => ⟨S48x6x40x256, .bf16⟩
  | .hbm, ⟨12, _⟩ => ⟨S48x6x8x5x256, .bf16⟩
  | .hbm, ⟨13, _⟩ => ⟨S48x8x3584x32, .i8⟩
  | .hbm, ⟨14, _⟩ => ⟨S8, .i32⟩
  | .hbm, ⟨15, _⟩ => ⟨S48x8x3584x32x1, .i8⟩
  | .hbm, ⟨16, _⟩ => ⟨S48x8x3584x32x1, .i32⟩
  | .hbm, ⟨17, _⟩ => ⟨S1x1x1x1x8, .i32⟩
  | .hbm, ⟨18, _⟩ => ⟨S48x8x3584x32x8, .i32⟩
  | .hbm, ⟨19, _⟩ => ⟨S48x8x3584x32x8, .i32⟩
  | .hbm, ⟨20, _⟩ => ⟨S48x8x3584x32x8, .i32⟩
  | .hbm, ⟨21, _⟩ => ⟨S_, .i32⟩
  | .hbm, ⟨22, _⟩ => ⟨S48x8x3584x32x8, .i32⟩
  | .hbm, ⟨23, _⟩ => ⟨S48x8x3584x32x8, .i32⟩
  | .hbm, ⟨24, _⟩ => ⟨S48x8x3584x256, .i32⟩
  | .hbm, ⟨25, _⟩ => ⟨S48x8x3584x256, .bf16⟩
  | .hbm, ⟨26, _⟩ => ⟨S_, .bf16⟩
  | .hbm, ⟨27, _⟩ => ⟨S48x8x3584x256, .bf16⟩
  | .hbm, ⟨28, _⟩ => ⟨S48x8x3584x256, .bf16⟩
  | .hbm, ⟨29, _⟩ => ⟨S_, .bf16⟩
  | .hbm, ⟨30, _⟩ => ⟨S48x8x3584x256, .bf16⟩
  | .hbm, ⟨31, _⟩ => ⟨S48x8x3584x256, .bf16⟩
  | .hbm, ⟨32, _⟩ => ⟨S48x8x3584x6x5, .f32⟩
  | .hbm, ⟨33, _⟩ => ⟨S48x6x8x5x3584, .f32⟩
  | .hbm, ⟨34, _⟩ => ⟨S48x3584x8, .f32⟩
  | .hbm, ⟨35, _⟩ => ⟨S48x8x3584, .f32⟩
  | .hbm, ⟨36, _⟩ => ⟨S48x1x8x1x3584, .f32⟩
  | .hbm, ⟨37, _⟩ => ⟨S_, .f32⟩
  | .hbm, ⟨38, _⟩ => ⟨S48x1x8x1x3584, .f32⟩
  | .hbm, ⟨39, _⟩ => ⟨S48x1x8x1x3584, .f32⟩
  | .hbm, ⟨40, _⟩ => ⟨S48x6x8x5x3584, .f32⟩
  | .hbm, ⟨41, _⟩ => ⟨S48x6x8x5x3584, .f32⟩
  | .hbm, ⟨42, _⟩ => ⟨S3584, .i32⟩
  | .hbm, ⟨43, _⟩ => ⟨S1x3584, .i32⟩
  | .hbm, ⟨44, _⟩ => ⟨S48x1, .i32⟩
  | .hbm, ⟨45, _⟩ => ⟨S48x3584, .i32⟩
  | .hbm, ⟨46, _⟩ => ⟨S48x3584, .i32⟩
  | .hbm, ⟨47, _⟩ => ⟨S48x3584, .i1⟩
  | .hbm, ⟨48, _⟩ => ⟨S48x1x1x1x3584, .i1⟩
  | .hbm, ⟨49, _⟩ => ⟨S_, .f32⟩
  | .hbm, ⟨50, _⟩ => ⟨S_, .f32⟩
  | .hbm, ⟨51, _⟩ => ⟨S48x6x8x5x3584, .i1⟩
  | .hbm, ⟨52, _⟩ => ⟨S48x6x8x5x3584, .f32⟩
  | .hbm, ⟨53, _⟩ => ⟨S48x6x8x5x3584, .f32⟩
  | .hbm, ⟨54, _⟩ => ⟨S48x6x40x3584, .f32⟩
  | _, _ => ⟨S48x6x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proof.Reference.lean ====
/-
  The reference's run, as the generated module states it: its result and its arguments.
-/
module

public import proofs.«01_k».proof.Defs
public import proofs.«01_k».proof.Proof.Gen.ReferenceIdeal.Run
public import proofs.«01_k».proof.Proof.Gen.ReferenceIdeal.Read

@[expose] public section

noncomputable section

namespace Cert.Proof.Reference

end Cert.Proof.Reference

end
-- ==== Proof.KernelIdeal.Signs.lean ====
/-
  The sign planes: the bytes of a chunk's sketched keys taken apart into one number per coordinate, two where the bit is
  set and zero where it is not.
-/
module

public import proofs.«01_k».proof.Proof.Gen.KernelIdeal.Skeleton
public import Idealize.ShloMosaic.Lib.Pointwise
public import Idealize.ShloMosaic.Lib.BitcastFour
public import Idealize.ShloMosaic.Lib.BitcastPair
public import Idealize.ShloMosaic.Lib.MatmulPlain
public import Idealize.ShloMosaic.Lib.Pipeline.Value

@[expose] public section

noncomputable section

namespace Cert.Proof.KernelIdeal

open Cert.KernelIdeal Cert.KernelIdeal.Gen
open Idealize.ShloMosaic

theorem bitcasts_S32x512 : S32x512.Bitcasts 8 S8x512 32 := by decide
theorem bitcasts_S8x512 : S8x512.Bitcasts 32 S16x512 16 := by decide

/-- The two picked bits of every word, each read as a number of sixteen bits. -/
def plane (w : IVec S8x512 32) : FVec Ideal S16x512 .bf16 :=
  bitcastToFloat .bf16 (bitcast S16x512 16 (andi w (broadcast S8x512 1073758208#32)) bitcasts_S8x512)

theorem two_of_bits : (FloatOps.ofBits .bf16 0x4000#16 : Ideal .bf16) = (2 : EReal) := by
  show Ideal.ieee 8 7 (0x4000#16) = 2
  have h1 : (BitVec.extractLsb' 7 8 (16384#16)).toNat = 128 := by decide
  have h2 : (BitVec.extractLsb' 0 7 (16384#16)).toNat = 0 := by decide
  have h3 : (BitVec.extractLsb' (8 + 7) 1 (16384#16) == 1#1) = false := by decide
  simp only [Ideal.ieee, h1, h2, h3]
  norm_num
  norm_cast

theorem zero_of_bits : (FloatOps.ofBits .bf16 0x0000#16 : Ideal .bf16) = (0 : EReal) := Ideal.ofBits_zero _

/-- A half of a masked word is one of two words. -/
theorem half_masked (w : BitVec 32) (h : ℕ) (hh : h < 2) :
    (IntOp.andi w 1073758208#32).extractLsb' (16 * h) 16 = if w.getLsbD (14 + 16 * h) then 0x4000#16 else 0x0000#16 := by
  apply BitVec.eq_of_getLsbD_eq
  intro i hi
  simp only [IntOp.andi, BitVec.getLsbD_extractLsb', BitVec.getLsbD_and]
  have e : (1073758208#32).getLsbD (16 * h + i) = decide (i = 14) := by
    interval_cases h <;> interval_cases i <;> rfl
  rw [e]
  by_cases h14 : i = 14
  · subst h14
    rw [show 16 * h + 14 = 14 + 16 * h by omega]
    cases w.getLsbD (14 + 16 * h) <;> simp
  · cases w.getLsbD (14 + 16 * h)
    · simp [h14]
    · simp only [h14, decide_false, Bool.and_false, if_true]
      interval_cases i <;> first | rfl | exact absurd rfl h14

theorem plane_apply (w : IVec S8x512 32) (r : Fin 16) (p : Fin 512) :
    plane w (ix2 r p) = if (w (ix2 (⟨r.val / 2, by omega⟩ : Fin 8) p)).getLsbD (14 + 16 * (r.val % 2)) then (2 : EReal) else 0 := by
  show (FloatOps.ofBits .bf16 (bitcast S16x512 16 (andi w (broadcast S8x512 1073758208#32)) bitcasts_S8x512 (ix2 r p)) : Ideal .bf16) = _
  rw [bitcast_32_16]
  have hi : bitcasts_S8x512.srcIdx (ix2 r p) (S16x512.row (ix2 r p) / 2) (fun a ha => by
        have := bitcasts_S8x512.pos_lt (ix2 r p) 0 (by decide) a ha; omega) = ix2 (⟨r.val / 2, by omega⟩ : Fin 8) p := by
    funext c
    match c with
    | ⟨0, _⟩ => exact Fin.ext ((bitcasts_S8x512.srcIdx_row _ _ _ ⟨0, Nat.zero_lt_two⟩ rfl))
    | ⟨1, _⟩ => exact Fin.ext ((bitcasts_S8x512.srcIdx_other _ _ _ ⟨1, Nat.one_lt_two⟩ (by decide)))
  rw [hi]
  have hr : S16x512.row (ix2 r p) = r.val := rfl
  rw [hr]
  show (FloatOps.ofBits .bf16 ((IntOp.andi (w (ix2 (⟨r.val / 2, by omega⟩ : Fin 8) p)) 1073758208#32).extractLsb' (16 * (r.val % 2)) 16) : Ideal .bf16) = _
  rw [half_masked _ _ (by omega)]
  split
  · exact two_of_bits
  · exact zero_of_bits

/-- The words shifted so that bit `t` of each half comes to be the half's bit fourteen. -/
def shifted (w : IVec S8x512 32) (t : ℕ) : IVec S8x512 32 :=
  if t = 15 then shrui w (broadcast S8x512 1#32) else shli w (broadcast S8x512 (BitVec.ofNat 32 (14 - t)))

theorem shifted_bit (w : IVec S8x512 32) (t : ℕ) (ht : t < 16) (i : S8x512.Idx) (h : ℕ) (hh : h < 2) :
    (shifted w t i).getLsbD (14 + 16 * h) = (w i).getLsbD (t + 16 * h) := by
  unfold shifted
  by_cases h15 : t = 15
  · subst h15
    rw [if_pos rfl]
    show (IntOp.shrui .vector (w i) 1#32).getLsbD _ = _
    interval_cases h <;> simp [IntOp.shrui]
  · rw [if_neg h15]
    show (IntOp.shli .vector (w i) (BitVec.ofNat 32 (14 - t))).getLsbD _ = _
    interval_cases h <;> interval_cases t <;> first | (exact absurd rfl h15) | simp [IntOp.shli]

theorem sixteen_concatenate : Shape.Concatenates (List.replicate 16 S16x512) S256x512 0 := by decide

/-- The 256 sign planes of a chunk of one key head, from its bytes. -/
def signs (X : S32x512.Idx → BitVec 8) : FVec Ideal S256x512 .bf16 :=
  concatenate S256x512 0 [
    ⟨S16x512, plane (shifted (bitcast S8x512 32 X bitcasts_S32x512) 0)⟩, ⟨S16x512, plane (shifted (bitcast S8x512 32 X bitcasts_S32x512) 1)⟩,
    ⟨S16x512, plane (shifted (bitcast S8x512 32 X bitcasts_S32x512) 2)⟩, ⟨S16x512, plane (shifted (bitcast S8x512 32 X bitcasts_S32x512) 3)⟩,
    ⟨S16x512, plane (shifted (bitcast S8x512 32 X bitcasts_S32x512) 4)⟩, ⟨S16x512, plane (shifted (bitcast S8x512 32 X bitcasts_S32x512) 5)⟩,
    ⟨S16x512, plane (shifted (bitcast S8x512 32 X bitcasts_S32x512) 6)⟩, ⟨S16x512, plane (shifted (bitcast S8x512 32 X bitcasts_S32x512) 7)⟩,
    ⟨S16x512, plane (shifted (bitcast S8x512 32 X bitcasts_S32x512) 8)⟩, ⟨S16x512, plane (shifted (bitcast S8x512 32 X bitcasts_S32x512) 9)⟩,
    ⟨S16x512, plane (shifted (bitcast S8x512 32 X bitcasts_S32x512) 10)⟩, ⟨S16x512, plane (shifted (bitcast S8x512 32 X bitcasts_S32x512) 11)⟩,
    ⟨S16x512, plane (shifted (bitcast S8x512 32 X bitcasts_S32x512) 12)⟩, ⟨S16x512, plane (shifted (bitcast S8x512 32 X bitcasts_S32x512) 13)⟩,
    ⟨S16x512, plane (shifted (bitcast S8x512 32 X bitcasts_S32x512) 14)⟩, ⟨S16x512, plane (shifted (bitcast S8x512 32 X bitcasts_S32x512) 15)⟩]
    sixteen_concatenate

theorem signs_piece (X : S32x512.Idx → BitVec 8) (k : Fin 256) (p : Fin 512) :
    signs X (ix2 k p) = plane (shifted (bitcast S8x512 32 X bitcasts_S32x512) (k.val / 16)) (ix2 (⟨k.val % 16, by omega⟩ : Fin 16) p) :=
  concatenate_ofFn_apply (t := S256x512) (s₁ := S16x512) (0 : Fin 2) (fun n : Fin 16 => plane (shifted (bitcast S8x512 32 X bitcasts_S32x512) n.val))
    sixteen_concatenate rfl 16 rfl (ix2 k p) ⟨k.val / 16, by omega⟩ rfl (ix2 (⟨k.val % 16, by omega⟩ : Fin 16) p) rfl
    (fun b hb => match b with
      | ⟨0, _⟩ => absurd rfl hb
      | ⟨1, _⟩ => rfl)

/-- The byte, among the thirty-two of a key, that holds the coordinate in column `k`. -/
def byteOf (k : Fin 256) : Fin 32 := ⟨4 * ((k.val % 16) / 2) + 2 * (k.val % 16 % 2) + (k.val / 16) / 8, by omega⟩

/-- The bit of that byte. -/
def bitOf (k : Fin 256) : ℕ := (k.val / 16) % 8

theorem signs_apply (X : S32x512.Idx → BitVec 8) (k : Fin 256) (p : Fin 512) :
    signs X (ix2 k p) = if (X (ix2 (byteOf k) p)).getLsbD (bitOf k) then (2 : EReal) else 0 := by
  rw [signs_piece, plane_apply, shifted_bit _ _ (by omega) _ _ (by omega), ix2_eq_valueIdx]
  rw [bitcast_8_32_getLsbD_ix2 X bitcasts_S32x512 _ _ _ (by omega) (byteOf k) (by simp only [byteOf]; omega), ← ix2_eq_valueIdx]
  have : (k.val / 16 + 16 * (k.val % 16 % 2)) % 8 = bitOf k := by simp only [bitOf]; omega
  rw [this]

end Cert.Proof.KernelIdeal

end
-- ==== Proof.RefValue.lean ====
/-
  The reference's scores at an index.
-/
module

public import proofs.«01_k».proof.Proof.Reference
public import Idealize.ShloMosaic.Lib.Pointwise
public import proofs.«01_k».proof.Proof.KernelIdeal.Signs
public import Idealize.ShloMosaic.Lib.WordCmp

@[expose] public section

set_option maxRecDepth 65536

noncomputable section

namespace Cert.Proof.Reference

open Cert.ReferenceIdeal Cert.ReferenceIdeal.Gen
open Idealize.ShloMosaic
open Cert.ReferenceIdeal.Read

theorem bit_word_nat : ∀ (w : Fin 256) (n : Fin 8),
    IntOp.andi (IntOp.shrsi ArithUnit.host ((BitVec.ofNat 8 w.val).setWidth 32) (BitVec.ofNat 32 n.val)) 1#32
      = if (BitVec.ofNat 8 w.val).getLsbD n.val then 1#32 else 0#32 := by decide +kernel

/-- A bit of a byte, shifted down and masked. -/
theorem bit_word (w : BitVec 8) (n : ℕ) (hn : n < 8) :
    IntOp.andi (IntOp.shrsi ArithUnit.host (w.setWidth 32) (BitVec.ofNat 32 n)) 1#32 = if w.getLsbD n then 1#32 else 0#32 := by
  have h := bit_word_nat w.toFin ⟨n, hn⟩
  have e : BitVec.ofNat 8 w.toFin.val = w := by rw [BitVec.val_toFin, BitVec.ofNat_toNat, BitVec.setWidth_eq]
  rw [e] at h
  exact h

theorem two_bits : Ideal.ofBits .bf16 16384#16 = 2 := KernelIdeal.two_of_bits

/-- The sign of sketch coordinate `k`. -/
theorem ref_sign (x4 : S48x3584x8x32.Idx → BitVec 8) (b : Fin 48) (h : Fin 8) (p : Fin 3584) (k : Fin 256) :
    val_main_v19 (F := Ideal) x4 (ix4 b h p k) = if (x4 (ix4 b p h (⟨k.val / 8, by omega⟩ : Fin 32))).getLsbD (k.val % 8) then (2 : EReal) - 1 else 0 - 1 := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_c, val_main_cst, val_main_cst_0]
  rw [bit_word _ _ (Nat.mod_lt _ (by decide)), two_bits]
  split
  · show ((((1#32 : BitVec 32).toInt : ℝ) : EReal)) * 2 - 1 = _
    rw [show (1#32 : BitVec 32).toInt = 1 by decide]
    simp
  · show ((((0#32 : BitVec 32).toInt : ℝ) : EReal)) * 2 - 1 = _
    rw [show (0#32 : BitVec 32).toInt = 0 by decide]
    simp

theorem ref_query (x0 : S48x6x5120.Idx → EReal) (x3 : S128x256.Idx → EReal) (b : Fin 48) (t : Fin 6) (h : Fin 8) (g : Fin 5) (k : Fin 256) :
    val_main_v3 (F := Ideal) x0 x3 (ix5 b t h g k) = ∑ d : Fin 128, x0 (ix3 b t (⟨(h.val * 5 + g.val) * 128 + d.val, by omega⟩ : Fin 5120)) * x3 (ix2 d k) := by
  pointwise [val_main_v3, val_main_v2, val_main_v1, val_main_v0]

theorem sge_eq (a b : BitVec 32) (ha : a.toNat < 2147483648) (hb : b.toNat < 2147483648) : IntOp.cmpi .sge a b = if a.toNat < b.toNat then 0#1 else 1#1 := by
  rw [WordCmp.cmpi_sge_of_lt ha hb]
  by_cases h : a.toNat < b.toNat
  · rw [if_pos h, decide_eq_false (by omega)]; rfl
  · rw [if_neg h, decide_eq_true (by omega)]; rfl

/-- The reference's scores. -/
def refScore (x0 : S48x6x5120.Idx → EReal) (x3 : S128x256.Idx → EReal) (x4 : S48x3584x8x32.Idx → BitVec 8) (x5 : S48x3584x8.Idx → EReal) (x8 : S48.Idx → BitVec 32)
    (b : Fin 48) (t : Fin 6) (h : Fin 40) (p : Fin 3584) : EReal :=
  if p.val < (x8 (ix1 b)).toNat then
    (∑ k : Fin 256, (if (x4 (ix4 b p (⟨h.val / 5, by omega⟩ : Fin 8) (⟨k.val / 8, by omega⟩ : Fin 32))).getLsbD (k.val % 8) then (2 : EReal) - 1 else 0 - 1)
      * ∑ d : Fin 128, x0 (ix3 b t (⟨h.val * 128 + d.val, by omega⟩ : Fin 5120)) * x3 (ix2 d k))
      * (x5 (ix3 b p (⟨h.val / 5, by omega⟩ : Fin 8)) * Ideal.ofBits .f32 971169733#32)
  else 0

theorem ref_apply (x0 : S48x6x5120.Idx → EReal) (x3 : S128x256.Idx → EReal) (x4 : S48x3584x8x32.Idx → BitVec 8) (x5 : S48x3584x8.Idx → EReal) (x8 : S48.Idx → BitVec 32)
    (b : Fin 48) (t : Fin 6) (h : Fin 40) (p : Fin 3584) (hlen : (x8 (ix1 b)).toNat ≤ 3584) :
    val_main_v37 (F := Ideal) x0 x3 x4 x5 x8 (ix4 b t h p) = refScore x0 x3 x4 x5 x8 b t h p := by
  have hp := p.isLt
  have e20 : ∀ (h' : Fin 8) (g : Fin 5), val_main_v20 (F := Ideal) x0 x3 x4 (ix5 b h' p t g)
      = ∑ k : Fin 256, (if (x4 (ix4 b p h' (⟨k.val / 8, by omega⟩ : Fin 32))).getLsbD (k.val % 8) then (2 : EReal) - 1 else 0 - 1)
        * ∑ d : Fin 128, x0 (ix3 b t (⟨(h'.val * 5 + g.val) * 128 + d.val, by omega⟩ : Fin 5120)) * x3 (ix2 d k) := by
    intro h' g
    pointwise [val_main_v20]
    exact Finset.sum_congr rfl fun k _ => by rw [ref_sign, ref_query]
  pointwise [val_main_v37, val_main_v36, val_main_call0_v0, val_main_call0_v1, val_main_call0_v2, val_main_v35, val_main_v34, val_main_v33, val_main_v32, val_main_v31, val_main_v30, val_main_v29, val_main_v28, val_main_v27, val_main_v26, val_main_v25, val_main_v24, val_main_v23, val_main_v22, val_main_v21, val_main_cst_1, val_main_cst_2]
  rw [e20]
  have ep : (BitVec.ofNat 32 p.val).toNat = p.val := by rw [BitVec.toNat_ofNat]; omega
  rw [sge_eq _ _ (by omega) (by omega), ep]
  unfold refScore
  have ei : ∀ d : Fin 128, (⟨(h.val / 5 * 5 + h.val % 5) * 128 + d.val, by omega⟩ : Fin 5120) = ⟨h.val * 128 + d.val, by omega⟩ := fun d => Fin.ext (by
    show (h.val / 5 * 5 + h.val % 5) * 128 + d.val = h.val * 128 + d.val; omega)
  simp only [ei]
  split
  · rfl
  · exact Ideal.ofBits_zero_f32
end Cert.Proof.Reference

end
-- ==== Proof.KernelIdeal.Prep.lean ====
/-
  The body of the call that prepares the new tokens' keys and values, run once at symbolic operands: from its three
  inputs held at any contents and its seven results held at anything it returns, the inputs as they were and each
  result at contents that are a function of the inputs alone.
-/
module

public import proofs.«01_k».proof.Proof.Gen.KernelIdeal.Skeleton
public import Idealize.ShloMosaic.Lib.Tactic
public import Idealize.ShloMosaic.Lib.Pipeline.Kit

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The pipeline's algebra: the cells of its own transfers only. -/
abbrev UU : Type := URounds (GSem nD τ sig) Unit

local notation "𝕄" => MT nD τ sig Unit (Elt F) ℕ UU ℕ

/-- The contents of a memref's buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
set_option maxRecDepth 65536 in
/-- What the body leaves in its seven results, with the proof that it runs there. -/
noncomputable def prepRun (c : Dev nD)
    (M0 : Memref sig .tc .vmem S2304x128 .bf16) (h0 : M0.IsWhole)
    (M1 : Memref sig .tc .vmem S2304x128 .bf16) (h1 : M1.IsWhole)
    (M2 : Memref sig .tc .vmem S128x256 .bf16) (h2 : M2.IsWhole)
    (M3 : Memref sig .tc .vmem S2304x32 .i8) (h3 : M3.IsWhole)
    (M4 : Memref sig .tc .vmem S2304x1 .bf16) (h4 : M4.IsWhole)
    (M5 : Memref sig .tc .vmem S2304x64 .i8) (h5 : M5.IsWhole)
    (M6 : Memref sig .tc .vmem S2304x1 .f32) (h6 : M6.IsWhole)
    (M7 : Memref sig .tc .vmem S2304x256 .bf16) (h7 : M7.IsWhole)
    (M8 : Memref sig .tc .vmem S2304x128 .bf16) (h8 : M8.IsWhole)
    (M9 : Memref sig .tc .vmem S128x256 .bf16) (h9 : M9.IsWhole)
    (f0 : Bf (F := F) c M0) (f1 : Bf (F := F) c M1) (f2 : Bf (F := F) c M2) :
    { W : Bf (F := F) c M3 × Bf (F := F) c M4 × Bf (F := F) c M5 × Bf (F := F) c M6 × Bf (F := F) c M7 × Bf (F := F) c M8 × Bf (F := F) c M9 //
      ∀ (f3 : Bf (F := F) c M3) (f4 : Bf (F := F) c M4) (f5 : Bf (F := F) c M5) (f6 : Bf (F := F) c M6) (f7 : Bf (F := F) c M7) (f8 : Bf (F := F) c M8) (f9 : Bf (F := F) c M9) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
          ∗ (iprop(pt c M0 f0 ∗ pt c M1 f1 ∗ pt c M2 f2 ∗ pt c M3 W.1 ∗ pt c M4 W.2.1 ∗ pt c M5 W.2.2.1 ∗ pt c M6 W.2.2.2.1 ∗ pt c M7 W.2.2.2.2.1 ∗ pt c M8 W.2.2.2.2.2.1 ∗ pt c M9 W.2.2.2.2.2.2) -∗ Q ⟨⟩))
        ⊢ wp frame (wpE (defs₀ (F := F)) Variants.none c none) E
            (cc0_prep M0 h0 M1 h1 M2 h2 M3 h3 M4 h4 M5 h5 M6 h6 M7 h7 M8 h8 M9 h9) Q } := by
  refine ⟨⟨?_, ?_, ?_, ?_, ?_, ?_, ?_⟩, fun f3 f4 f5 f6 f7 f8 f9 E Q => ?run⟩
  case run =>
    rw [cc0_prep_eq_skeleton]
    iintro ⟨H0, H1, H2, H3, H4, H5, H6, H7, H8, H9, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.KernelIdeal

end
-- ==== Proof.Words.lean ====
/-
  Small facts about the words the kernel computes offsets from, over no program.
-/
module

public import Idealize.ShloMosaic.Lib.Routing.Words
public import Idealize.ShloMosaic.Lib.WordArith
public import Idealize.ShloMosaic.Lib.Scf

@[expose] public section

namespace Cert.Proof.Words

open Idealize.ShloMosaic

/-- A slice whose last axis is a chunk of 512 of the 3584 positions fits its array when its start is at most 3072. -/
theorem fits4 (p q r s0 s1 s2 d0 d1 d2 w : ℕ) (hw : w ≤ 3072) (h0 : p + s0 ≤ d0) (h1 : q + s1 ≤ d1) (h2 : r + s2 ≤ d2) :
    ∀ a : Fin 4, (![p, q, r, w] : Fin 4 → ℕ) a + (![s0, s1, s2, 512] : Fin 4 → ℕ) a ≤ (![d0, d1, d2, 3584] : Fin 4 → ℕ) a
  | ⟨0, _⟩ => h0
  | ⟨1, _⟩ => h1
  | ⟨2, _⟩ => h2
  | ⟨3, _⟩ => show w + 512 ≤ 3584 by omega

/-- The same with three axes. -/
theorem fits3 (p q s0 s1 d0 d1 w : ℕ) (hw : w ≤ 3072) (h0 : p + s0 ≤ d0) (h1 : q + s1 ≤ d1) :
    ∀ a : Fin 3, (![p, q, w] : Fin 3 → ℕ) a + (![s0, s1, 512] : Fin 3 → ℕ) a ≤ (![d0, d1, 3584] : Fin 3 → ℕ) a
  | ⟨0, _⟩ => h0
  | ⟨1, _⟩ => h1
  | ⟨2, _⟩ => show w + 512 ≤ 3584 by omega

/-- The number of chunks of 512 positions a sequence of `len` positions reaches into, as the kernel computes it. -/
def chunks (v : BitVec 32) : BitVec 32 := Scalar.divsi (Scalar.addi v 511#32) 512#32

/-- A length in the range, read as a number, is at most 3584; and its chunks are `⌈len / 512⌉`. -/
theorem chunks_eq (v : BitVec 32) (h : v.toNat ≤ 3584) : chunks v = BitVec.ofNat 32 ((v.toNat + 511) / 512) := by
  have e : Scalar.addi v 511#32 = BitVec.ofNat 32 (v.toNat + 511) := by
    show v + 511#32 = _
    apply BitVec.eq_of_toNat_eq
    rw [BitVec.toNat_add, BitVec.toNat_ofNat, BitVec.toNat_ofNat]
  unfold chunks
  rw [e]
  exact Routing.divsi_word .scalar (by omega) (by omega) (by omega)

theorem chunks_le (v : BitVec 32) (h : v.toNat ≤ 3584) : (v.toNat + 511) / 512 ≤ 7 := by omega

/-- Chunk `k` counted from chunk `n`, and its first position. -/
theorem start_eq : ∀ n k : Fin 8, ((BitVec.ofNat 32 n.val + BitVec.ofNat 32 k.val * 1#32) * 512#32).toNat = 512 * (n.val + k.val) := by
  decide

theorem dvd_512 : ∀ n k : Fin 8, 512 ∣ ((BitVec.ofNat 32 n.val + BitVec.ofNat 32 k.val * 1#32) * 512#32).toNat := by
  intro n k; rw [start_eq]; exact Dvd.intro _ rfl

/-- A loop from 0 to `n`, and one from `n` to 7: their trips, and that they have a meaning. -/
theorem up_trips : ∀ n : Fin 8, Scf.trips 0#32 (BitVec.ofNat 32 n.val) 1#32 = n.val := by decide
theorem up_ok : ∀ n : Fin 8, Scf.OK 0#32 (BitVec.ofNat 32 n.val) 1#32 := by decide
theorem down_trips : ∀ n : Fin 8, Scf.trips (BitVec.ofNat 32 n.val) 7#32 1#32 = 7 - n.val := by decide
theorem down_ok : ∀ n : Fin 8, Scf.OK (BitVec.ofNat 32 n.val) 7#32 1#32 := by decide

/-- A loop from a word to itself makes no trip, and has a meaning. -/
theorem empty_trips (w : BitVec 32) : Scf.trips w w 1#32 = 0 := by
  unfold Scf.trips; show ((_ - _ + 1 - 1) / 1 : ℤ).toNat = 0; omega
theorem empty_ok (w : BitVec 32) : Scf.OK w w 1#32 := by
  refine ⟨by decide, ?_⟩
  rw [empty_trips]
  have h := BitVec.toInt_lt (x := w)
  simpa using h

/-- The remainder loops' bounds coincide. -/
theorem whole_loop (a b : BitVec 32) : Scalar.addi a (Scalar.muli (Scalar.divsi b 1#32) 1#32) = Scalar.addi a b := by
  show a + IntOp.divsi .scalar b 1#32 * 1#32 = a + b
  rw [WordArith.divsi_one, BitVec.mul_one]

theorem sub_zero' (w : BitVec 32) : Scalar.addi 0#32 (Scalar.subi w 0#32) = w := by
  show 0#32 + (w - 0#32) = w
  simp

theorem seven (w : BitVec 32) : Scalar.addi w (Scalar.subi 7#32 w) = 7#32 := by
  show w + (7#32 - w) = 7#32
  rw [BitVec.add_comm, BitVec.sub_add_cancel]

end Cert.Proof.Words

end
-- ==== Proof.KernelIdeal.Chk.lean ====
/-
  The side conditions the attention call assumes of a sequence's length hold when the length lies between 0 and 3584:
  its loops over chunks of 512 positions have a meaning, and every chunk lies inside the arrays.
-/
module

public import proofs.«01_k».proof.KernelIdeal
public import proofs.«01_k».proof.Proof.Words

@[expose] public section

set_option maxRecDepth 65536

namespace Cert.Proof.KernelIdeal

open Cert.KernelIdeal Idealize.ShloMosaic

/-- The loop over the chunks below the length runs from 0 to the number of chunks. -/
theorem t1_lb (v1 : BitVec 32) : (k1_t1_loop v1).lb = 0#32 := rfl
theorem t1_st (v1 : BitVec 32) : (k1_t1_loop v1).st = 1#32 := rfl
theorem t1_ub (v1 : BitVec 32) : (k1_t1_loop v1).ub = Words.chunks v1 :=
  (Words.whole_loop _ _).trans (Words.sub_zero' _)
/-- The loop over the chunks beyond the length runs from there to 7. -/
theorem t3_lb (v1 : BitVec 32) : (k1_t3_loop v1).lb = Words.chunks v1 := rfl
theorem t3_st (v1 : BitVec 32) : (k1_t3_loop v1).st = 1#32 := rfl
theorem t3_ub (v1 : BitVec 32) : (k1_t3_loop v1).ub = 7#32 := (Words.whole_loop _ _).trans (Words.seven _)
/-- The other two loops are empty. -/
theorem t2_ub (v1 : BitVec 32) : (k1_t2_loop v1).ub = (k1_t2_loop v1).lb := (Words.whole_loop _ _).symm
theorem t4_ub (v1 : BitVec 32) : (k1_t4_loop v1).ub = (k1_t4_loop v1).lb := (Words.whole_loop _ _).symm
theorem t2_trips (v1 : BitVec 32) : (k1_t2_loop v1).trips = 0 := by
  rw [Scf.Loop.trips, t2_ub]; exact Words.empty_trips _
theorem t4_trips (v1 : BitVec 32) : (k1_t4_loop v1).trips = 0 := by
  rw [Scf.Loop.trips, t4_ub]; exact Words.empty_trips _

theorem t1_trips (v1 : BitVec 32) (h : v1.toNat ≤ 3584) : (k1_t1_loop v1).trips = (v1.toNat + 511) / 512 := by
  rw [Scf.Loop.trips, t1_lb, t1_ub, t1_st, Words.chunks_eq v1 h]
  exact Words.up_trips ⟨_, Nat.lt_succ_of_le (Words.chunks_le v1 h)⟩
theorem t3_trips (v1 : BitVec 32) (h : v1.toNat ≤ 3584) : (k1_t3_loop v1).trips = 7 - (v1.toNat + 511) / 512 := by
  rw [Scf.Loop.trips, t3_lb, t3_ub, t3_st, Words.chunks_eq v1 h]
  exact Words.down_trips ⟨_, Nat.lt_succ_of_le (Words.chunks_le v1 h)⟩

/-- The first position of the chunk of a trip below the length. -/
theorem start1 (v1 : BitVec 32) (h : v1.toNat ≤ 3584) (k : Fin (k1_t1_loop v1).trips) : (k1_mult1 v1 k).toNat = 512 * k.val := by
  have hk : k.val < 8 := by have := k.isLt; have := t1_trips v1 h; have := Words.chunks_le v1 h; omega
  exact (Words.start_eq 0 ⟨k.val, hk⟩).trans (congrArg (512 * ·) (Nat.zero_add _))
/-- The first position of the chunk of a trip beyond the length. -/
theorem start3 (v1 : BitVec 32) (h : v1.toNat ≤ 3584) (k : Fin (k1_t3_loop v1).trips) :
    (k1_mult3 v1 k).toNat = 512 * ((v1.toNat + 511) / 512 + k.val) := by
  have hk : k.val < 8 := by have := k.isLt; have := t3_trips v1 h; omega
  show ((Words.chunks v1 + BitVec.ofNat 32 k.val * 1#32) * 512#32).toNat = _
  rw [Words.chunks_eq v1 h]
  exact Words.start_eq ⟨_, Nat.lt_succ_of_le (Words.chunks_le v1 h)⟩ ⟨k.val, hk⟩

/-- What the call assumes of the length. -/
theorem chk1 (v1 : BitVec 32) (h : v1.toNat ≤ 3584) : k1_chk1 v1 := by
  have hn := Nat.lt_succ_of_le (Words.chunks_le v1 h)
  have h1 : ∀ k : Fin (k1_t1_loop v1).trips, (k1_mult1 v1 k).toNat ≤ 3072 ∧ 512 ∣ (k1_mult1 v1 k).toNat := fun k => by
    rw [start1 v1 h]; have := k.isLt; have := t1_trips v1 h; exact ⟨by omega, Dvd.intro _ rfl⟩
  have h3 : ∀ k : Fin (k1_t3_loop v1).trips, (k1_mult3 v1 k).toNat ≤ 3072 ∧ 512 ∣ (k1_mult3 v1 k).toNat := fun k => by
    rw [start3 v1 h]; have := k.isLt; have := t3_trips v1 h; exact ⟨by omega, Dvd.intro _ rfl⟩
  exact ⟨⟨by rw [Scf.Loop.OK, t1_lb, t1_ub, t1_st, Words.chunks_eq v1 h]; exact Words.up_ok ⟨_, hn⟩,
    fun k => (h1 k).2,
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits3 _ _ _ _ _ _ _ (h1 k).1 (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    by rw [Scf.Loop.OK, t2_ub]; exact Words.empty_ok _,
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _)⟩,
    ⟨fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    by rw [Scf.Loop.OK, t3_lb, t3_ub, t3_st, Words.chunks_eq v1 h]; exact Words.down_ok ⟨_, hn⟩,
    fun k => (h3 k).2,
    fun k => Words.fits4 _ _ _ _ _ _ _ _ _ _ (h3 k).1 (by decide) (by decide) (by decide),
    by rw [Scf.Loop.OK, t4_ub]; exact Words.empty_ok _,
    fun k => absurd (lt_of_lt_of_eq k.isLt (t4_trips v1)) (Nat.not_lt_zero _),
    fun k => absurd (lt_of_lt_of_eq k.isLt (t4_trips v1)) (Nat.not_lt_zero _)⟩⟩

end Cert.Proof.KernelIdeal

end
-- ==== Proof.KernelIdeal.Loops.lean ====
/-
  The body of the call that attends over the cached positions, run once at symbolic operands. Its loop over the chunks
  of positions below the sequence's length is taken through the invariant that names the pieces of the scores written
  so far and keeps the two accumulators at anything; its loop over the chunks beyond the length through the one that
  names the zero pieces. The other two loops make no trip.
-/
module

public import proofs.«01_k».proof.Proof.KernelIdeal.Prep
public import proofs.«01_k».proof.Proof.KernelIdeal.Chk
public import Idealize.ShloMosaic.Lib.Exec

@[expose] public section

set_option maxRecDepth 65536
set_option maxHeartbeats 40000000

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- One trip over a chunk below the length: the pieces of the scores it writes, functions of what it reads. -/
def trip (c : Dev nD) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (v621 : IVec S8x512 32)
    (X8 : Bf (F := F) c arg8) (X9 : Bf (F := F) c arg9) (X10 : Bf (F := F) c arg10) (X11 : Bf (F := F) c arg11) (X15 : Bf (F := F) c arg15) (k : Fin (k1_t1_loop v1).trips) :
    { L : List (View.Piece (Elt F) S1x6x40x3584 .f32) //
      ∀ (acc : FVec F S240x1 .f32 × FVec F S240x1 .f32) (f13 : Bf (F := F) c arg13) (f16 : Bf (F := F) c arg16) (E : Set ℕ),
      (iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg15.view.loc (c : Thread nD τ) ↦[arg15.view.set]{fullShare} X15) ∗ (arg13.view.loc (c : Thread nD τ) ↦[arg13.view.set]{fullShare} f13) ∗ (arg16.view.loc (c : Thread nD τ) ↦[arg16.view.set]{fullShare} f16)) : sProp 𝕄)
      ⊢ wp frame (wpE (defs₀ (F := F)) Variants.none (c : Thread nD τ) none) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 k acc)
         (fun yld => iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg15.view.loc (c : Thread nD τ) ↦[arg15.view.set]{fullShare} X15) ∗ (∃ f : Bf (F := F) c arg16, (arg16.view.loc (c : Thread nD τ) ↦[arg16.view.set]{fullShare} f))
            ∗ (arg13.view.loc (c : Thread nD τ) ↦[arg13.view.set]{fullShare} (arg13.view.writes (Elt F) f13 L)))) } := by
  refine ⟨?_, fun acc f13 f16 E => ?run⟩
  case run =>
    unfold k1_t1_body
    iintro ⟨H8, H9, H10, H11, H15, H13, H16⟩
    sl_exec
    sl_step
    isplitl [H8]; · iexact H8
    isplitl [H9]; · iexact H9
    isplitl [H10]; · iexact H10
    isplitl [H11]; · iexact H11
    isplitl [H15]; · iexact H15
    isplitl [H16]; · iexists _; iexact H16
    iexact H13

/-- The pieces of the scores the trips before `k` wrote, the last first. -/
def st1 (c : Dev nD) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (v621 : IVec S8x512 32)
    (X8 : Bf (F := F) c arg8) (X9 : Bf (F := F) c arg9) (X10 : Bf (F := F) c arg10) (X11 : Bf (F := F) c arg11) (X15 : Bf (F := F) c arg15) : ℕ → List (View.Piece (Elt F) S1x6x40x3584 .f32)
  | 0 => []
  | k + 1 => if h : k < (k1_t1_loop v1).trips then
      (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 ⟨k, h⟩).1 ++ st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 k
    else st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 k

set_option warn.classDefReducibility false in
/-- The loop over the chunks below the length. -/
@[sl_loop] def loop1 (c : Dev nD) (E : Set ℕ) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (v621 : IVec S8x512 32)
    (X8 : Bf (F := F) c arg8) (X9 : Bf (F := F) c arg9) (X10 : Bf (F := F) c arg10) (X11 : Bf (F := F) c arg11) (X15 : Bf (F := F) c arg15) (G13 : Bf (F := F) c arg13) (init : FVec F S240x1 .f32 × FVec F S240x1 .f32) :
    LoopInv (M := 𝕄) frame (wpE (defs₀ (F := F)) Variants.none (c : Thread nD τ) none) E
      (k1_t1_loop v1).lb (k1_t1_loop v1).ub (k1_t1_loop v1).st (k1_t1_ok v1 k1_hw1) init (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621) where
  inv k acc := iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg15.view.loc (c : Thread nD τ) ↦[arg15.view.set]{fullShare} X15) ∗ (∃ f : Bf (F := F) c arg16, (arg16.view.loc (c : Thread nD τ) ↦[arg16.view.set]{fullShare} f))
      ∗ (∃ f : Bf (F := F) c arg13, (arg13.view.loc (c : Thread nD τ) ↦[arg13.view.set]{fullShare} f) ∗ ⌜f = arg13.view.writes (Elt F) G13 (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 k)⌝))
  step k acc := by
    iintro ⟨H8, H9, H10, H11, H15, ⟨%f16, H16⟩, ⟨%f13, H13, %h13⟩⟩
    subst h13
    iapply (wp_wand_r Idealize.ShloMosaic.frame (wpE (defs₀ (F := F)) Variants.none (c : Thread nD τ) none) E)
    isplitl [H8 H9 H10 H11 H15 H13 H16]
    · iapply ((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 k).2 acc _ f16 E)
      isplitl [H8]; · iexact H8
      isplitl [H9]; · iexact H9
      isplitl [H10]; · iexact H10
      isplitl [H11]; · iexact H11
      isplitl [H15]; · iexact H15
      isplitl [H13]; · iexact H13
      iexact H16
    · iintro %y ⟨H8, H9, H10, H11, H15, H16, H13⟩
      isplitl [H8]; · iexact H8
      isplitl [H9]; · iexact H9
      isplitl [H10]; · iexact H10
      isplitl [H11]; · iexact H11
      isplitl [H15]; · iexact H15
      isplitl [H16]; · iexact H16
      iexists _
      isplitl [H13]; · iexact H13
      ipureintro
      rw [st1, dif_pos k.isLt, View.writes_append]

set_option warn.classDefReducibility false in
/-- The loop over the remainder of the full chunks, which makes no trip. -/
@[sl_loop] def loop2 (c : Dev nD) (E : Set ℕ) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (v621 : IVec S8x512 32) (v629 : BitVec 32) (init : FVec F S240x1 .f32 × FVec F S240x1 .f32) :
    LoopInv (M := 𝕄) frame (wpE (defs₀ (F := F)) Variants.none (c : Thread nD τ) none) E
      (k1_t2_loop v1).lb (k1_t2_loop v1).ub (k1_t2_loop v1).st (k1_t2_ok v1 k1_hw1) init (k1_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 v629) where
  inv k acc := iprop(⌜0 ≤ k⌝)
  step k acc := absurd (lt_of_lt_of_eq k.isLt (t2_trips v1)) (Nat.not_lt_zero _)

/-- The zero pieces the trips before `k` wrote beyond the length, the last first. -/
def st3 (v1 : BitVec 32) (k1_hw1 : k1_chk1 v1) : ℕ → List (View.Piece (Elt F) S1x6x40x3584 .f32)
  | 0 => []
  | k + 1 => if h : k < (k1_t3_loop v1).trips then
      ⟨Rect.unit (s := S1x6x40x3584) (k1_off38 v1 ⟨k, h⟩) S1x6x40x512.size (k1_off38_inb v1 k1_hw1 ⟨k, h⟩), k1_pay412 (F := F)⟩ :: st3 v1 k1_hw1 k
    else st3 v1 k1_hw1 k

set_option warn.classDefReducibility false in
/-- The loop over the chunks beyond the length. -/
@[sl_loop] def loop3 (c : Dev nD) (E : Set ℕ) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (G13 : Bf (F := F) c arg13) (init : Unit) :
    LoopInv (M := 𝕄) frame (wpE (defs₀ (F := F)) Variants.none (c : Thread nD τ) none) E
      (k1_t3_loop v1).lb (k1_t3_loop v1).ub (k1_t3_loop v1).st (k1_t3_ok v1 k1_hw1) init (k1_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603) where
  inv k acc := iprop(∃ f : Bf (F := F) c arg13, (arg13.view.loc (c : Thread nD τ) ↦[arg13.view.set]{fullShare} f) ∗ ⌜f = arg13.view.writes (Elt F) G13 (st3 v1 k1_hw1 k)⌝)
  step k acc := by
    iintro ⟨%f13, H13, %h13⟩
    subst h13
    unfold k1_t3_body
    sl_exec
    sl_step
    iexists _
    isplitl [H13]; · iexact H13
    ipureintro
    rw [st3, dif_pos k.isLt]

set_option warn.classDefReducibility false in
/-- The loop over the remainder of the zero chunks, which makes no trip. -/
@[sl_loop] def loop4 (c : Dev nD) (E : Set ℕ) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (init : Unit) :
    LoopInv (M := 𝕄) frame (wpE (defs₀ (F := F)) Variants.none (c : Thread nD τ) none) E
      (k1_t4_loop v1).lb (k1_t4_loop v1).ub (k1_t4_loop v1).st (k1_t4_ok v1 k1_hw1) init (k1_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603) where
  inv k acc := iprop(⌜0 ≤ k⌝)
  step k acc := absurd (lt_of_lt_of_eq k.isLt (t4_trips v1)) (Nat.not_lt_zero _)

end Cert.Proof.KernelIdeal

end
-- ==== Proof.KernelIdeal.Payloads.lean ====
/-
  The pieces of the scores one trip writes, read at an index: one per group of eight heads.
-/
module

public import proofs.«01_k».proof.Proof.KernelIdeal.Signs
public import proofs.«01_k».proof.Proof.KernelIdeal.Loops

@[expose] public section

noncomputable section

namespace Cert.Proof.KernelIdeal

open Cert.KernelIdeal Cert.KernelIdeal.Gen
open Idealize.ShloMosaic

/-- The rows' places, as the body counts them. -/
def rows8 : IVec S8x512 32 := iota .tc S8x512 32 [0] iota_S8x512_d0_w32

theorem tile1_apply (v13 : FVec Ideal S240x1 .f32) (raw : FVec Ideal S48x512 .f32) (nrm : FVec Ideal S8x512 .f32) (ok : IVec S1x512 1)
    (z : Fin 1) (t : Fin 6) (r : Fin 8) (p : Fin 512) :
    k1_pay138 v13 rows8 raw nrm ok (ix4 z t r p)
      = Scalar.select (ok (ix2 (0 : Fin 1) p))
          ((raw (ix2 (⟨t.val * 8 + r.val, by omega⟩ : Fin 48) p) - v13 (ix2 (⟨48 + (t.val * 8 + r.val), by omega⟩ : Fin 240) (0 : Fin 1)))
            * nrm (ix2 (⟨(8 + r.val) / 5, by omega⟩ : Fin 8) p)) (0 : EReal) := by
  obtain ⟨r, hr⟩ := r
  pointwise [k1_pay138, k1_pay137, rows8]
  interval_cases r <;> rfl

theorem tile2_apply (v13 : FVec Ideal S240x1 .f32) (raw : FVec Ideal S48x512 .f32) (nrm : FVec Ideal S8x512 .f32) (ok : IVec S1x512 1)
    (z : Fin 1) (t : Fin 6) (r : Fin 8) (p : Fin 512) :
    k1_pay142 v13 rows8 raw nrm ok (ix4 z t r p)
      = Scalar.select (ok (ix2 (0 : Fin 1) p))
          ((raw (ix2 (⟨t.val * 8 + r.val, by omega⟩ : Fin 48) p) - v13 (ix2 (⟨96 + (t.val * 8 + r.val), by omega⟩ : Fin 240) (0 : Fin 1)))
            * nrm (ix2 (⟨(16 + r.val) / 5, by omega⟩ : Fin 8) p)) (0 : EReal) := by
  obtain ⟨r, hr⟩ := r
  pointwise [k1_pay142, k1_pay141, rows8]
  interval_cases r <;> rfl

theorem tile3_apply (v13 : FVec Ideal S240x1 .f32) (raw : FVec Ideal S48x512 .f32) (nrm : FVec Ideal S8x512 .f32) (ok : IVec S1x512 1)
    (z : Fin 1) (t : Fin 6) (r : Fin 8) (p : Fin 512) :
    k1_pay146 v13 rows8 raw nrm ok (k1_pay144 rows8 nrm) (ix4 z t r p)
      = Scalar.select (ok (ix2 (0 : Fin 1) p))
          ((raw (ix2 (⟨t.val * 8 + r.val, by omega⟩ : Fin 48) p) - v13 (ix2 (⟨144 + (t.val * 8 + r.val), by omega⟩ : Fin 240) (0 : Fin 1)))
            * nrm (ix2 (⟨(24 + r.val) / 5, by omega⟩ : Fin 8) p)) (0 : EReal) := by
  obtain ⟨r, hr⟩ := r
  pointwise [k1_pay146, k1_pay145, k1_pay144, rows8]
  interval_cases r <;> rfl

theorem tile4_apply (v13 : FVec Ideal S240x1 .f32) (raw : FVec Ideal S48x512 .f32) (nrm : FVec Ideal S8x512 .f32) (ok : IVec S1x512 1)
    (z : Fin 1) (t : Fin 6) (r : Fin 8) (p : Fin 512) :
    k1_pay150 (k1_pay148 v13 rows8 raw nrm) (k1_pay149 ok) (FloatOps.ofBits .f32 0#32 : Ideal .f32) (ix4 z t r p)
      = Scalar.select (ok (ix2 (0 : Fin 1) p))
          ((raw (ix2 (⟨t.val * 8 + r.val, by omega⟩ : Fin 48) p) - v13 (ix2 (⟨192 + (t.val * 8 + r.val), by omega⟩ : Fin 240) (0 : Fin 1)))
            * nrm (ix2 (⟨(32 + r.val) / 5, by omega⟩ : Fin 8) p)) (0 : EReal) := by
  obtain ⟨r, hr⟩ := r
  pointwise [k1_pay150, k1_pay148, k1_pay149, rows8]
  interval_cases r <;> rfl

end Cert.Proof.KernelIdeal

end
-- ==== Proof.KernelIdeal.Tile.lean ====
/-
  The scores of one group of eight heads over one chunk of positions, before the masking: the products of the queries
  with the sign planes, read at an index off what the body loads.
-/
module

public import proofs.«01_k».proof.Proof.KernelIdeal.Payloads

@[expose] public section

noncomputable section

namespace Cert.Proof.KernelIdeal

open Cert.KernelIdeal Cert.KernelIdeal.Gen
open Idealize.ShloMosaic

theorem cast_bytes (v : S1x1x32x512.Idx → BitVec 8) (hc : S1x1x32x512.ShapeCasts S32x512) (b : Fin 32) (p : Fin 512) :
    shapeCast S32x512 v hc (ix2 b p) = v (ix4 (0 : Fin 1) (0 : Fin 1) b p) := by
  pointwise []
theorem cast_norms (v : S1x8x512.Idx → EReal) (hc : S1x8x512.ShapeCasts S8x512) (b : Fin 8) (p : Fin 512) :
    shapeCast S8x512 v hc (ix2 b p) = v (ix3 (0 : Fin 1) b p) := by
  pointwise []
theorem cast_rows48 (v : S1x48x256.Idx → EReal) (hc : S1x48x256.ShapeCasts S48x256) (b : Fin 48) (p : Fin 256) :
    shapeCast S48x256 v hc (ix2 b p) = v (ix3 (0 : Fin 1) b p) := by
  pointwise []
theorem cast_rows96 (v : S1x96x256.Idx → EReal) (hc : S1x96x256.ShapeCasts S96x256) (b : Fin 96) (p : Fin 256) :
    shapeCast S96x256 v hc (ix2 b p) = v (ix3 (0 : Fin 1) b p) := by
  pointwise []

/-- A chunk of one key head's bytes, as loaded. -/
theorem bytes_window {c : Dev nD} (arg8 : Memref sig .tc .vmem S1x8x32x3584 .i8) (X8 : Bf (F := Ideal) c arg8) (off : Fin 4 → ℕ)
    (inb : ∀ a, off a + S1x1x32x512.size a ≤ S1x8x32x3584.size a) (hc : S1x1x32x512.ShapeCasts S32x512)
    (kv : Fin 8) (b : Fin 32) (p : Fin 512) (pos : Fin 3584)
    (h0 : off 0 = 0) (h1 : off 1 = kv.val) (h2 : off 2 = 0) (h3 : off 3 + p.val = pos.val) :
    shapeCast S32x512 (arg8.view.readAt (Elt Ideal) (Rect.unit (s := S1x8x32x3584) off S1x1x32x512.size inb).toLoadRect X8) hc (ix2 b p)
      = arg8.view.read (Elt Ideal) X8 (ix4 (0 : Fin 1) kv b pos) := by
  refine (cast_bytes _ _ _ _).trans ?_
  rw [View.readAt_apply]
  refine congrArg _ (funext fun a => ?_)
  match a with
  | ⟨0, _⟩ => exact Fin.ext (show off 0 + 1 * 0 = 0 by omega)
  | ⟨1, _⟩ => exact Fin.ext (show off 1 + 1 * 0 = kv.val by omega)
  | ⟨2, _⟩ => exact Fin.ext (show off 2 + 1 * b.val = b.val by omega)
  | ⟨3, _⟩ => exact Fin.ext (show off 3 + 1 * p.val = pos.val by omega)

/-- A chunk of the eight key heads' norms, as loaded. -/
theorem norms_window {c : Dev nD} (arg9 : Memref sig .tc .vmem S1x8x3584 .bf16) (X9 : Bf (F := Ideal) c arg9) (off : Fin 3 → ℕ)
    (inb : ∀ a, off a + S1x8x512.size a ≤ S1x8x3584.size a) (hc : S1x8x512.ShapeCasts S8x512)
    (kv : Fin 8) (p : Fin 512) (pos : Fin 3584)
    (h0 : off 0 = 0) (h1 : off 1 = 0) (h3 : off 2 + p.val = pos.val) :
    shapeCast S8x512 (arg9.view.readAt (Elt Ideal) (Rect.unit (s := S1x8x3584) off S1x8x512.size inb).toLoadRect X9) hc (ix2 kv p)
      = arg9.view.read (Elt Ideal) X9 (ix3 (0 : Fin 1) kv pos) := by
  refine (cast_norms _ _ _ _).trans ?_
  rw [View.readAt_apply]
  refine congrArg _ (funext fun a => ?_)
  match a with
  | ⟨0, _⟩ => exact Fin.ext (show off 0 + 1 * 0 = 0 by omega)
  | ⟨1, _⟩ => exact Fin.ext (show off 1 + 1 * kv.val = kv.val by omega)
  | ⟨2, _⟩ => exact Fin.ext (show off 2 + 1 * p.val = pos.val by omega)

/-- One key head's rows of the masked queries, as loaded. -/
theorem query_window48 {c : Dev nD} (arg15 : Memref sig .tc .vmem S8x96x256 .bf16) (X15 : Bf (F := Ideal) c arg15) (off : Fin 3 → ℕ)
    (inb : ∀ a, off a + S1x48x256.size a ≤ S8x96x256.size a) (hc : S1x48x256.ShapeCasts S48x256)
    (kv : Fin 8) (m : Fin 48) (m' : Fin 96) (hm : m.val = m'.val) (k : Fin 256) (h0 : off 0 = kv.val) (h1 : off 1 = 0) (h3 : off 2 = 0) :
    shapeCast S48x256 (arg15.view.readAt (Elt Ideal) (Rect.unit (s := S8x96x256) off S1x48x256.size inb).toLoadRect X15) hc (ix2 m k)
      = arg15.view.read (Elt Ideal) X15 (ix3 kv m' k) := by
  refine (cast_rows48 _ _ _ _).trans ?_
  rw [View.readAt_apply]
  refine congrArg _ (funext fun a => ?_)
  match a with
  | ⟨0, _⟩ => exact Fin.ext (show off 0 + 1 * 0 = kv.val by omega)
  | ⟨1, _⟩ => exact Fin.ext (show off 1 + 1 * m.val = m'.val by omega)
  | ⟨2, _⟩ => exact Fin.ext (show off 2 + 1 * k.val = k.val by omega)

theorem query_window96 {c : Dev nD} (arg15 : Memref sig .tc .vmem S8x96x256 .bf16) (X15 : Bf (F := Ideal) c arg15) (off : Fin 3 → ℕ)
    (inb : ∀ a, off a + S1x96x256.size a ≤ S8x96x256.size a) (hc : S1x96x256.ShapeCasts S96x256)
    (kv : Fin 8) (m m' : Fin 96) (hm : m.val = m'.val) (k : Fin 256) (h0 : off 0 = kv.val) (h1 : off 1 = 0) (h3 : off 2 = 0) :
    shapeCast S96x256 (arg15.view.readAt (Elt Ideal) (Rect.unit (s := S8x96x256) off S1x96x256.size inb).toLoadRect X15) hc (ix2 m k)
      = arg15.view.read (Elt Ideal) X15 (ix3 kv m' k) := by
  refine (cast_rows96 _ _ _ _).trans ?_
  rw [View.readAt_apply]
  refine congrArg _ (funext fun a => ?_)
  match a with
  | ⟨0, _⟩ => exact Fin.ext (show off 0 + 1 * 0 = kv.val by omega)
  | ⟨1, _⟩ => exact Fin.ext (show off 1 + 1 * m.val = m'.val by omega)
  | ⟨2, _⟩ => exact Fin.ext (show off 2 + 1 * k.val = k.val by omega)

/-- The comparison of two small words, signed, is that of the numbers they hold. -/
theorem slt_eq (a b : BitVec 32) (ha : a.toNat < 2 ^ 31) (hb : b.toNat < 2 ^ 31) :
    IntOp.cmpi .slt a b = if a.toNat < b.toNat then 1#1 else 0#1 := by
  rw [WordCmp.cmpi_slt_of_lt ha hb]
  by_cases h : a.toNat < b.toNat <;> simp [h]

/-- The product of a row of one key head's masked queries with its sign planes at a position. -/
def product (Q : S8x96x256.Idx → EReal) (B : S1x8x32x3584.Idx → BitVec 8) (kv : Fin 8) (m : Fin 96) (pos : Fin 3584) : EReal :=
  ∑ k : Fin 256, Q (ix3 kv m k) * (if (B (ix4 (0 : Fin 1) kv (byteOf k) pos)).getLsbD (bitOf k) then (2 : EReal) else 0)

/-- The products of the key heads that share a group of eight query heads, added. -/
def rawAt (Q : S8x96x256.Idx → EReal) (B : S1x8x32x3584.Idx → BitVec 8) (j : Fin 5) (m : Fin 48) (pos : Fin 3584) : EReal :=
  match j with
  | 0 => product Q B 0 ⟨0 + m.val, by omega⟩ pos + product Q B 1 ⟨0 + m.val, by omega⟩ pos
  | 1 => product Q B 1 ⟨48 + m.val, by omega⟩ pos + product Q B 2 ⟨0 + m.val, by omega⟩ pos + product Q B 3 ⟨0 + m.val, by omega⟩ pos
  | 2 => product Q B 3 ⟨48 + m.val, by omega⟩ pos + product Q B 4 ⟨0 + m.val, by omega⟩ pos
  | 3 => product Q B 4 ⟨48 + m.val, by omega⟩ pos + product Q B 5 ⟨0 + m.val, by omega⟩ pos + product Q B 6 ⟨0 + m.val, by omega⟩ pos
  | 4 => product Q B 6 ⟨48 + m.val, by omega⟩ pos + product Q B 7 ⟨0 + m.val, by omega⟩ pos

section
variable (c : Dev nD) (arg8 : Memref sig .tc .vmem S1x8x32x3584 .i8) (arg9 : Memref sig .tc .vmem S1x8x3584 .bf16) (arg15 : Memref sig .tc .vmem S8x96x256 .bf16)
  (v1 : BitVec 32) (hv : v1.toNat ≤ 3584) (k1_hw1 : k1_chk1 v1) (X8 : Bf (F := Ideal) c arg8) (X9 : Bf (F := Ideal) c arg9) (X15 : Bf (F := Ideal) c arg15)
  (k : Fin (k1_t1_loop v1).trips)

theorem signs0 : trip.sl.v1183 (F := Ideal) c arg8 v1 k1_hw1 X8 k = signs (trip.sl.v1101 (F := Ideal) c arg8 v1 k1_hw1 X8 k) := rfl

include hv in
theorem product0 (m : Fin 48) (m' : Fin 96) (hm : m.val = m'.val) (p : Fin 512) (pos : Fin 3584) (hp : 512 * k.val + p.val = pos.val) :
    trip.sl.v1186 (F := Ideal) c arg8 arg15 v1 k1_hw1 X8 X15 k (ix2 m p)
      = product (arg15.view.read (Elt Ideal) X15) (arg8.view.read (Elt Ideal) X8) 0 m' pos := by
  have hs := start1 v1 hv k
  pointwise [trip.sl.v1186, trip.sl.cst_430]
  refine Finset.sum_congr rfl fun k' _ => ?_
  rw [signs0, signs_apply]
  congr 1
  · exact query_window48 arg15 X15 _ _ _ 0 m m' hm k' rfl rfl rfl
  · exact congrArg (fun w : BitVec 8 => if w.getLsbD (bitOf k') then (2 : EReal) else 0)
      (bytes_window arg8 X8 _ _ _ 0 (byteOf k') p pos rfl rfl rfl (by
        show (k1_mult1 v1 k).toNat + p.val = pos.val
        omega))

theorem signs1 : trip.sl.v1271 (F := Ideal) c arg8 v1 k1_hw1 X8 k = signs (trip.sl.v1189 (F := Ideal) c arg8 v1 k1_hw1 X8 k) := rfl

include hv in
theorem product1 (m : Fin 96) (m' : Fin 96) (hm : m.val = m'.val) (p : Fin 512) (pos : Fin 3584) (hp : 512 * k.val + p.val = pos.val) :
    trip.sl.v1274 (F := Ideal) c arg8 arg15 v1 k1_hw1 X8 X15 k (ix2 m p)
      = product (arg15.view.read (Elt Ideal) X15) (arg8.view.read (Elt Ideal) X8) 1 m' pos := by
  have hs := start1 v1 hv k
  pointwise [trip.sl.v1274, trip.sl.cst_469]
  refine Finset.sum_congr rfl fun k' _ => ?_
  rw [signs1, signs_apply]
  congr 1
  · exact query_window96 arg15 X15 _ _ _ 1 m m' hm k' rfl rfl rfl
  · exact congrArg (fun w : BitVec 8 => if w.getLsbD (bitOf k') then (2 : EReal) else 0)
      (bytes_window arg8 X8 _ _ _ 1 (byteOf k') p pos rfl rfl rfl (by
        show (k1_mult1 v1 k).toNat + p.val = pos.val
        omega))

theorem signs2 : trip.sl.v1362 (F := Ideal) c arg8 v1 k1_hw1 X8 k = signs (trip.sl.v1280 (F := Ideal) c arg8 v1 k1_hw1 X8 k) := rfl

include hv in
theorem product2 (m : Fin 48) (m' : Fin 96) (hm : m.val = m'.val) (p : Fin 512) (pos : Fin 3584) (hp : 512 * k.val + p.val = pos.val) :
    trip.sl.v1365 (F := Ideal) c arg8 arg15 v1 k1_hw1 X8 X15 k (ix2 m p)
      = product (arg15.view.read (Elt Ideal) X15) (arg8.view.read (Elt Ideal) X8) 2 m' pos := by
  have hs := start1 v1 hv k
  pointwise [trip.sl.v1365, trip.sl.cst_430]
  refine Finset.sum_congr rfl fun k' _ => ?_
  rw [signs2, signs_apply]
  congr 1
  · exact query_window48 arg15 X15 _ _ _ 2 m m' hm k' rfl rfl rfl
  · exact congrArg (fun w : BitVec 8 => if w.getLsbD (bitOf k') then (2 : EReal) else 0)
      (bytes_window arg8 X8 _ _ _ 2 (byteOf k') p pos rfl rfl rfl (by
        show (k1_mult1 v1 k).toNat + p.val = pos.val
        omega))

theorem signs3 : trip.sl.v1451 (F := Ideal) c arg8 v1 k1_hw1 X8 k = signs (trip.sl.v1369 (F := Ideal) c arg8 v1 k1_hw1 X8 k) := rfl

include hv in
theorem product3 (m : Fin 96) (m' : Fin 96) (hm : m.val = m'.val) (p : Fin 512) (pos : Fin 3584) (hp : 512 * k.val + p.val = pos.val) :
    trip.sl.v1454 (F := Ideal) c arg8 arg15 v1 k1_hw1 X8 X15 k (ix2 m p)
      = product (arg15.view.read (Elt Ideal) X15) (arg8.view.read (Elt Ideal) X8) 3 m' pos := by
  have hs := start1 v1 hv k
  pointwise [trip.sl.v1454, trip.sl.cst_469]
  refine Finset.sum_congr rfl fun k' _ => ?_
  rw [signs3, signs_apply]
  congr 1
  · exact query_window96 arg15 X15 _ _ _ 3 m m' hm k' rfl rfl rfl
  · exact congrArg (fun w : BitVec 8 => if w.getLsbD (bitOf k') then (2 : EReal) else 0)
      (bytes_window arg8 X8 _ _ _ 3 (byteOf k') p pos rfl rfl rfl (by
        show (k1_mult1 v1 k).toNat + p.val = pos.val
        omega))

theorem signs4 : trip.sl.v1542 (F := Ideal) c arg8 v1 k1_hw1 X8 k = signs (trip.sl.v1460 (F := Ideal) c arg8 v1 k1_hw1 X8 k) := rfl

include hv in
theorem product4 (m : Fin 96) (m' : Fin 96) (hm : m.val = m'.val) (p : Fin 512) (pos : Fin 3584) (hp : 512 * k.val + p.val = pos.val) :
    trip.sl.v1545 (F := Ideal) c arg8 arg15 v1 k1_hw1 X8 X15 k (ix2 m p)
      = product (arg15.view.read (Elt Ideal) X15) (arg8.view.read (Elt Ideal) X8) 4 m' pos := by
  have hs := start1 v1 hv k
  pointwise [trip.sl.v1545, trip.sl.cst_469]
  refine Finset.sum_congr rfl fun k' _ => ?_
  rw [signs4, signs_apply]
  congr 1
  · exact query_window96 arg15 X15 _ _ _ 4 m m' hm k' rfl rfl rfl
  · exact congrArg (fun w : BitVec 8 => if w.getLsbD (bitOf k') then (2 : EReal) else 0)
      (bytes_window arg8 X8 _ _ _ 4 (byteOf k') p pos rfl rfl rfl (by
        show (k1_mult1 v1 k).toNat + p.val = pos.val
        omega))

theorem signs5 : trip.sl.v1633 (F := Ideal) c arg8 v1 k1_hw1 X8 k = signs (trip.sl.v1551 (F := Ideal) c arg8 v1 k1_hw1 X8 k) := rfl

include hv in
theorem product5 (m : Fin 48) (m' : Fin 96) (hm : m.val = m'.val) (p : Fin 512) (pos : Fin 3584) (hp : 512 * k.val + p.val = pos.val) :
    trip.sl.v1636 (F := Ideal) c arg8 arg15 v1 k1_hw1 X8 X15 k (ix2 m p)
      = product (arg15.view.read (Elt Ideal) X15) (arg8.view.read (Elt Ideal) X8) 5 m' pos := by
  have hs := start1 v1 hv k
  pointwise [trip.sl.v1636, trip.sl.cst_430]
  refine Finset.sum_congr rfl fun k' _ => ?_
  rw [signs5, signs_apply]
  congr 1
  · exact query_window48 arg15 X15 _ _ _ 5 m m' hm k' rfl rfl rfl
  · exact congrArg (fun w : BitVec 8 => if w.getLsbD (bitOf k') then (2 : EReal) else 0)
      (bytes_window arg8 X8 _ _ _ 5 (byteOf k') p pos rfl rfl rfl (by
        show (k1_mult1 v1 k).toNat + p.val = pos.val
        omega))

theorem signs6 : trip.sl.v1722 (F := Ideal) c arg8 v1 k1_hw1 X8 k = signs (trip.sl.v1640 (F := Ideal) c arg8 v1 k1_hw1 X8 k) := rfl

include hv in
theorem product6 (m : Fin 96) (m' : Fin 96) (hm : m.val = m'.val) (p : Fin 512) (pos : Fin 3584) (hp : 512 * k.val + p.val = pos.val) :
    trip.sl.v1725 (F := Ideal) c arg8 arg15 v1 k1_hw1 X8 X15 k (ix2 m p)
      = product (arg15.view.read (Elt Ideal) X15) (arg8.view.read (Elt Ideal) X8) 6 m' pos := by
  have hs := start1 v1 hv k
  pointwise [trip.sl.v1725, trip.sl.cst_469]
  refine Finset.sum_congr rfl fun k' _ => ?_
  rw [signs6, signs_apply]
  congr 1
  · exact query_window96 arg15 X15 _ _ _ 6 m m' hm k' rfl rfl rfl
  · exact congrArg (fun w : BitVec 8 => if w.getLsbD (bitOf k') then (2 : EReal) else 0)
      (bytes_window arg8 X8 _ _ _ 6 (byteOf k') p pos rfl rfl rfl (by
        show (k1_mult1 v1 k).toNat + p.val = pos.val
        omega))

theorem signs7 : trip.sl.v1813 (F := Ideal) c arg8 v1 k1_hw1 X8 k = signs (trip.sl.v1731 (F := Ideal) c arg8 v1 k1_hw1 X8 k) := rfl

include hv in
theorem product7 (m : Fin 48) (m' : Fin 96) (hm : m.val = m'.val) (p : Fin 512) (pos : Fin 3584) (hp : 512 * k.val + p.val = pos.val) :
    trip.sl.v1816 (F := Ideal) c arg8 arg15 v1 k1_hw1 X8 X15 k (ix2 m p)
      = product (arg15.view.read (Elt Ideal) X15) (arg8.view.read (Elt Ideal) X8) 7 m' pos := by
  have hs := start1 v1 hv k
  pointwise [trip.sl.v1816, trip.sl.cst_430]
  refine Finset.sum_congr rfl fun k' _ => ?_
  rw [signs7, signs_apply]
  congr 1
  · exact query_window48 arg15 X15 _ _ _ 7 m m' hm k' rfl rfl rfl
  · exact congrArg (fun w : BitVec 8 => if w.getLsbD (bitOf k') then (2 : EReal) else 0)
      (bytes_window arg8 X8 _ _ _ 7 (byteOf k') p pos rfl rfl rfl (by
        show (k1_mult1 v1 k).toNat + p.val = pos.val
        omega))

include hv in
theorem raw0 (m : Fin 48) (p : Fin 512) (pos : Fin 3584) (hp : 512 * k.val + p.val = pos.val) :
    trip.sl.v1276 (F := Ideal) c arg8 arg15 v1 k1_hw1 X8 X15 k (ix2 m p)
      = rawAt (arg15.view.read (Elt Ideal) X15) (arg8.view.read (Elt Ideal) X8) 0 m pos := by
  pointwise [trip.sl.v1276, trip.sl.v1275]
  show _ = product _ _ 0 ⟨0 + m.val, _⟩ pos + product _ _ 1 ⟨0 + m.val, _⟩ pos
  rw [product0 c arg8 arg15 v1 hv k1_hw1 X8 X15 k _ ⟨0 + m.val, by omega⟩ (by simp) p pos hp]
  rw [product1 c arg8 arg15 v1 hv k1_hw1 X8 X15 k _ ⟨0 + m.val, by omega⟩ (by simp) p pos hp]

include hv in
theorem raw1 (m : Fin 48) (p : Fin 512) (pos : Fin 3584) (hp : 512 * k.val + p.val = pos.val) :
    trip.sl.v1456 (F := Ideal) c arg8 arg15 v1 k1_hw1 X8 X15 k (ix2 m p)
      = rawAt (arg15.view.read (Elt Ideal) X15) (arg8.view.read (Elt Ideal) X8) 1 m pos := by
  pointwise [trip.sl.v1456, trip.sl.v1366, trip.sl.v1277, trip.sl.v1455]
  show _ = product _ _ 1 ⟨48 + m.val, _⟩ pos + product _ _ 2 ⟨0 + m.val, _⟩ pos + product _ _ 3 ⟨0 + m.val, _⟩ pos
  rw [product1 c arg8 arg15 v1 hv k1_hw1 X8 X15 k _ ⟨48 + m.val, by omega⟩ (by simp) p pos hp]
  rw [product2 c arg8 arg15 v1 hv k1_hw1 X8 X15 k _ ⟨0 + m.val, by omega⟩ (by simp) p pos hp]
  rw [product3 c arg8 arg15 v1 hv k1_hw1 X8 X15 k _ ⟨0 + m.val, by omega⟩ (by simp) p pos hp]

include hv in
theorem raw2 (m : Fin 48) (p : Fin 512) (pos : Fin 3584) (hp : 512 * k.val + p.val = pos.val) :
    trip.sl.v1547 (F := Ideal) c arg8 arg15 v1 k1_hw1 X8 X15 k (ix2 m p)
      = rawAt (arg15.view.read (Elt Ideal) X15) (arg8.view.read (Elt Ideal) X8) 2 m pos := by
  pointwise [trip.sl.v1547, trip.sl.v1457, trip.sl.v1546]
  show _ = product _ _ 3 ⟨48 + m.val, _⟩ pos + product _ _ 4 ⟨0 + m.val, _⟩ pos
  rw [product3 c arg8 arg15 v1 hv k1_hw1 X8 X15 k _ ⟨48 + m.val, by omega⟩ (by simp) p pos hp]
  rw [product4 c arg8 arg15 v1 hv k1_hw1 X8 X15 k _ ⟨0 + m.val, by omega⟩ (by simp) p pos hp]

include hv in
theorem raw3 (m : Fin 48) (p : Fin 512) (pos : Fin 3584) (hp : 512 * k.val + p.val = pos.val) :
    trip.sl.v1727 (F := Ideal) c arg8 arg15 v1 k1_hw1 X8 X15 k (ix2 m p)
      = rawAt (arg15.view.read (Elt Ideal) X15) (arg8.view.read (Elt Ideal) X8) 3 m pos := by
  pointwise [trip.sl.v1727, trip.sl.v1637, trip.sl.v1548, trip.sl.v1726]
  show _ = product _ _ 4 ⟨48 + m.val, _⟩ pos + product _ _ 5 ⟨0 + m.val, _⟩ pos + product _ _ 6 ⟨0 + m.val, _⟩ pos
  rw [product4 c arg8 arg15 v1 hv k1_hw1 X8 X15 k _ ⟨48 + m.val, by omega⟩ (by simp) p pos hp]
  rw [product5 c arg8 arg15 v1 hv k1_hw1 X8 X15 k _ ⟨0 + m.val, by omega⟩ (by simp) p pos hp]
  rw [product6 c arg8 arg15 v1 hv k1_hw1 X8 X15 k _ ⟨0 + m.val, by omega⟩ (by simp) p pos hp]

include hv in
theorem raw4 (m : Fin 48) (p : Fin 512) (pos : Fin 3584) (hp : 512 * k.val + p.val = pos.val) :
    trip.sl.v1817 (F := Ideal) c arg8 arg15 v1 k1_hw1 X8 X15 k (ix2 m p)
      = rawAt (arg15.view.read (Elt Ideal) X15) (arg8.view.read (Elt Ideal) X8) 4 m pos := by
  pointwise [trip.sl.v1817, trip.sl.v1728]
  show _ = product _ _ 6 ⟨48 + m.val, _⟩ pos + product _ _ 7 ⟨0 + m.val, _⟩ pos
  rw [product6 c arg8 arg15 v1 hv k1_hw1 X8 X15 k _ ⟨48 + m.val, by omega⟩ (by simp) p pos hp]
  rw [product7 c arg8 arg15 v1 hv k1_hw1 X8 X15 k _ ⟨0 + m.val, by omega⟩ (by simp) p pos hp]

/-- The factor a norm is multiplied by. -/
def scale : EReal := trip.sl.cst_706 (F := Ideal)

include hv in
theorem norms (kv : Fin 8) (p : Fin 512) (pos : Fin 3584) (hp : 512 * k.val + p.val = pos.val) :
    trip.sl.v1823 (F := Ideal) c arg9 v1 k1_hw1 X9 k (ix2 kv p) = arg9.view.read (Elt Ideal) X9 (ix3 (0 : Fin 1) kv pos) * scale := by
  have hs := start1 v1 hv k
  pointwise [trip.sl.v1823, trip.sl.v1822, trip.sl.v1821]
  refine congrArg (· * scale) (norms_window arg9 X9 _ _ _ kv p pos rfl rfl ?_)
  show (k1_mult1 v1 k).toNat + p.val = pos.val
  omega

include hv in
theorem mask (p : Fin 512) (pos : Fin 3584) (hp : 512 * k.val + p.val = pos.val) :
    trip.sl.v1831 (F := Ideal) v1 k (ix2 (0 : Fin 1) p) = if pos.val < v1.toNat then 1#1 else 0#1 := by
  have hs := start1 v1 hv k
  pointwise [trip.sl.v1831, trip.sl.v1830, trip.sl.v1829, trip.sl.v1828, trip.sl.v1827]
  have e : IntOp.addi (BitVec.ofNat 32 p.val) (trip.sl.v1097 (F := Ideal) v1 k) = BitVec.ofNat 32 pos.val := by
    show BitVec.ofNat 32 p.val + k1_mult1 v1 k = _
    apply BitVec.eq_of_toNat_eq
    rw [BitVec.toNat_add, hs, BitVec.toNat_ofNat, BitVec.toNat_ofNat]
    have := pos.isLt
    omega
  have hp' : (BitVec.ofNat 32 pos.val).toNat = pos.val := by rw [BitVec.toNat_ofNat]; have := pos.isLt; omega
  rw [e, slt_eq _ _ (by rw [hp']; have := pos.isLt; omega) (by omega), hp']

end

/-- The masked score of head `8 * j + r` of token `t` at a position, from what the body loads. -/
def scoreTile (Q : S8x96x256.Idx → EReal) (B : S1x8x32x3584.Idx → BitVec 8) (N : S1x8x3584.Idx → EReal) (S : S240x1.Idx → EReal) (len : ℕ)
    (j : Fin 5) (t : Fin 6) (r : Fin 8) (pos : Fin 3584) : EReal :=
  if pos.val < len then
    (rawAt Q B j ⟨t.val * 8 + r.val, by omega⟩ pos - S (ix2 (⟨48 * j.val + (t.val * 8 + r.val), by omega⟩ : Fin 240) (0 : Fin 1)))
      * (N (ix3 (0 : Fin 1) (⟨(8 * j.val + r.val) / 5, by omega⟩ : Fin 8) pos) * scale)
  else 0

theorem select_mask (b : Prop) [Decidable b] (x : EReal) : Scalar.select (if b then 1#1 else 0#1) x 0 = if b then x else 0 := by
  split <;> rfl

section
variable (c : Dev nD) (arg8 : Memref sig .tc .vmem S1x8x32x3584 .i8) (arg9 : Memref sig .tc .vmem S1x8x3584 .bf16) (arg15 : Memref sig .tc .vmem S8x96x256 .bf16)
  (v1 : BitVec 32) (hv : v1.toNat ≤ 3584) (k1_hw1 : k1_chk1 v1) (X8 : Bf (F := Ideal) c arg8) (X9 : Bf (F := Ideal) c arg9) (X15 : Bf (F := Ideal) c arg15)
  (k : Fin (k1_t1_loop v1).trips)

variable (v13 : FVec Ideal S240x1 .f32)

theorem tile0_core (z : Fin 1) (t : Fin 6) (r : Fin 8) (p : Fin 512) :
    k1_pay135 (trip.sl.v1854 (F := Ideal) c arg8 arg9 arg15 v1 k1_hw1 v13 rows8 X8 X9 X15 k) (ix4 z t r p)
      = Scalar.select (trip.sl.v1831 (F := Ideal) v1 k (ix2 (0 : Fin 1) p))
          ((trip.sl.v1276 (F := Ideal) c arg8 arg15 v1 k1_hw1 X8 X15 k (ix2 (⟨t.val * 8 + r.val, by omega⟩ : Fin 48) p)
              - v13 (ix2 (⟨t.val * 8 + r.val, by omega⟩ : Fin 240) (0 : Fin 1)))
            * trip.sl.v1823 (F := Ideal) c arg9 v1 k1_hw1 X9 k (ix2 (⟨r.val / 5, by omega⟩ : Fin 8) p)) (0 : EReal) := by
  obtain ⟨r, hr⟩ := r
  pointwise [k1_pay135, trip.sl.v1854, trip.sl.v1853, trip.sl.v1852, trip.sl.v1851, trip.sl.v1850, trip.sl.v1849, trip.sl.v1848, trip.sl.v1847, trip.sl.v1846,
    trip.sl.v1845, trip.sl.v1844, trip.sl.v1843, trip.sl.v1842, trip.sl.v1841, trip.sl.v1840, trip.sl.v1839, trip.sl.v1838, trip.sl.v1836, trip.sl.v1834,
    trip.sl.v1833, trip.sl.v1832, trip.sl.v1173, trip.sl.v1148, trip.sl.cst_711, rows8]
  interval_cases r <;> rfl

theorem tile0_apply (z : Fin 1) (t : Fin 6) (r : Fin 8) (p : Fin 512) :
    k1_pay135 (trip.sl.v1854 (F := Ideal) c arg8 arg9 arg15 v1 k1_hw1 v13 rows8 X8 X9 X15 k) (ix4 z t r p)
      = Scalar.select (trip.sl.v1831 (F := Ideal) v1 k (ix2 (0 : Fin 1) p))
          ((trip.sl.v1276 (F := Ideal) c arg8 arg15 v1 k1_hw1 X8 X15 k (ix2 (⟨t.val * 8 + r.val, by omega⟩ : Fin 48) p)
              - v13 (ix2 (⟨0 + (t.val * 8 + r.val), by omega⟩ : Fin 240) (0 : Fin 1)))
            * trip.sl.v1823 (F := Ideal) c arg9 v1 k1_hw1 X9 k (ix2 (⟨(0 + r.val) / 5, by omega⟩ : Fin 8) p)) (0 : EReal) := by
  simp only [Nat.zero_add]
  exact tile0_core c arg8 arg9 arg15 v1 k1_hw1 X8 X9 X15 k v13 z t r p

include hv in
theorem piece0 (z : Fin 1) (t : Fin 6) (r : Fin 8) (p : Fin 512) (pos : Fin 3584) (hp : 512 * k.val + p.val = pos.val) :
    k1_pay135 (trip.sl.v1854 (F := Ideal) c arg8 arg9 arg15 v1 k1_hw1 v13 rows8 X8 X9 X15 k) (ix4 z t r p)
      = scoreTile (arg15.view.read (Elt Ideal) X15) (arg8.view.read (Elt Ideal) X8) (arg9.view.read (Elt Ideal) X9) v13 v1.toNat 0 t r pos := by
  refine (tile0_apply c arg8 arg9 arg15 v1 k1_hw1 X8 X9 X15 k v13 z t r p).trans ?_
  rw [mask v1 hv k p pos hp, raw0 c arg8 arg15 v1 hv k1_hw1 X8 X15 k _ p pos hp, norms c arg9 v1 hv k1_hw1 X9 k _ p pos hp]
  exact select_mask _ _

include hv in
theorem piece1 (z : Fin 1) (t : Fin 6) (r : Fin 8) (p : Fin 512) (pos : Fin 3584) (hp : 512 * k.val + p.val = pos.val) :
    k1_pay138 v13 rows8 (trip.sl.v1456 (F := Ideal) c arg8 arg15 v1 k1_hw1 X8 X15 k) (trip.sl.v1823 (F := Ideal) c arg9 v1 k1_hw1 X9 k) (trip.sl.v1831 (F := Ideal) v1 k) (ix4 z t r p)
      = scoreTile (arg15.view.read (Elt Ideal) X15) (arg8.view.read (Elt Ideal) X8) (arg9.view.read (Elt Ideal) X9) v13 v1.toNat 1 t r pos := by
  refine (tile1_apply v13 _ (trip.sl.v1823 (F := Ideal) c arg9 v1 k1_hw1 X9 k) (trip.sl.v1831 (F := Ideal) v1 k) z t r p).trans ?_
  rw [mask v1 hv k p pos hp, raw1 c arg8 arg15 v1 hv k1_hw1 X8 X15 k _ p pos hp, norms c arg9 v1 hv k1_hw1 X9 k _ p pos hp]
  exact select_mask _ _

include hv in
theorem piece2 (z : Fin 1) (t : Fin 6) (r : Fin 8) (p : Fin 512) (pos : Fin 3584) (hp : 512 * k.val + p.val = pos.val) :
    k1_pay142 v13 rows8 (trip.sl.v1547 (F := Ideal) c arg8 arg15 v1 k1_hw1 X8 X15 k) (trip.sl.v1823 (F := Ideal) c arg9 v1 k1_hw1 X9 k) (trip.sl.v1831 (F := Ideal) v1 k) (ix4 z t r p)
      = scoreTile (arg15.view.read (Elt Ideal) X15) (arg8.view.read (Elt Ideal) X8) (arg9.view.read (Elt Ideal) X9) v13 v1.toNat 2 t r pos := by
  refine (tile2_apply v13 _ (trip.sl.v1823 (F := Ideal) c arg9 v1 k1_hw1 X9 k) (trip.sl.v1831 (F := Ideal) v1 k) z t r p).trans ?_
  rw [mask v1 hv k p pos hp, raw2 c arg8 arg15 v1 hv k1_hw1 X8 X15 k _ p pos hp, norms c arg9 v1 hv k1_hw1 X9 k _ p pos hp]
  exact select_mask _ _

include hv in
theorem piece3 (z : Fin 1) (t : Fin 6) (r : Fin 8) (p : Fin 512) (pos : Fin 3584) (hp : 512 * k.val + p.val = pos.val) :
    k1_pay146 v13 rows8 (trip.sl.v1727 (F := Ideal) c arg8 arg15 v1 k1_hw1 X8 X15 k) (trip.sl.v1823 (F := Ideal) c arg9 v1 k1_hw1 X9 k) (trip.sl.v1831 (F := Ideal) v1 k) (trip.sl.r_5 (F := Ideal) c arg9 v1 k1_hw1 rows8 X9 k) (ix4 z t r p)
      = scoreTile (arg15.view.read (Elt Ideal) X15) (arg8.view.read (Elt Ideal) X8) (arg9.view.read (Elt Ideal) X9) v13 v1.toNat 3 t r pos := by
  refine (tile3_apply v13 _ (trip.sl.v1823 (F := Ideal) c arg9 v1 k1_hw1 X9 k) (trip.sl.v1831 (F := Ideal) v1 k) z t r p).trans ?_
  rw [mask v1 hv k p pos hp, raw3 c arg8 arg15 v1 hv k1_hw1 X8 X15 k _ p pos hp, norms c arg9 v1 hv k1_hw1 X9 k _ p pos hp]
  exact select_mask _ _

include hv in
theorem piece4 (z : Fin 1) (t : Fin 6) (r : Fin 8) (p : Fin 512) (pos : Fin 3584) (hp : 512 * k.val + p.val = pos.val) :
    k1_pay150 (trip.sl.r_7 (F := Ideal) c arg8 arg9 arg15 v1 k1_hw1 v13 rows8 X8 X9 X15 k) (trip.sl.r_8 (F := Ideal) v1 k) (trip.sl.cst_711 (F := Ideal)) (ix4 z t r p)
      = scoreTile (arg15.view.read (Elt Ideal) X15) (arg8.view.read (Elt Ideal) X8) (arg9.view.read (Elt Ideal) X9) v13 v1.toNat 4 t r pos := by
  refine (tile4_apply v13 _ (trip.sl.v1823 (F := Ideal) c arg9 v1 k1_hw1 X9 k) (trip.sl.v1831 (F := Ideal) v1 k) z t r p).trans ?_
  rw [mask v1 hv k p pos hp, raw4 c arg8 arg15 v1 hv k1_hw1 X8 X15 k _ p pos hp, norms c arg9 v1 hv k1_hw1 X9 k _ p pos hp]
  exact select_mask _ _
end

end Cert.Proof.KernelIdeal

end
-- ==== Proof.KernelIdeal.Pieces.lean ====
/-
  The pieces of the scores the body writes are pieces of one function of the block's index, and cover the block.
-/
module

public import proofs.«01_k».proof.Proof.KernelIdeal.Tile

@[expose] public section

set_option maxRecDepth 65536
set_option maxHeartbeats 200000

noncomputable section

namespace Cert.Proof.KernelIdeal

open Cert.KernelIdeal Cert.KernelIdeal.Gen
open Idealize.ShloMosaic

/-- The block of scores, as a function of its index. -/
def scoreFn (Q : S8x96x256.Idx → EReal) (B : S1x8x32x3584.Idx → BitVec 8) (N : S1x8x3584.Idx → EReal) (S : S240x1.Idx → EReal) (len : ℕ)
    (y : S1x6x40x3584.Idx) : EReal :=
  scoreTile Q B N S len (⟨(y 2).val / 8, by have h : (y 2).val < 40 := (y 2).isLt; omega⟩ : Fin 5) (⟨(y 1).val, (y 1).isLt⟩ : Fin 6)
    (⟨(y 2).val % 8, by omega⟩ : Fin 8) (⟨(y 3).val, (y 3).isLt⟩ : Fin 3584)

/-- A unit rectangle of one group of heads over one chunk, at an index. -/
theorem scoreFn_emb (Q : S8x96x256.Idx → EReal) (B : S1x8x32x3584.Idx → BitVec 8) (N : S1x8x3584.Idx → EReal) (S : S240x1.Idx → EReal) (len : ℕ)
    (off : Fin 4 → ℕ) (inb : ∀ a, off a + S1x6x8x512.size a ≤ S1x6x40x3584.size a) (j : Fin 5) (k : ℕ)
    (z : Fin 1) (t : Fin 6) (r : Fin 8) (p : Fin 512) (pos : Fin 3584) (hp : 512 * k + p.val = pos.val)
    (h1 : off 1 = 0) (h2 : off 2 = 8 * j.val) (h3 : off 3 = 512 * k) :
    scoreFn Q B N S len ((Rect.unit (s := S1x6x40x3584) off S1x6x8x512.size inb).emb (ix4 z t r p : S1x6x8x512.Idx)) = scoreTile Q B N S len j t r pos := by
  unfold scoreFn
  congr 1
  · exact Fin.ext (show (off 2 + 1 * r.val) / 8 = j.val by omega)
  · exact Fin.ext (show off 1 + 1 * t.val = t.val by omega)
  · exact Fin.ext (show (off 2 + 1 * r.val) % 8 = r.val by omega)
  · exact Fin.ext (show off 3 + 1 * p.val = pos.val by omega)

theorem mem_tile (off : Fin 4 → ℕ) (inb : ∀ a, off a + S1x6x8x512.size a ≤ S1x6x40x3584.size a) (j k : ℕ) (y : S1x6x40x3584.Idx)
    (h0 : off 0 = 0) (h1 : off 1 = 0) (h2 : off 2 = 8 * j) (h3 : off 3 = 512 * k) (hj : (y 2).val / 8 = j) (hk : (y 3).val / 512 = k) :
    y ∈ (Rect.unit (s := S1x6x40x3584) off S1x6x8x512.size inb).set := by
  rw [Rect.mem_set_unit]
  intro a
  have b0 : (y 0).val < 1 := (y 0).isLt
  have b1 : (y 1).val < 6 := (y 1).isLt
  match a with
  | ⟨0, _⟩ => exact ⟨by show off 0 ≤ (y 0).val; omega, by show (y 0).val < off 0 + 1; omega⟩
  | ⟨1, _⟩ => exact ⟨by show off 1 ≤ (y 1).val; omega, by show (y 1).val < off 1 + 6; omega⟩
  | ⟨2, _⟩ => exact ⟨by show off 2 ≤ (y 2).val; omega, by show (y 2).val < off 2 + 8; omega⟩
  | ⟨3, _⟩ => exact ⟨by show off 3 ≤ (y 3).val; omega, by show (y 3).val < off 3 + 512; omega⟩

theorem mem_chunk (off : Fin 4 → ℕ) (inb : ∀ a, off a + S1x6x40x512.size a ≤ S1x6x40x3584.size a) (k : ℕ) (y : S1x6x40x3584.Idx)
    (h0 : off 0 = 0) (h1 : off 1 = 0) (h2 : off 2 = 0) (h3 : off 3 = 512 * k) (hk : (y 3).val / 512 = k) :
    y ∈ (Rect.unit (s := S1x6x40x3584) off S1x6x40x512.size inb).set := by
  rw [Rect.mem_set_unit]
  intro a
  have b0 : (y 0).val < 1 := (y 0).isLt
  have b1 : (y 1).val < 6 := (y 1).isLt
  have b2 : (y 2).val < 40 := (y 2).isLt
  match a with
  | ⟨0, _⟩ => exact ⟨by show off 0 ≤ (y 0).val; omega, by show (y 0).val < off 0 + 1; omega⟩
  | ⟨1, _⟩ => exact ⟨by show off 1 ≤ (y 1).val; omega, by show (y 1).val < off 1 + 6; omega⟩
  | ⟨2, _⟩ => exact ⟨by show off 2 ≤ (y 2).val; omega, by show (y 2).val < off 2 + 40; omega⟩
  | ⟨3, _⟩ => exact ⟨by show off 3 ≤ (y 3).val; omega, by show (y 3).val < off 3 + 512; omega⟩

theorem scoreFn_beyond (Q : S8x96x256.Idx → EReal) (B : S1x8x32x3584.Idx → BitVec 8) (N : S1x8x3584.Idx → EReal) (S : S240x1.Idx → EReal) (len : ℕ)
    (off : Fin 4 → ℕ) (inb : ∀ a, off a + S1x6x40x512.size a ≤ S1x6x40x3584.size a) (k : ℕ) (x : S1x6x40x512.Idx)
    (h3 : off 3 = 512 * k) (hk : len ≤ 512 * k) :
    scoreFn Q B N S len ((Rect.unit (s := S1x6x40x3584) off S1x6x40x512.size inb).emb x) = 0 := by
  unfold scoreFn scoreTile
  rw [if_neg]
  show ¬ off 3 + 1 * (x 3).val < len
  omega

section
variable (c : Dev nD) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt Ideal .i32) (k1_hw1 : k1_chk1 v1) (v7 : FVec Ideal S240x256 .bf16) (v13 : FVec Ideal S240x1 .f32) (v602 : IVec S240x48 1) (v603 : Vec Ideal S1x48x256 .bf16)
    (X8 : Bf (F := Ideal) c arg8) (X9 : Bf (F := Ideal) c arg9) (X10 : Bf (F := Ideal) c arg10) (X11 : Bf (F := Ideal) c arg11) (X15 : Bf (F := Ideal) c arg15)
  (hv : v1.toNat ≤ 3584)

/-- The five pieces of a trip. -/
theorem trip_list (k : Fin (k1_t1_loop v1).trips) : (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 rows8 X8 X9 X10 X11 X15 k).1 =
    [⟨Rect.unit (s := S1x6x40x3584) (k1_off15 v1 k) S1x6x8x512.size (k1_off15_inb v1 k1_hw1 k), k1_pay150 (trip.sl.r_7 (F := Ideal) c arg8 arg9 arg15 v1 k1_hw1 v13 rows8 X8 X9 X15 k) (trip.sl.r_8 (F := Ideal) v1 k) (trip.sl.cst_711 (F := Ideal))⟩,
      ⟨Rect.unit (s := S1x6x40x3584) (k1_off14 v1 k) S1x6x8x512.size (k1_off14_inb v1 k1_hw1 k), k1_pay146 v13 rows8 (trip.sl.v1727 (F := Ideal) c arg8 arg15 v1 k1_hw1 X8 X15 k) (trip.sl.v1823 (F := Ideal) c arg9 v1 k1_hw1 X9 k) (trip.sl.v1831 (F := Ideal) v1 k) (trip.sl.r_5 (F := Ideal) c arg9 v1 k1_hw1 rows8 X9 k)⟩,
      ⟨Rect.unit (s := S1x6x40x3584) (k1_off13 v1 k) S1x6x8x512.size (k1_off13_inb v1 k1_hw1 k), k1_pay142 v13 rows8 (trip.sl.v1547 (F := Ideal) c arg8 arg15 v1 k1_hw1 X8 X15 k) (trip.sl.v1823 (F := Ideal) c arg9 v1 k1_hw1 X9 k) (trip.sl.v1831 (F := Ideal) v1 k)⟩,
      ⟨Rect.unit (s := S1x6x40x3584) (k1_off12 v1 k) S1x6x8x512.size (k1_off12_inb v1 k1_hw1 k), k1_pay138 v13 rows8 (trip.sl.v1456 (F := Ideal) c arg8 arg15 v1 k1_hw1 X8 X15 k) (trip.sl.v1823 (F := Ideal) c arg9 v1 k1_hw1 X9 k) (trip.sl.v1831 (F := Ideal) v1 k)⟩,
      ⟨Rect.unit (s := S1x6x40x3584) (k1_off11 v1 k) S1x6x8x512.size (k1_off11_inb v1 k1_hw1 k), k1_pay135 (trip.sl.v1854 (F := Ideal) c arg8 arg9 arg15 v1 k1_hw1 v13 rows8 X8 X9 X15 k)⟩] := rfl

include hv

/-- Each piece of a trip is a piece of the block of scores. -/
theorem trip_pieces (k : Fin (k1_t1_loop v1).trips) : ∀ p ∈ (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 rows8 X8 X9 X10 X11 X15 k).1,
    ∀ x, p.2 x = scoreFn (arg15.view.read (Elt Ideal) X15) (arg8.view.read (Elt Ideal) X8) (arg9.view.read (Elt Ideal) X9) v13 v1.toNat (p.1.emb x) := by
  have hs := start1 v1 hv k
  have ht := t1_trips v1 hv
  have hk := k.isLt
  rw [trip_list]
  intro p hp
  simp only [List.mem_cons, List.not_mem_nil, or_false] at hp
  rcases hp with rfl | rfl | rfl | rfl | rfl
  · intro x
    obtain ⟨z, t, r, p, rfl⟩ : ∃ (z : Fin 1) (t : Fin 6) (r : Fin 8) (p : Fin 512), x = (ix4 z t r p : S1x6x8x512.Idx) := ⟨_, _, _, _, eq_ix4 x⟩
    refine (piece4 c arg8 arg9 arg15 v1 hv k1_hw1 X8 X9 X15 k v13 z t r p ⟨512 * k.val + p.val, by omega⟩ rfl).trans ?_
    exact (scoreFn_emb _ _ _ _ _ _ (k1_off15_inb v1 k1_hw1 k) 4 k.val z t r p _ rfl rfl rfl hs).symm
  · intro x
    obtain ⟨z, t, r, p, rfl⟩ : ∃ (z : Fin 1) (t : Fin 6) (r : Fin 8) (p : Fin 512), x = (ix4 z t r p : S1x6x8x512.Idx) := ⟨_, _, _, _, eq_ix4 x⟩
    refine (piece3 c arg8 arg9 arg15 v1 hv k1_hw1 X8 X9 X15 k v13 z t r p ⟨512 * k.val + p.val, by omega⟩ rfl).trans ?_
    exact (scoreFn_emb _ _ _ _ _ _ (k1_off14_inb v1 k1_hw1 k) 3 k.val z t r p _ rfl rfl rfl hs).symm
  · intro x
    obtain ⟨z, t, r, p, rfl⟩ : ∃ (z : Fin 1) (t : Fin 6) (r : Fin 8) (p : Fin 512), x = (ix4 z t r p : S1x6x8x512.Idx) := ⟨_, _, _, _, eq_ix4 x⟩
    refine (piece2 c arg8 arg9 arg15 v1 hv k1_hw1 X8 X9 X15 k v13 z t r p ⟨512 * k.val + p.val, by omega⟩ rfl).trans ?_
    exact (scoreFn_emb _ _ _ _ _ _ (k1_off13_inb v1 k1_hw1 k) 2 k.val z t r p _ rfl rfl rfl hs).symm
  · intro x
    obtain ⟨z, t, r, p, rfl⟩ : ∃ (z : Fin 1) (t : Fin 6) (r : Fin 8) (p : Fin 512), x = (ix4 z t r p : S1x6x8x512.Idx) := ⟨_, _, _, _, eq_ix4 x⟩
    refine (piece1 c arg8 arg9 arg15 v1 hv k1_hw1 X8 X9 X15 k v13 z t r p ⟨512 * k.val + p.val, by omega⟩ rfl).trans ?_
    exact (scoreFn_emb _ _ _ _ _ _ (k1_off12_inb v1 k1_hw1 k) 1 k.val z t r p _ rfl rfl rfl hs).symm
  · intro x
    obtain ⟨z, t, r, p, rfl⟩ : ∃ (z : Fin 1) (t : Fin 6) (r : Fin 8) (p : Fin 512), x = (ix4 z t r p : S1x6x8x512.Idx) := ⟨_, _, _, _, eq_ix4 x⟩
    refine (piece0 c arg8 arg9 arg15 v1 hv k1_hw1 X8 X9 X15 k v13 z t r p ⟨512 * k.val + p.val, by omega⟩ rfl).trans ?_
    exact (scoreFn_emb _ _ _ _ _ _ (k1_off11_inb v1 k1_hw1 k) 0 k.val z t r p _ rfl rfl rfl hs).symm

/-- The pieces of a trip cover its chunk. -/
theorem trip_cover (k : Fin (k1_t1_loop v1).trips) (y : S1x6x40x3584.Idx) (hy : (y 3).val / 512 = k.val) :
    ∃ p ∈ (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 rows8 X8 X9 X10 X11 X15 k).1, y ∈ p.1.set := by
  have hs := start1 v1 hv k
  have hj : (y 2).val < 40 := (y 2).isLt
  rw [trip_list]
  simp only [List.mem_cons, List.not_mem_nil, or_false, exists_eq_or_imp, exists_eq_left]
  have hj' : (y 2).val / 8 = 4 ∨ (y 2).val / 8 = 3 ∨ (y 2).val / 8 = 2 ∨ (y 2).val / 8 = 1 ∨ (y 2).val / 8 = 0 := by omega
  rcases hj' with h | h | h | h | h
  · exact Or.inl (mem_tile _ _ 4 k.val y rfl rfl rfl hs h hy)
  · exact Or.inr (Or.inl (mem_tile _ _ 3 k.val y rfl rfl rfl hs h hy))
  · exact Or.inr (Or.inr (Or.inl (mem_tile _ _ 2 k.val y rfl rfl rfl hs h hy)))
  · exact Or.inr (Or.inr (Or.inr (Or.inl (mem_tile _ _ 1 k.val y rfl rfl rfl hs h hy))))
  · exact Or.inr (Or.inr (Or.inr (Or.inr (mem_tile _ _ 0 k.val y rfl rfl rfl hs h hy))))

/-- The same of the trips before the `n`-th. -/
theorem st1_pieces : ∀ n : ℕ, ∀ p ∈ st1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 rows8 X8 X9 X10 X11 X15 n,
    ∀ x, p.2 x = scoreFn (arg15.view.read (Elt Ideal) X15) (arg8.view.read (Elt Ideal) X8) (arg9.view.read (Elt Ideal) X9) v13 v1.toNat (p.1.emb x)
  | 0, p, hp => absurd hp List.not_mem_nil
  | n + 1, p, hp => by
    rw [st1] at hp
    split at hp
    · rcases List.mem_append.mp hp with h | h
      · exact trip_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 X8 X9 X10 X11 X15 hv _ p h
      · exact st1_pieces n p h
    · exact st1_pieces n p hp

theorem st1_cover (y : S1x6x40x3584.Idx) : ∀ n : ℕ, n ≤ (k1_t1_loop v1).trips → (y 3).val / 512 < n →
    ∃ p ∈ st1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 rows8 X8 X9 X10 X11 X15 n, y ∈ p.1.set
  | 0, _, h => absurd h (Nat.not_lt_zero _)
  | n + 1, hn, h => by
    rw [st1, dif_pos (Nat.lt_of_succ_le hn)]
    by_cases hy : (y 3).val / 512 = n
    · obtain ⟨p, hp, hm⟩ := trip_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 X8 X9 X10 X11 X15 hv ⟨n, Nat.lt_of_succ_le hn⟩ y hy
      exact ⟨p, List.mem_append_left _ hp, hm⟩
    · obtain ⟨p, hp, hm⟩ := st1_cover y n (Nat.le_of_succ_le hn) (by omega)
      exact ⟨p, List.mem_append_right _ hp, hm⟩

end

section
variable (v1 : BitVec 32) (hv : v1.toNat ≤ 3584) (k1_hw1 : k1_chk1 v1) (Q : S8x96x256.Idx → EReal) (B : S1x8x32x3584.Idx → BitVec 8)
  (N : S1x8x3584.Idx → EReal) (S : S240x1.Idx → EReal)

include hv

/-- Beyond the length the block is zero. -/
theorem st3_pieces : ∀ n : ℕ, ∀ p ∈ st3 (F := Ideal) v1 k1_hw1 n, ∀ x, p.2 x = scoreFn Q B N S v1.toNat (p.1.emb x)
  | 0, p, hp => absurd hp List.not_mem_nil
  | n + 1, p, hp => by
    rw [st3] at hp
    split at hp
    · rename_i h
      rcases List.mem_cons.mp hp with rfl | h'
      · intro x
        have hs := start3 v1 hv ⟨n, h⟩
        rw [scoreFn_beyond Q B N S v1.toNat _ _ ((v1.toNat + 511) / 512 + n) x hs (by omega)]
        exact Ideal.ofBits_zero_f32
      · exact st3_pieces n p h'
    · exact st3_pieces n p hp

theorem st3_cover (y : S1x6x40x3584.Idx) : ∀ n : ℕ, n ≤ (k1_t3_loop v1).trips → (v1.toNat + 511) / 512 ≤ (y 3).val / 512 →
    (y 3).val / 512 < (v1.toNat + 511) / 512 + n → ∃ p ∈ st3 (F := Ideal) v1 k1_hw1 n, y ∈ p.1.set
  | 0, _, h, h' => absurd h' (by omega)
  | n + 1, hn, h, h' => by
    rw [st3, dif_pos (Nat.lt_of_succ_le hn)]
    by_cases hy : (y 3).val / 512 = (v1.toNat + 511) / 512 + n
    · refine ⟨_, List.mem_cons_self, ?_⟩
      have hs := start3 v1 hv ⟨n, Nat.lt_of_succ_le hn⟩
      exact mem_chunk _ (k1_off38_inb v1 k1_hw1 ⟨n, Nat.lt_of_succ_le hn⟩) ((v1.toNat + 511) / 512 + n) y rfl rfl rfl hs hy
    · obtain ⟨p, hp, hm⟩ := st3_cover y n (Nat.le_of_succ_le hn) h (by omega)
      exact ⟨p, List.mem_cons_of_mem _ hp, hm⟩

end

end Cert.Proof.KernelIdeal

end
-- ==== Proof.KernelIdeal.Att.lean ====
/-
  The body of the call that attends over the cached positions, run once at symbolic operands and for a length in the
  range: its inputs as they were, the block of scores the pieces the body writes into it, and the rest at some contents.
-/
module

public import proofs.«01_k».proof.Proof.KernelIdeal.Loops

@[expose] public section

set_option maxRecDepth 65536
set_option maxHeartbeats 40000000

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The length of the sequence at point `i`, as the body reads it. -/
def attWord (c : Dev nD) (i : grid1.Coords) (arg1 : Memref sig .tc .smem S48 .i32) (X1 : Bf (F := F) c arg1) : BitVec 32 :=
  View.readAt (Elt F) arg1.view (Rect.unit (s := S48) (k1_off1 i) S1.size (k1_off1_inb i)).toLoadRect X1 (Shape.Idx.first (numel1_S1.symm ▸ Nat.one_pos))

/-- The pieces of the scores the body writes, the last first, with the proof that it runs there. -/
def attRun (c : Dev nD) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (X1 : Bf (F := F) c arg1) (X2 : Bf (F := F) c arg2) (X3 : Bf (F := F) c arg3) (X4 : Bf (F := F) c arg4) (X5 : Bf (F := F) c arg5) (X6 : Bf (F := F) c arg6) (X7 : Bf (F := F) c arg7) (X8 : Bf (F := F) c arg8) (X9 : Bf (F := F) c arg9) (X10 : Bf (F := F) c arg10) (X11 : Bf (F := F) c arg11) (f15 : Bf (F := F) c arg15) (hchk : ∀ w, w = attWord c i arg1 X1 → k1_chk1 w) :
    { W : List (View.Piece (Elt F) S1x6x40x3584 .f32) //
      ∀ (f12 : Bf (F := F) c arg12) (f13 : Bf (F := F) c arg13) (f14 : Bf (F := F) c arg14) (f16 : Bf (F := F) c arg16) (f17 : Bf (F := F) c arg17) (E : Set ℕ) (Q : PUnit → sProp 𝕄),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f : Bf (F := F) c arg12, (arg12.view.loc (c : Thread nD τ) ↦[arg12.view.set]{fullShare} f)) ∗ (arg13.view.loc (c : Thread nD τ) ↦[arg13.view.set]{fullShare} (arg13.view.writes (Elt F) f13 W)) ∗ (∃ f : Bf (F := F) c arg14, (arg14.view.loc (c : Thread nD τ) ↦[arg14.view.set]{fullShare} f)) ∗ (∃ f : Bf (F := F) c arg15, (arg15.view.loc (c : Thread nD τ) ↦[arg15.view.set]{fullShare} f)) ∗ (∃ f : Bf (F := F) c arg16, (arg16.view.loc (c : Thread nD τ) ↦[arg16.view.set]{fullShare} f)) ∗ (∃ f : Bf (F := F) c arg17, (arg17.view.loc (c : Thread nD τ) ↦[arg17.view.set]{fullShare} f))) -∗ Q ⟨⟩)) : sProp 𝕄)
      ⊢ wp frame (wpE (defs₀ (F := F)) Variants.none (c : Thread nD τ) none) E (cc1_attend (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q } := by
  refine ⟨?_, fun f12 f13 f14 f16 f17 E Q => ?run⟩
  case run =>
    rw [cc1_attend_eq_skeleton]
    iintro ⟨H1, H2, H3, H4, H5, H6, H7, H8, H9, H10, H11, H12, H13, H14, H15, H16, H17, Hk⟩
    sl_exec (disch := exact hchk _ rfl)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexists _; iexact H14
    isplitl [H15]; · iexists _; iexact H15
    isplitl [H16]; · iexists _; iexact H16
    iexists _; iexact H17

end Cert.Proof.KernelIdeal

end
-- ==== Proof.KernelIdeal.Queries.lean ====
/-
  The queries of the attention body, projected and masked by key head, read at an index.
-/
module

public import proofs.«01_k».proof.Proof.KernelIdeal.Pieces
public import proofs.«01_k».proof.Proof.KernelIdeal.Att

@[expose] public section

noncomputable section

namespace Cert.Proof.KernelIdeal

open Cert.KernelIdeal Cert.KernelIdeal.Gen
open Idealize.ShloMosaic

theorem head0 (m : Fin 48) (k : Fin 256) : attRun.sl.v56 (ix2 m k) = BitVec.ofNat 32 ((0 + m.val % 8) / 5) := by
  pointwise [attRun.sl.v56, attRun.sl.v53, attRun.sl.v48, attRun.sl.v37, attRun.sl.v36, attRun.sl.v30, attRun.sl.v26, attRun.sl.v22, attRun.sl.v14, attRun.sl.v17, attRun.sl.v19, attRun.sl.v24, attRun.sl.v20, attRun.sl.v29, attRun.sl.v40, attRun.sl.v39, attRun.sl.v47, attRun.sl.v50, attRun.sl.v33, attRun.sl.v34]
  revert m
  decide

theorem head1 (m : Fin 48) (k : Fin 256) : attRun.sl.v126 (ix2 m k) = BitVec.ofNat 32 ((8 + m.val % 8) / 5) := by
  pointwise [attRun.sl.v126, attRun.sl.v123, attRun.sl.v118, attRun.sl.v107, attRun.sl.v106, attRun.sl.v30, attRun.sl.v26, attRun.sl.v22, attRun.sl.v14, attRun.sl.v17, attRun.sl.v19, attRun.sl.v24, attRun.sl.v20, attRun.sl.v29, attRun.sl.v110, attRun.sl.v109, attRun.sl.v47, attRun.sl.v120, attRun.sl.v33, attRun.sl.v104]
  revert m
  decide

theorem head2 (m : Fin 48) (k : Fin 256) : attRun.sl.v231 (ix2 m k) = BitVec.ofNat 32 ((16 + m.val % 8) / 5) := by
  pointwise [attRun.sl.v231, attRun.sl.v228, attRun.sl.v223, attRun.sl.v212, attRun.sl.v211, attRun.sl.v30, attRun.sl.v26, attRun.sl.v22, attRun.sl.v14, attRun.sl.v17, attRun.sl.v19, attRun.sl.v24, attRun.sl.v20, attRun.sl.v29, attRun.sl.v206, attRun.sl.v215, attRun.sl.v214, attRun.sl.v47, attRun.sl.v225, attRun.sl.v33, attRun.sl.v209]
  revert m
  decide

theorem head3 (m : Fin 48) (k : Fin 256) : attRun.sl.v301 (ix2 m k) = BitVec.ofNat 32 ((24 + m.val % 8) / 5) := by
  pointwise [attRun.sl.v301, attRun.sl.v298, attRun.sl.v293, attRun.sl.v282, attRun.sl.v281, attRun.sl.v30, attRun.sl.v26, attRun.sl.v22, attRun.sl.v14, attRun.sl.v17, attRun.sl.v19, attRun.sl.v24, attRun.sl.v20, attRun.sl.v29, attRun.sl.v276, attRun.sl.v285, attRun.sl.v284, attRun.sl.v47, attRun.sl.v295, attRun.sl.v33, attRun.sl.v279]
  revert m
  decide

theorem head4 (m : Fin 48) (k : Fin 256) : attRun.sl.v406 (ix2 m k) = BitVec.ofNat 32 ((32 + m.val % 8) / 5) := by
  pointwise [attRun.sl.v406, attRun.sl.v403, attRun.sl.v398, attRun.sl.v387, attRun.sl.v386, attRun.sl.v30, attRun.sl.v26, attRun.sl.v22, attRun.sl.v14, attRun.sl.v17, attRun.sl.v19, attRun.sl.v24, attRun.sl.v20, attRun.sl.v29, attRun.sl.v381, attRun.sl.v390, attRun.sl.v389, attRun.sl.v47, attRun.sl.v400, attRun.sl.v33, attRun.sl.v384]
  revert m
  decide

section
variable (c : Dev nD) (arg2 : Memref sig .tc .vmem S1x240x128 .bf16) (arg3 : Memref sig .tc .vmem S128x256 .bf16)
  (X2 : Bf (F := Ideal) c arg2) (X3 : Bf (F := Ideal) c arg3)

theorem cast_x (v : S1x240x128.Idx → EReal) (hc : S1x240x128.ShapeCasts S240x128) (b : Fin 240) (p : Fin 128) :
    shapeCast S240x128 v hc (ix2 b p) = v (ix3 (0 : Fin 1) b p) := by
  pointwise []
theorem cast_proj (v : S128x256.Idx → EReal) (hc : S128x256.ShapeCasts S128x256) (b : Fin 128) (p : Fin 256) :
    shapeCast S128x256 v hc (ix2 b p) = v (ix2 b p) := by
  pointwise []

theorem rows_window {c : Dev nD} (arg2 : Memref sig .tc .vmem S1x240x128 .bf16) (X2 : Bf (F := Ideal) c arg2) (off : Fin 3 → ℕ)
    (inb : ∀ a, off a + S1x240x128.size a ≤ S1x240x128.size a) (hc : S1x240x128.ShapeCasts S240x128)
    (b : Fin 240) (p : Fin 128) (h0 : off 0 = 0) (h1 : off 1 = 0) (h2 : off 2 = 0) :
    shapeCast S240x128 (arg2.view.readAt (Elt Ideal) (Rect.unit (s := S1x240x128) off S1x240x128.size inb).toLoadRect X2) hc (ix2 b p)
      = arg2.view.read (Elt Ideal) X2 (ix3 (0 : Fin 1) b p) := by
  refine (cast_x _ _ _ _).trans ?_
  rw [View.readAt_apply]
  refine congrArg _ (funext fun a => ?_)
  match a with
  | ⟨0, _⟩ => exact Fin.ext (show off 0 + 1 * 0 = 0 by omega)
  | ⟨1, _⟩ => exact Fin.ext (show off 1 + 1 * b.val = b.val by omega)
  | ⟨2, _⟩ => exact Fin.ext (show off 2 + 1 * p.val = p.val by omega)

theorem proj_window {c : Dev nD} (arg3 : Memref sig .tc .vmem S128x256 .bf16) (X3 : Bf (F := Ideal) c arg3) (off : Fin 2 → ℕ)
    (inb : ∀ a, off a + S128x256.size a ≤ S128x256.size a) (hc : S128x256.ShapeCasts S128x256)
    (b : Fin 128) (p : Fin 256) (h0 : off 0 = 0) (h1 : off 1 = 0) :
    shapeCast S128x256 (arg3.view.readAt (Elt Ideal) (Rect.unit (s := S128x256) off S128x256.size inb).toLoadRect X3) hc (ix2 b p)
      = arg3.view.read (Elt Ideal) X3 (ix2 b p) := by
  refine (cast_proj _ _ _ _).trans ?_
  rw [View.readAt_apply]
  refine congrArg _ (funext fun a => ?_)
  match a with
  | ⟨0, _⟩ => exact Fin.ext (show off 0 + 1 * b.val = b.val by omega)
  | ⟨1, _⟩ => exact Fin.ext (show off 1 + 1 * p.val = p.val by omega)

/-- The projected queries. -/
def query (x : S1x240x128.Idx → EReal) (P : S128x256.Idx → EReal) (row : Fin 240) (k : Fin 256) : EReal :=
  ∑ d : Fin 128, x (ix3 (0 : Fin 1) row d) * P (ix2 d k)

theorem query_v7 (row : Fin 240) (k : Fin 256) : attRun.sl.v7 (F := Ideal) c arg2 arg3 X2 X3 (ix2 row k)
    = query (arg2.view.read (Elt Ideal) X2) (arg3.view.read (Elt Ideal) X3) row k := by
  pointwise [attRun.sl.v7, attRun.sl.v6, attRun.sl.cst]
  refine Finset.sum_congr rfl fun d _ => ?_
  congr 1
  · exact rows_window arg2 X2 _ _ _ row d rfl rfl rfl
  · exact proj_window arg3 X3 _ _ _ d k rfl rfl

theorem query_v13 (row : Fin 240) : attRun.sl.v13 (F := Ideal) c arg2 arg3 X2 X3 (ix2 row (0 : Fin 1))
    = ∑ k : Fin 256, query (arg2.view.read (Elt Ideal) X2) (arg3.view.read (Elt Ideal) X3) row k := by
  pointwise [attRun.sl.v13, attRun.sl.v12, attRun.sl.v11]
  exact Finset.sum_congr rfl fun k _ => query_v7 c arg2 arg3 X2 X3 row k

/-- The masked queries, as a function of the scratch array's index. -/
def maskedFn (q : Fin 240 → Fin 256 → EReal) (y : S8x96x256.Idx) : EReal :=
  if (8 * (5 * (y 0).val / 8 + (y 1).val / 48) + (y 1).val % 8) / 5 = (y 0).val then
    q ⟨(48 * (5 * (y 0).val / 8 + (y 1).val / 48) + (y 1).val % 48) % 240, Nat.mod_lt _ (by decide)⟩ ⟨(y 2).val, (y 2).isLt⟩ else 0

theorem maskedFn_emb (q : Fin 240 → Fin 256 → EReal) (off : Fin 3 → ℕ) (inb : ∀ a, off a + S1x48x256.size a ≤ S8x96x256.size a)
    (kv n : ℕ) (j : Fin 5) (z : Fin 1) (m : Fin 48) (k : Fin 256) (row : Fin 240)
    (h0 : off 0 = kv) (h1 : off 1 = 48 * n) (h2 : off 2 = 0) (hj : j.val = 5 * kv / 8 + n) (hr : row.val = 48 * j.val + m.val) :
    maskedFn q ((Rect.unit (s := S8x96x256) off S1x48x256.size inb).emb (ix3 z m k : S1x48x256.Idx))
      = if (8 * j.val + m.val % 8) / 5 = kv then q row k else 0 := by
  have e0 : (((Rect.unit (s := S8x96x256) off S1x48x256.size inb).emb (ix3 z m k : S1x48x256.Idx)) 0).val = kv := by
    show off 0 + 1 * z.val = kv; omega
  have e1 : (((Rect.unit (s := S8x96x256) off S1x48x256.size inb).emb (ix3 z m k : S1x48x256.Idx)) 1).val = 48 * n + m.val := by
    show off 1 + 1 * m.val = _; omega
  have e2 : (((Rect.unit (s := S8x96x256) off S1x48x256.size inb).emb (ix3 z m k : S1x48x256.Idx)) 2).val = k.val := by
    show off 2 + 1 * k.val = _; omega
  unfold maskedFn
  have ej : 5 * kv / 8 + (48 * n + m.val) / 48 = j.val := by omega
  have em : (48 * n + m.val) % 8 = m.val % 8 := by omega
  have er : (⟨(48 * (5 * (((Rect.unit (s := S8x96x256) off S1x48x256.size inb).emb (ix3 z m k : S1x48x256.Idx)) 0).val / 8
      + (((Rect.unit (s := S8x96x256) off S1x48x256.size inb).emb (ix3 z m k : S1x48x256.Idx)) 1).val / 48)
      + (((Rect.unit (s := S8x96x256) off S1x48x256.size inb).emb (ix3 z m k : S1x48x256.Idx)) 1).val % 48) % 240, Nat.mod_lt _ (by decide)⟩ : Fin 240) = row :=
    Fin.ext (by show (48 * _ + _) % 240 = _; rw [e0, e1, ej]; have := row.isLt; omega)
  rw [er, show (⟨_, (((Rect.unit (s := S8x96x256) off S1x48x256.size inb).emb (ix3 z m k : S1x48x256.Idx)) 2).isLt⟩ : Fin 256) = k from Fin.ext e2, e0, e1, ej, em]

theorem mem_masked (off : Fin 3 → ℕ) (inb : ∀ a, off a + S1x48x256.size a ≤ S8x96x256.size a) (kv : Fin 8) (m' : Fin 96) (k : Fin 256)
    (h0 : off 0 = kv.val) (h1 : off 1 ≤ m'.val ∧ m'.val < off 1 + 48) (h2 : off 2 = 0) :
    (ix3 kv m' k : S8x96x256.Idx) ∈ (Rect.unit (s := S8x96x256) off S1x48x256.size inb).set := by
  rw [Rect.mem_set_unit]
  intro a
  match a with
  | ⟨0, _⟩ => exact ⟨by show off 0 ≤ kv.val; omega, by show kv.val < off 0 + 1; omega⟩
  | ⟨1, _⟩ => exact h1
  | ⟨2, _⟩ => exact ⟨by show off 2 ≤ k.val; omega, by show k.val < off 2 + 256; omega⟩

theorem eq_word (a b : ℕ) (ha : a < 2 ^ 32) (hb : b < 2 ^ 32) : IntOp.cmpi .eq (BitVec.ofNat 32 a) (BitVec.ofNat 32 b) = if a = b then 1#1 else 0#1 := by
  have : (BitVec.ofNat 32 a == BitVec.ofNat 32 b) = decide (a = b) := by
    by_cases h : a = b
    · subst h; simp
    · rw [decide_eq_false h]
      refine beq_eq_false_iff_ne.mpr fun h' => h ?_
      have := congrArg BitVec.toNat h'
      rw [BitVec.toNat_ofNat, BitVec.toNat_ofNat] at this
      omega
  show BitVec.ofBool (BitVec.ofNat 32 a == BitVec.ofNat 32 b) = _
  rw [this]
  by_cases h : a = b <;> simp [h]

theorem masked_7_0 (z : Fin 1) (m : Fin 48) (k : Fin 256) : attRun.sl.v450 (F := Ideal) c arg2 arg3 X2 X3 (ix3 z m k)
    = if (32 + m.val % 8) / 5 = 7 then query (arg2.view.read (Elt Ideal) X2) (arg3.view.read (Elt Ideal) X3) ⟨192 + m.val, by omega⟩ k else 0 := by
  pointwise [attRun.sl.v450, attRun.sl.v447, attRun.sl.v446, attRun.sl.v442, attRun.sl.v409, attRun.sl.v11, attRun.sl.v60, attRun.sl.cst_18]
  rw [head4, query_v7, eq_word _ 7 (by omega) (by decide)]
  first
    | exact select_mask _ _
    | (simp only [Nat.zero_add]; exact select_mask _ _)

theorem masked_6_1 (z : Fin 1) (m : Fin 48) (k : Fin 256) : attRun.sl.v415 (F := Ideal) c arg2 arg3 X2 X3 (ix3 z m k)
    = if (32 + m.val % 8) / 5 = 6 then query (arg2.view.read (Elt Ideal) X2) (arg3.view.read (Elt Ideal) X3) ⟨192 + m.val, by omega⟩ k else 0 := by
  pointwise [attRun.sl.v415, attRun.sl.v412, attRun.sl.v411, attRun.sl.v372, attRun.sl.v409, attRun.sl.v11, attRun.sl.v60, attRun.sl.cst_18]
  rw [head4, query_v7, eq_word _ 6 (by omega) (by decide)]
  first
    | exact select_mask _ _
    | (simp only [Nat.zero_add]; exact select_mask _ _)

theorem masked_6_0 (z : Fin 1) (m : Fin 48) (k : Fin 256) : attRun.sl.v380 (F := Ideal) c arg2 arg3 X2 X3 (ix3 z m k)
    = if (24 + m.val % 8) / 5 = 6 then query (arg2.view.read (Elt Ideal) X2) (arg3.view.read (Elt Ideal) X3) ⟨144 + m.val, by omega⟩ k else 0 := by
  pointwise [attRun.sl.v380, attRun.sl.v377, attRun.sl.v376, attRun.sl.v372, attRun.sl.v304, attRun.sl.v11, attRun.sl.v60, attRun.sl.cst_18]
  rw [head3, query_v7, eq_word _ 6 (by omega) (by decide)]
  first
    | exact select_mask _ _
    | (simp only [Nat.zero_add]; exact select_mask _ _)

theorem masked_5_0 (z : Fin 1) (m : Fin 48) (k : Fin 256) : attRun.sl.v345 (F := Ideal) c arg2 arg3 X2 X3 (ix3 z m k)
    = if (24 + m.val % 8) / 5 = 5 then query (arg2.view.read (Elt Ideal) X2) (arg3.view.read (Elt Ideal) X3) ⟨144 + m.val, by omega⟩ k else 0 := by
  pointwise [attRun.sl.v345, attRun.sl.v342, attRun.sl.v341, attRun.sl.v33, attRun.sl.v304, attRun.sl.v11, attRun.sl.v60, attRun.sl.cst_18]
  rw [head3, query_v7, eq_word _ 5 (by omega) (by decide)]
  first
    | exact select_mask _ _
    | (simp only [Nat.zero_add]; exact select_mask _ _)

theorem masked_4_1 (z : Fin 1) (m : Fin 48) (k : Fin 256) : attRun.sl.v310 (F := Ideal) c arg2 arg3 X2 X3 (ix3 z m k)
    = if (24 + m.val % 8) / 5 = 4 then query (arg2.view.read (Elt Ideal) X2) (arg3.view.read (Elt Ideal) X3) ⟨144 + m.val, by omega⟩ k else 0 := by
  pointwise [attRun.sl.v310, attRun.sl.v307, attRun.sl.v306, attRun.sl.v267, attRun.sl.v304, attRun.sl.v11, attRun.sl.v60, attRun.sl.cst_18]
  rw [head3, query_v7, eq_word _ 4 (by omega) (by decide)]
  first
    | exact select_mask _ _
    | (simp only [Nat.zero_add]; exact select_mask _ _)

theorem masked_4_0 (z : Fin 1) (m : Fin 48) (k : Fin 256) : attRun.sl.v275 (F := Ideal) c arg2 arg3 X2 X3 (ix3 z m k)
    = if (16 + m.val % 8) / 5 = 4 then query (arg2.view.read (Elt Ideal) X2) (arg3.view.read (Elt Ideal) X3) ⟨96 + m.val, by omega⟩ k else 0 := by
  pointwise [attRun.sl.v275, attRun.sl.v272, attRun.sl.v271, attRun.sl.v267, attRun.sl.v234, attRun.sl.v11, attRun.sl.v60, attRun.sl.cst_18]
  rw [head2, query_v7, eq_word _ 4 (by omega) (by decide)]
  first
    | exact select_mask _ _
    | (simp only [Nat.zero_add]; exact select_mask _ _)

theorem masked_3_1 (z : Fin 1) (m : Fin 48) (k : Fin 256) : attRun.sl.v240 (F := Ideal) c arg2 arg3 X2 X3 (ix3 z m k)
    = if (16 + m.val % 8) / 5 = 3 then query (arg2.view.read (Elt Ideal) X2) (arg3.view.read (Elt Ideal) X3) ⟨96 + m.val, by omega⟩ k else 0 := by
  pointwise [attRun.sl.v240, attRun.sl.v237, attRun.sl.v236, attRun.sl.v197, attRun.sl.v234, attRun.sl.v11, attRun.sl.v60, attRun.sl.cst_18]
  rw [head2, query_v7, eq_word _ 3 (by omega) (by decide)]
  first
    | exact select_mask _ _
    | (simp only [Nat.zero_add]; exact select_mask _ _)

theorem masked_3_0 (z : Fin 1) (m : Fin 48) (k : Fin 256) : attRun.sl.v205 (F := Ideal) c arg2 arg3 X2 X3 (ix3 z m k)
    = if (8 + m.val % 8) / 5 = 3 then query (arg2.view.read (Elt Ideal) X2) (arg3.view.read (Elt Ideal) X3) ⟨48 + m.val, by omega⟩ k else 0 := by
  pointwise [attRun.sl.v205, attRun.sl.v202, attRun.sl.v201, attRun.sl.v197, attRun.sl.v129, attRun.sl.v11, attRun.sl.v60, attRun.sl.cst_18]
  rw [head1, query_v7, eq_word _ 3 (by omega) (by decide)]
  first
    | exact select_mask _ _
    | (simp only [Nat.zero_add]; exact select_mask _ _)

theorem masked_2_0 (z : Fin 1) (m : Fin 48) (k : Fin 256) : attRun.sl.v170 (F := Ideal) c arg2 arg3 X2 X3 (ix3 z m k)
    = if (8 + m.val % 8) / 5 = 2 then query (arg2.view.read (Elt Ideal) X2) (arg3.view.read (Elt Ideal) X3) ⟨48 + m.val, by omega⟩ k else 0 := by
  pointwise [attRun.sl.v170, attRun.sl.v167, attRun.sl.v166, attRun.sl.v162, attRun.sl.v129, attRun.sl.v11, attRun.sl.v60, attRun.sl.cst_18]
  rw [head1, query_v7, eq_word _ 2 (by omega) (by decide)]
  first
    | exact select_mask _ _
    | (simp only [Nat.zero_add]; exact select_mask _ _)

theorem masked_1_1 (z : Fin 1) (m : Fin 48) (k : Fin 256) : attRun.sl.v135 (F := Ideal) c arg2 arg3 X2 X3 (ix3 z m k)
    = if (8 + m.val % 8) / 5 = 1 then query (arg2.view.read (Elt Ideal) X2) (arg3.view.read (Elt Ideal) X3) ⟨48 + m.val, by omega⟩ k else 0 := by
  pointwise [attRun.sl.v135, attRun.sl.v132, attRun.sl.v131, attRun.sl.v47, attRun.sl.v129, attRun.sl.v11, attRun.sl.v60, attRun.sl.cst_18]
  rw [head1, query_v7, eq_word _ 1 (by omega) (by decide)]
  first
    | exact select_mask _ _
    | (simp only [Nat.zero_add]; exact select_mask _ _)

theorem masked_1_0 (z : Fin 1) (m : Fin 48) (k : Fin 256) : attRun.sl.v100 (F := Ideal) c arg2 arg3 X2 X3 (ix3 z m k)
    = if (0 + m.val % 8) / 5 = 1 then query (arg2.view.read (Elt Ideal) X2) (arg3.view.read (Elt Ideal) X3) ⟨0 + m.val, by omega⟩ k else 0 := by
  pointwise [attRun.sl.v100, attRun.sl.v97, attRun.sl.v96, attRun.sl.v47, attRun.sl.v59, attRun.sl.v11, attRun.sl.v60, attRun.sl.cst_18]
  rw [head0, query_v7, eq_word _ 1 (by omega) (by decide)]
  first
    | exact select_mask _ _
    | (simp only [Nat.zero_add]; exact select_mask _ _)

theorem masked_0_0 (z : Fin 1) (m : Fin 48) (k : Fin 256) : attRun.sl.v65 (F := Ideal) c arg2 arg3 X2 X3 (ix3 z m k)
    = if (0 + m.val % 8) / 5 = 0 then query (arg2.view.read (Elt Ideal) X2) (arg3.view.read (Elt Ideal) X3) ⟨0 + m.val, by omega⟩ k else 0 := by
  pointwise [attRun.sl.v65, attRun.sl.v62, attRun.sl.v61, attRun.sl.v19, attRun.sl.v59, attRun.sl.v11, attRun.sl.v60, attRun.sl.cst_18]
  rw [head0, query_v7, eq_word _ 0 (by omega) (by decide)]
  first
    | exact select_mask _ _
    | (simp only [Nat.zero_add]; exact select_mask _ _)

/-- The pieces of the masked queries the body stores, the last first. -/
def maskedList : List (View.Piece (Elt Ideal) S8x96x256 .bf16) :=
    [⟨Rect.unit (s := S8x96x256) ![7, 0, 0] S1x48x256.size (by decide), attRun.sl.v450 (F := Ideal) c arg2 arg3 X2 X3⟩,
      ⟨Rect.unit (s := S8x96x256) ![6, 48, 0] S1x48x256.size (by decide), attRun.sl.v415 (F := Ideal) c arg2 arg3 X2 X3⟩,
      ⟨Rect.unit (s := S8x96x256) ![6, 0, 0] S1x48x256.size (by decide), attRun.sl.v380 (F := Ideal) c arg2 arg3 X2 X3⟩,
      ⟨Rect.unit (s := S8x96x256) ![5, 0, 0] S1x48x256.size (by decide), attRun.sl.v345 (F := Ideal) c arg2 arg3 X2 X3⟩,
      ⟨Rect.unit (s := S8x96x256) ![4, 48, 0] S1x48x256.size (by decide), attRun.sl.v310 (F := Ideal) c arg2 arg3 X2 X3⟩,
      ⟨Rect.unit (s := S8x96x256) ![4, 0, 0] S1x48x256.size (by decide), attRun.sl.v275 (F := Ideal) c arg2 arg3 X2 X3⟩,
      ⟨Rect.unit (s := S8x96x256) ![3, 48, 0] S1x48x256.size (by decide), attRun.sl.v240 (F := Ideal) c arg2 arg3 X2 X3⟩,
      ⟨Rect.unit (s := S8x96x256) ![3, 0, 0] S1x48x256.size (by decide), attRun.sl.v205 (F := Ideal) c arg2 arg3 X2 X3⟩,
      ⟨Rect.unit (s := S8x96x256) ![2, 0, 0] S1x48x256.size (by decide), attRun.sl.v170 (F := Ideal) c arg2 arg3 X2 X3⟩,
      ⟨Rect.unit (s := S8x96x256) ![1, 48, 0] S1x48x256.size (by decide), attRun.sl.v135 (F := Ideal) c arg2 arg3 X2 X3⟩,
      ⟨Rect.unit (s := S8x96x256) ![1, 0, 0] S1x48x256.size (by decide), attRun.sl.v100 (F := Ideal) c arg2 arg3 X2 X3⟩,
      ⟨Rect.unit (s := S8x96x256) ![0, 0, 0] S1x48x256.size (by decide), attRun.sl.v65 (F := Ideal) c arg2 arg3 X2 X3⟩]

theorem masked_pieces : ∀ p ∈ maskedList c arg2 arg3 X2 X3, ∀ x, p.2 x
    = maskedFn (query (arg2.view.read (Elt Ideal) X2) (arg3.view.read (Elt Ideal) X3)) (p.1.emb x) := by
  intro p hp
  simp only [maskedList, List.mem_cons, List.not_mem_nil, or_false] at hp
  rcases hp with rfl | rfl | rfl | rfl | rfl | rfl | rfl | rfl | rfl | rfl | rfl | rfl
  · intro x
    obtain ⟨z, m, k, rfl⟩ : ∃ (z : Fin 1) (m : Fin 48) (k : Fin 256), x = (ix3 z m k : S1x48x256.Idx) := ⟨_, _, _, eq_ix3 x⟩
    refine (masked_7_0 c arg2 arg3 X2 X3 z m k).trans ?_
    exact (maskedFn_emb _ _ (by decide) 7 0 4 z m k ⟨192 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_6_1 c arg2 arg3 X2 X3 z m k).trans ?_
    exact (maskedFn_emb _ _ (by decide) 6 1 4 z m k ⟨192 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_6_0 c arg2 arg3 X2 X3 z m k).trans ?_
    exact (maskedFn_emb _ _ (by decide) 6 0 3 z m k ⟨144 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_5_0 c arg2 arg3 X2 X3 z m k).trans ?_
    exact (maskedFn_emb _ _ (by decide) 5 0 3 z m k ⟨144 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_4_1 c arg2 arg3 X2 X3 z m k).trans ?_
    exact (maskedFn_emb _ _ (by decide) 4 1 3 z m k ⟨144 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_4_0 c arg2 arg3 X2 X3 z m k).trans ?_
    exact (maskedFn_emb _ _ (by decide) 4 0 2 z m k ⟨96 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_3_1 c arg2 arg3 X2 X3 z m k).trans ?_
    exact (maskedFn_emb _ _ (by decide) 3 1 2 z m k ⟨96 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_3_0 c arg2 arg3 X2 X3 z m k).trans ?_
    exact (maskedFn_emb _ _ (by decide) 3 0 1 z m k ⟨48 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_2_0 c arg2 arg3 X2 X3 z m k).trans ?_
    exact (maskedFn_emb _ _ (by decide) 2 0 1 z m k ⟨48 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_1_1 c arg2 arg3 X2 X3 z m k).trans ?_
    exact (maskedFn_emb _ _ (by decide) 1 1 1 z m k ⟨48 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_1_0 c arg2 arg3 X2 X3 z m k).trans ?_
    exact (maskedFn_emb _ _ (by decide) 1 0 0 z m k ⟨0 + m.val, by omega⟩ rfl rfl rfl rfl rfl).symm
  · intro x
    obtain ⟨z, m, k, rfl⟩ : ∃ (z : Fin 1) (m : Fin 48) (k : Fin 256), x = (ix3 z m k : S1x48x256.Idx) := ⟨_, _, _, eq_ix3 x⟩
    refine (masked_0_0 c arg2 arg3 X2 X3 z m k).trans ?_
    exact (maskedFn_emb _ _ (by decide) 0 0 0 z m k ⟨0 + m.val, by omega⟩ rfl rfl rfl rfl rfl).symm

/-- The scratch array of masked queries, read where a key head's rows are stored. -/
theorem masked_read (arg15 : Memref sig .tc .vmem S8x96x256 .bf16) (f15 : Bf (F := Ideal) c arg15) (kv : Fin 8) (m' : Fin 96) (k : Fin 256)
    (h : ∃ p ∈ maskedList c arg2 arg3 X2 X3, (ix3 kv m' k : S8x96x256.Idx) ∈ p.1.set) :
    arg15.view.read (Elt Ideal) (arg15.view.writes (Elt Ideal) f15 (maskedList c arg2 arg3 X2 X3)) (ix3 kv m' k)
      = maskedFn (query (arg2.view.read (Elt Ideal) X2) (arg3.view.read (Elt Ideal) X3)) (ix3 kv m' k) :=
  View.read_writes_apply_of_pieces _ _ _ _ (masked_pieces c arg2 arg3 X2 X3) _ h

end

end Cert.Proof.KernelIdeal

end
-- ==== Proof.KernelIdeal.AttValue.lean ====
/-
  The block of scores the attention body leaves, as a function of the block's index and of what the body reads.
-/
module

public import proofs.«01_k».proof.Proof.KernelIdeal.Queries

@[expose] public section

set_option maxRecDepth 65536

noncomputable section

namespace Cert.Proof.KernelIdeal

open Cert.KernelIdeal Cert.KernelIdeal.Gen
open Idealize.ShloMosaic

/-- Two, or nothing: a sign bit as the products take it. -/
def sign2 (B : S1x8x32x3584.Idx → BitVec 8) (kv : Fin 8) (k : Fin 256) (pos : Fin 3584) : EReal :=
  if (B (ix4 (0 : Fin 1) kv (byteOf k) pos)).getLsbD (bitOf k) then 2 else 0

theorem product_masked (Q : S8x96x256.Idx → EReal) (B : S1x8x32x3584.Idx → BitVec 8) (q : Fin 240 → Fin 256 → EReal) (kv : Fin 8) (m' : Fin 96) (pos : Fin 3584)
    (hQ : ∀ k, Q (ix3 kv m' k) = maskedFn q (ix3 kv m' k)) (j : ℕ) (row : Fin 240) (m : ℕ) (hj : j = 5 * kv.val / 8 + m'.val / 48) (hm : m = m'.val % 48)
    (hr : row.val = 48 * j + m) :
    product Q B kv m' pos = if (8 * j + m % 8) / 5 = kv.val then ∑ k : Fin 256, q row k * sign2 B kv k pos else 0 := by
  have h1 : ∀ k, Q (ix3 kv m' k) = if (8 * j + m % 8) / 5 = kv.val then q row k else 0 := by
    intro k
    rw [hQ k]
    show (if (8 * (5 * kv.val / 8 + m'.val / 48) + m'.val % 8) / 5 = kv.val then
      q ⟨(48 * (5 * kv.val / 8 + m'.val / 48) + m'.val % 48) % 240, _⟩ k else 0) = _
    have er : (⟨(48 * (5 * kv.val / 8 + m'.val / 48) + m'.val % 48) % 240, Nat.mod_lt _ (by decide)⟩ : Fin 240) = row :=
      Fin.ext (by show (48 * (5 * kv.val / 8 + m'.val / 48) + m'.val % 48) % 240 = _; rw [← hj, ← hm]; have := row.isLt; omega)
    rw [er, ← hj, show m'.val % 8 = m % 8 by omega]
  unfold product
  by_cases h : (8 * j + m % 8) / 5 = kv.val
  · rw [if_pos h]
    exact Finset.sum_congr rfl fun k _ => by rw [h1, if_pos h]; rfl
  · rw [if_neg h]
    exact Finset.sum_eq_zero fun k _ => by rw [h1, if_neg h, zero_mul]

/-- Of the key heads that share a group of eight query heads, each query takes its own. -/
theorem raw_masked (Q : S8x96x256.Idx → EReal) (B : S1x8x32x3584.Idx → BitVec 8) (q : Fin 240 → Fin 256 → EReal)
    (hQ : ∀ (kv : Fin 8) (m' : Fin 96), (m'.val < 48 ∨ kv = 1 ∨ kv = 3 ∨ kv = 4 ∨ kv = 6) → ∀ k, Q (ix3 kv m' k) = maskedFn q (ix3 kv m' k))
    (j : Fin 5) (m : Fin 48) (pos : Fin 3584) :
    rawAt Q B j m pos = ∑ k : Fin 256, q ⟨48 * j.val + m.val, by omega⟩ k * sign2 B ⟨(8 * j.val + m.val % 8) / 5, by omega⟩ k pos := by
  have key : ∀ (kv : Fin 8), (⟨(8 * j.val + m.val % 8) / 5, by omega⟩ : Fin 8) = kv ↔ (8 * j.val + m.val % 8) / 5 = kv.val := fun kv => Fin.ext_iff
  have hr : m.val % 8 < 8 := Nat.mod_lt _ (by decide)
  match j with
  | ⟨0, _⟩ =>
    show product Q B 0 ⟨0 + m.val, _⟩ pos + product Q B 1 ⟨0 + m.val, _⟩ pos = _
    rw [product_masked Q B q 0 ⟨0 + m.val, by omega⟩ pos (hQ _ _ (Or.inl (by show 0 + m.val < 48; omega))) 0 ⟨0 + m.val, by omega⟩ m.val (by show 0 = 0/8 + (0 + m.val) / 48; omega) (by show m.val = (0 + m.val) % 48; omega) rfl]
    rw [product_masked Q B q 1 ⟨0 + m.val, by omega⟩ pos (hQ _ _ (Or.inl (by show 0 + m.val < 48; omega))) 0 ⟨0 + m.val, by omega⟩ m.val (by show 0 = 5/8 + (0 + m.val) / 48; omega) (by show m.val = (0 + m.val) % 48; omega) rfl]
    have hc : (0 + m.val % 8) / 5 = 0 ∨ (0 + m.val % 8) / 5 = 1 := by omega
    rcases hc with h | h
    · have e : (⟨(0 + m.val % 8) / 5, by omega⟩ : Fin 8) = 0 := Fin.ext h
      show _ = ∑ k : Fin 256, q ⟨0 + m.val, _⟩ k * sign2 B (⟨(0 + m.val % 8) / 5, by omega⟩ : Fin 8) k pos
      rw [e]
      rw [if_pos (by omega), if_neg (by omega), add_zero]
    · have e : (⟨(0 + m.val % 8) / 5, by omega⟩ : Fin 8) = 1 := Fin.ext h
      show _ = ∑ k : Fin 256, q ⟨0 + m.val, _⟩ k * sign2 B (⟨(0 + m.val % 8) / 5, by omega⟩ : Fin 8) k pos
      rw [e]
      rw [if_neg (by omega), if_pos (by omega), zero_add]
  | ⟨1, _⟩ =>
    show product Q B 1 ⟨48 + m.val, _⟩ pos + product Q B 2 ⟨0 + m.val, _⟩ pos + product Q B 3 ⟨0 + m.val, _⟩ pos = _
    rw [product_masked Q B q 1 ⟨48 + m.val, by omega⟩ pos (hQ _ _ (Or.inr (by decide))) 1 ⟨48 + m.val, by omega⟩ m.val (by show 1 = 5/8 + (48 + m.val) / 48; omega) (by show m.val = (48 + m.val) % 48; omega) rfl]
    rw [product_masked Q B q 2 ⟨0 + m.val, by omega⟩ pos (hQ _ _ (Or.inl (by show 0 + m.val < 48; omega))) 1 ⟨48 + m.val, by omega⟩ m.val (by show 1 = 10/8 + (0 + m.val) / 48; omega) (by show m.val = (0 + m.val) % 48; omega) rfl]
    rw [product_masked Q B q 3 ⟨0 + m.val, by omega⟩ pos (hQ _ _ (Or.inl (by show 0 + m.val < 48; omega))) 1 ⟨48 + m.val, by omega⟩ m.val (by show 1 = 15/8 + (0 + m.val) / 48; omega) (by show m.val = (0 + m.val) % 48; omega) rfl]
    have hc : (8 + m.val % 8) / 5 = 1 ∨ (8 + m.val % 8) / 5 = 2 ∨ (8 + m.val % 8) / 5 = 3 := by omega
    rcases hc with h | h | h
    · have e : (⟨(8 + m.val % 8) / 5, by omega⟩ : Fin 8) = 1 := Fin.ext h
      show _ = ∑ k : Fin 256, q ⟨48 + m.val, _⟩ k * sign2 B (⟨(8 + m.val % 8) / 5, by omega⟩ : Fin 8) k pos
      rw [e]
      simp [h]
    · have e : (⟨(8 + m.val % 8) / 5, by omega⟩ : Fin 8) = 2 := Fin.ext h
      show _ = ∑ k : Fin 256, q ⟨48 + m.val, _⟩ k * sign2 B (⟨(8 + m.val % 8) / 5, by omega⟩ : Fin 8) k pos
      rw [e]
      simp [h]
    · have e : (⟨(8 + m.val % 8) / 5, by omega⟩ : Fin 8) = 3 := Fin.ext h
      show _ = ∑ k : Fin 256, q ⟨48 + m.val, _⟩ k * sign2 B (⟨(8 + m.val % 8) / 5, by omega⟩ : Fin 8) k pos
      rw [e]
      simp [h]
  | ⟨2, _⟩ =>
    show product Q B 3 ⟨48 + m.val, _⟩ pos + product Q B 4 ⟨0 + m.val, _⟩ pos = _
    rw [product_masked Q B q 3 ⟨48 + m.val, by omega⟩ pos (hQ _ _ (Or.inr (by decide))) 2 ⟨96 + m.val, by omega⟩ m.val (by show 2 = 15/8 + (48 + m.val) / 48; omega) (by show m.val = (48 + m.val) % 48; omega) rfl]
    rw [product_masked Q B q 4 ⟨0 + m.val, by omega⟩ pos (hQ _ _ (Or.inl (by show 0 + m.val < 48; omega))) 2 ⟨96 + m.val, by omega⟩ m.val (by show 2 = 20/8 + (0 + m.val) / 48; omega) (by show m.val = (0 + m.val) % 48; omega) rfl]
    have hc : (16 + m.val % 8) / 5 = 3 ∨ (16 + m.val % 8) / 5 = 4 := by omega
    rcases hc with h | h
    · have e : (⟨(16 + m.val % 8) / 5, by omega⟩ : Fin 8) = 3 := Fin.ext h
      show _ = ∑ k : Fin 256, q ⟨96 + m.val, _⟩ k * sign2 B (⟨(16 + m.val % 8) / 5, by omega⟩ : Fin 8) k pos
      rw [e]
      simp [h]
    · have e : (⟨(16 + m.val % 8) / 5, by omega⟩ : Fin 8) = 4 := Fin.ext h
      show _ = ∑ k : Fin 256, q ⟨96 + m.val, _⟩ k * sign2 B (⟨(16 + m.val % 8) / 5, by omega⟩ : Fin 8) k pos
      rw [e]
      simp [h]
  | ⟨3, _⟩ =>
    show product Q B 4 ⟨48 + m.val, _⟩ pos + product Q B 5 ⟨0 + m.val, _⟩ pos + product Q B 6 ⟨0 + m.val, _⟩ pos = _
    rw [product_masked Q B q 4 ⟨48 + m.val, by omega⟩ pos (hQ _ _ (Or.inr (by decide))) 3 ⟨144 + m.val, by omega⟩ m.val (by show 3 = 20/8 + (48 + m.val) / 48; omega) (by show m.val = (48 + m.val) % 48; omega) rfl]
    rw [product_masked Q B q 5 ⟨0 + m.val, by omega⟩ pos (hQ _ _ (Or.inl (by show 0 + m.val < 48; omega))) 3 ⟨144 + m.val, by omega⟩ m.val (by show 3 = 25/8 + (0 + m.val) / 48; omega) (by show m.val = (0 + m.val) % 48; omega) rfl]
    rw [product_masked Q B q 6 ⟨0 + m.val, by omega⟩ pos (hQ _ _ (Or.inl (by show 0 + m.val < 48; omega))) 3 ⟨144 + m.val, by omega⟩ m.val (by show 3 = 30/8 + (0 + m.val) / 48; omega) (by show m.val = (0 + m.val) % 48; omega) rfl]
    have hc : (24 + m.val % 8) / 5 = 4 ∨ (24 + m.val % 8) / 5 = 5 ∨ (24 + m.val % 8) / 5 = 6 := by omega
    rcases hc with h | h | h
    · have e : (⟨(24 + m.val % 8) / 5, by omega⟩ : Fin 8) = 4 := Fin.ext h
      show _ = ∑ k : Fin 256, q ⟨144 + m.val, _⟩ k * sign2 B (⟨(24 + m.val % 8) / 5, by omega⟩ : Fin 8) k pos
      rw [e]
      simp [h]
    · have e : (⟨(24 + m.val % 8) / 5, by omega⟩ : Fin 8) = 5 := Fin.ext h
      show _ = ∑ k : Fin 256, q ⟨144 + m.val, _⟩ k * sign2 B (⟨(24 + m.val % 8) / 5, by omega⟩ : Fin 8) k pos
      rw [e]
      simp [h]
    · have e : (⟨(24 + m.val % 8) / 5, by omega⟩ : Fin 8) = 6 := Fin.ext h
      show _ = ∑ k : Fin 256, q ⟨144 + m.val, _⟩ k * sign2 B (⟨(24 + m.val % 8) / 5, by omega⟩ : Fin 8) k pos
      rw [e]
      simp [h]
  | ⟨4, _⟩ =>
    show product Q B 6 ⟨48 + m.val, _⟩ pos + product Q B 7 ⟨0 + m.val, _⟩ pos = _
    rw [product_masked Q B q 6 ⟨48 + m.val, by omega⟩ pos (hQ _ _ (Or.inr (by decide))) 4 ⟨192 + m.val, by omega⟩ m.val (by show 4 = 30/8 + (48 + m.val) / 48; omega) (by show m.val = (48 + m.val) % 48; omega) rfl]
    rw [product_masked Q B q 7 ⟨0 + m.val, by omega⟩ pos (hQ _ _ (Or.inl (by show 0 + m.val < 48; omega))) 4 ⟨192 + m.val, by omega⟩ m.val (by show 4 = 35/8 + (0 + m.val) / 48; omega) (by show m.val = (0 + m.val) % 48; omega) rfl]
    have hc : (32 + m.val % 8) / 5 = 6 ∨ (32 + m.val % 8) / 5 = 7 := by omega
    rcases hc with h | h
    · have e : (⟨(32 + m.val % 8) / 5, by omega⟩ : Fin 8) = 6 := Fin.ext h
      show _ = ∑ k : Fin 256, q ⟨192 + m.val, _⟩ k * sign2 B (⟨(32 + m.val % 8) / 5, by omega⟩ : Fin 8) k pos
      rw [e]
      simp [h]
    · have e : (⟨(32 + m.val % 8) / 5, by omega⟩ : Fin 8) = 7 := Fin.ext h
      show _ = ∑ k : Fin 256, q ⟨192 + m.val, _⟩ k * sign2 B (⟨(32 + m.val % 8) / 5, by omega⟩ : Fin 8) k pos
      rw [e]
      simp [h]

/-- The scores of one sequence: the block at an index. -/
def blockFn (x : S1x240x128.Idx → EReal) (P : S128x256.Idx → EReal) (B : S1x8x32x3584.Idx → BitVec 8) (N : S1x8x3584.Idx → EReal) (len : ℕ)
    (t : Fin 6) (h : Fin 40) (pos : Fin 3584) : EReal :=
  if pos.val < len then
    ((∑ k : Fin 256, query x P ⟨48 * (h.val / 8) + (t.val * 8 + h.val % 8), by omega⟩ k * sign2 B ⟨h.val / 5, by omega⟩ k pos)
      - ∑ k : Fin 256, query x P ⟨48 * (h.val / 8) + (t.val * 8 + h.val % 8), by omega⟩ k)
      * (N (ix3 (0 : Fin 1) (⟨h.val / 5, by omega⟩ : Fin 8) pos) * scale)
  else 0

theorem scoreFn_block (x : S1x240x128.Idx → EReal) (P : S128x256.Idx → EReal) (Q : S8x96x256.Idx → EReal) (B : S1x8x32x3584.Idx → BitVec 8) (N : S1x8x3584.Idx → EReal) (S : S240x1.Idx → EReal) (len : ℕ)
    (hQ : ∀ (kv : Fin 8) (m' : Fin 96), (m'.val < 48 ∨ kv = 1 ∨ kv = 3 ∨ kv = 4 ∨ kv = 6) → ∀ k, Q (ix3 kv m' k) = maskedFn (query x P) (ix3 kv m' k))
    (hS : ∀ row : Fin 240, S (ix2 row (0 : Fin 1)) = ∑ k : Fin 256, query x P row k) (z : Fin 1) (t : Fin 6) (h : Fin 40) (pos : Fin 3584) :
    scoreFn Q B N S len (ix4 z t h pos) = blockFn x P B N len t h pos := by
  have e : (⟨(8 * (h.val / 8) + (t.val * 8 + h.val % 8) % 8) / 5, by omega⟩ : Fin 8) = ⟨h.val / 5, by omega⟩ := Fin.ext (by
    show (8 * (h.val / 8) + (t.val * 8 + h.val % 8) % 8) / 5 = h.val / 5; omega)
  have e' : (⟨(8 * (h.val / 8) + h.val % 8) / 5, by omega⟩ : Fin 8) = ⟨h.val / 5, by omega⟩ := Fin.ext (by
    show (8 * (h.val / 8) + h.val % 8) / 5 = h.val / 5; omega)
  show scoreTile Q B N S len ⟨h.val / 8, _⟩ t ⟨h.val % 8, _⟩ pos = _
  unfold scoreTile blockFn
  rw [raw_masked Q B (query x P) hQ, hS]
  show (if pos.val < len then ((∑ k : Fin 256, query x P _ k * sign2 B (⟨(8 * (h.val / 8) + (t.val * 8 + h.val % 8) % 8) / 5, by omega⟩ : Fin 8) k pos)
    - ∑ k : Fin 256, query x P _ k) * (N (ix3 (0 : Fin 1) (⟨(8 * (h.val / 8) + h.val % 8) / 5, by omega⟩ : Fin 8) pos) * scale) else 0) = _
  rw [e, e']

section
variable (c : Dev nD) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (X1 : Bf (F := Ideal) c arg1) (X2 : Bf (F := Ideal) c arg2) (X3 : Bf (F := Ideal) c arg3) (X4 : Bf (F := Ideal) c arg4) (X5 : Bf (F := Ideal) c arg5) (X6 : Bf (F := Ideal) c arg6) (X7 : Bf (F := Ideal) c arg7) (X8 : Bf (F := Ideal) c arg8) (X9 : Bf (F := Ideal) c arg9) (X10 : Bf (F := Ideal) c arg10) (X11 : Bf (F := Ideal) c arg11) (f15 : Bf (F := Ideal) c arg15) (hchk : ∀ w, w = attWord c i arg1 X1 → k1_chk1 w)

theorem attRun_list : (attRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 f15 hchk).1
    = st3 (F := Ideal) (attRun.sl.r (F := Ideal) c i arg1 X1) (hchk _ rfl) (k1_t3_loop (attRun.sl.r (F := Ideal) c i arg1 X1)).trips ++ st1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (attRun.sl.r (F := Ideal) c i arg1 X1) (hchk _ rfl) (attRun.sl.v7 (F := Ideal) c arg2 arg3 X2 X3) (attRun.sl.v13 (F := Ideal) c arg2 arg3 X2 X3) attRun.sl.v602 (attRun.sl.r_1 (F := Ideal) c arg4 X4) rows8 X8 X9 X10 X11 (arg15.view.writes (Elt Ideal) f15 (maskedList c arg2 arg3 X2 X3)) (k1_t1_loop (attRun.sl.r (F := Ideal) c i arg1 X1)).trips := rfl

theorem stored_masked (kv : Fin 8) (m' : Fin 96) (h : m'.val < 48 ∨ kv = 1 ∨ kv = 3 ∨ kv = 4 ∨ kv = 6) (k : Fin 256) :
    ∃ p ∈ maskedList c arg2 arg3 X2 X3, (ix3 kv m' k : S8x96x256.Idx) ∈ p.1.set := by
  have hm := m'.isLt
  by_cases h48 : m'.val < 48
  · match kv with
    | ⟨0, _⟩ => exact ⟨_, List.getElem_mem (l := maskedList c arg2 arg3 X2 X3) (n := 11) (show 11 < 12 by decide), mem_masked ![0, 0, 0] (by decide) 0 m' k rfl ⟨by show 0 ≤ m'.val; omega, by show m'.val < 0 + 48; omega⟩ rfl⟩
    | ⟨1, _⟩ => exact ⟨_, List.getElem_mem (l := maskedList c arg2 arg3 X2 X3) (n := 10) (show 10 < 12 by decide), mem_masked ![1, 0, 0] (by decide) 1 m' k rfl ⟨by show 0 ≤ m'.val; omega, by show m'.val < 0 + 48; omega⟩ rfl⟩
    | ⟨2, _⟩ => exact ⟨_, List.getElem_mem (l := maskedList c arg2 arg3 X2 X3) (n := 8) (show 8 < 12 by decide), mem_masked ![2, 0, 0] (by decide) 2 m' k rfl ⟨by show 0 ≤ m'.val; omega, by show m'.val < 0 + 48; omega⟩ rfl⟩
    | ⟨3, _⟩ => exact ⟨_, List.getElem_mem (l := maskedList c arg2 arg3 X2 X3) (n := 7) (show 7 < 12 by decide), mem_masked ![3, 0, 0] (by decide) 3 m' k rfl ⟨by show 0 ≤ m'.val; omega, by show m'.val < 0 + 48; omega⟩ rfl⟩
    | ⟨4, _⟩ => exact ⟨_, List.getElem_mem (l := maskedList c arg2 arg3 X2 X3) (n := 5) (show 5 < 12 by decide), mem_masked ![4, 0, 0] (by decide) 4 m' k rfl ⟨by show 0 ≤ m'.val; omega, by show m'.val < 0 + 48; omega⟩ rfl⟩
    | ⟨5, _⟩ => exact ⟨_, List.getElem_mem (l := maskedList c arg2 arg3 X2 X3) (n := 3) (show 3 < 12 by decide), mem_masked ![5, 0, 0] (by decide) 5 m' k rfl ⟨by show 0 ≤ m'.val; omega, by show m'.val < 0 + 48; omega⟩ rfl⟩
    | ⟨6, _⟩ => exact ⟨_, List.getElem_mem (l := maskedList c arg2 arg3 X2 X3) (n := 2) (show 2 < 12 by decide), mem_masked ![6, 0, 0] (by decide) 6 m' k rfl ⟨by show 0 ≤ m'.val; omega, by show m'.val < 0 + 48; omega⟩ rfl⟩
    | ⟨7, _⟩ => exact ⟨_, List.getElem_mem (l := maskedList c arg2 arg3 X2 X3) (n := 0) (show 0 < 12 by decide), mem_masked ![7, 0, 0] (by decide) 7 m' k rfl ⟨by show 0 ≤ m'.val; omega, by show m'.val < 0 + 48; omega⟩ rfl⟩
  · have h' : kv = 1 ∨ kv = 3 ∨ kv = 4 ∨ kv = 6 := h.resolve_left h48
    rcases h' with rfl | rfl | rfl | rfl
    · exact ⟨_, List.getElem_mem (l := maskedList c arg2 arg3 X2 X3) (n := 9) (show 9 < 12 by decide), mem_masked ![1, 48, 0] (by decide) 1 m' k rfl ⟨by show 48 ≤ m'.val; omega, by show m'.val < 48 + 48; omega⟩ rfl⟩
    · exact ⟨_, List.getElem_mem (l := maskedList c arg2 arg3 X2 X3) (n := 6) (show 6 < 12 by decide), mem_masked ![3, 48, 0] (by decide) 3 m' k rfl ⟨by show 48 ≤ m'.val; omega, by show m'.val < 48 + 48; omega⟩ rfl⟩
    · exact ⟨_, List.getElem_mem (l := maskedList c arg2 arg3 X2 X3) (n := 4) (show 4 < 12 by decide), mem_masked ![4, 48, 0] (by decide) 4 m' k rfl ⟨by show 48 ≤ m'.val; omega, by show m'.val < 48 + 48; omega⟩ rfl⟩
    · exact ⟨_, List.getElem_mem (l := maskedList c arg2 arg3 X2 X3) (n := 1) (show 1 < 12 by decide), mem_masked ![6, 48, 0] (by decide) 6 m' k rfl ⟨by show 48 ≤ m'.val; omega, by show m'.val < 48 + 48; omega⟩ rfl⟩

/-- What the body leaves in the block of scores. -/
theorem att_block (hv : (attWord c i arg1 X1).toNat ≤ 3584) (f13 : Bf (F := Ideal) c arg13) (z : Fin 1) (t : Fin 6) (h : Fin 40) (pos : Fin 3584) :
    arg13.view.read (Elt Ideal) (arg13.view.writes (Elt Ideal) f13 (attRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 f15 hchk).1) (ix4 z t h pos)
      = blockFn (arg2.view.read (Elt Ideal) X2) (arg3.view.read (Elt Ideal) X3) (arg8.view.read (Elt Ideal) X8) (arg9.view.read (Elt Ideal) X9)
          (attWord c i arg1 X1).toNat t h pos := by
  have hv' : (attRun.sl.r (F := Ideal) c i arg1 X1).toNat ≤ 3584 := hv
  rw [attRun_list]
  refine (View.read_writes_apply_of_pieces _ _ (scoreFn (arg15.view.read (Elt Ideal) (arg15.view.writes (Elt Ideal) f15 (maskedList c arg2 arg3 X2 X3)))
    (arg8.view.read (Elt Ideal) X8) (arg9.view.read (Elt Ideal) X9) (attRun.sl.v13 (F := Ideal) c arg2 arg3 X2 X3) (attRun.sl.r (F := Ideal) c i arg1 X1).toNat) _ ?_ _ ?_).trans ?_
  · intro p hp
    rcases List.mem_append.mp hp with h' | h'
    · exact st3_pieces _ hv' _ _ _ _ _ _ p h'
    · exact st1_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (attRun.sl.r (F := Ideal) c i arg1 X1) (hchk _ rfl) (attRun.sl.v7 (F := Ideal) c arg2 arg3 X2 X3) (attRun.sl.v13 (F := Ideal) c arg2 arg3 X2 X3) attRun.sl.v602 (attRun.sl.r_1 (F := Ideal) c arg4 X4) X8 X9 X10 X11 (arg15.view.writes (Elt Ideal) f15 (maskedList c arg2 arg3 X2 X3)) hv' _ p h'
  · have hp := pos.isLt
    have t1 := t1_trips _ hv'
    have t3 := t3_trips _ hv'
    by_cases hc : pos.val / 512 < ((attRun.sl.r (F := Ideal) c i arg1 X1).toNat + 511) / 512
    · obtain ⟨p, hp, hm⟩ := st1_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (attRun.sl.r (F := Ideal) c i arg1 X1) (hchk _ rfl) (attRun.sl.v7 (F := Ideal) c arg2 arg3 X2 X3) (attRun.sl.v13 (F := Ideal) c arg2 arg3 X2 X3) attRun.sl.v602 (attRun.sl.r_1 (F := Ideal) c arg4 X4) X8 X9 X10 X11 (arg15.view.writes (Elt Ideal) f15 (maskedList c arg2 arg3 X2 X3)) hv' (ix4 z t h pos) _ le_rfl (by rw [t1]; exact hc)
      exact ⟨p, List.mem_append_right _ hp, hm⟩
    · obtain ⟨p, hp, hm⟩ := st3_cover _ hv' (hchk _ rfl) (ix4 z t h pos) _ le_rfl (by show _ ≤ pos.val / 512; omega) (by rw [t3]; show pos.val / 512 < _; omega)
      exact ⟨p, List.mem_append_left _ hp, hm⟩
  · exact scoreFn_block (arg2.view.read (Elt Ideal) X2) (arg3.view.read (Elt Ideal) X3) _ _ _ _ _
      (fun kv m' h' k => masked_read c arg2 arg3 X2 X3 arg15 f15 kv m' k (stored_masked c arg2 arg3 X2 X3 kv m' h' k))
      (fun row => query_v13 c arg2 arg3 X2 X3 row) z t h pos

end

end Cert.Proof.KernelIdeal

end
-- ==== Proof.KernelIdeal.Region0.lean ====
/-
  The first call's run between its region's ends: the proof data of its ten whole-array windows, the results' windows at
  what the body leaves in them, and the body obligation.
-/
module

public import proofs.«01_k».proof.Proof.KernelIdeal.Prep
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionsLoop

@[expose] public section

set_option maxRecDepth 65536
set_option maxHeartbeats 4000000

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ UU ℕ

variable (m : (ℓ : Loc nD τ sig) → Buf (Elt F) ℓ)

/-- The inputs' arrays as the region finds them: the whole of each is staged. -/
abbrev stg0_0 (c : Dev nD) : (cfg0.win 0).block.Idx → Elt F (cfg0.win 0).elt := ((cfg0.win 0).blk t0_0).view.read (Elt F) (V1 m c main_v0)
abbrev stg0_1 (c : Dev nD) : (cfg0.win 1).block.Idx → Elt F (cfg0.win 1).elt := ((cfg0.win 1).blk t0_0).view.read (Elt F) (V1 m c main_v1)
abbrev stg0_2 (c : Dev nD) : (cfg0.win 2).block.Idx → Elt F (cfg0.win 2).elt := ((cfg0.win 2).blk t0_0).view.read (Elt F) (V1 m c main_arg3)

/-- The body's run at those. -/
def prepOut (c : Dev nD) :=
  prepRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stg0_0 m c) (stg0_1 m c) (stg0_2 m c)

/-- The proof data: the arrays at entry, the windows after the body, the scoped buffers riding along. -/
def dat0 (c : Dev nD) : Dat τ (Elt F) Unit ℕ UU ℕ cfg0 c where
  A w := V1 m c (Pipeline.arrRef spec0 w)
  after w _ := match w with
    | ⟨0, _⟩ => stg0_0 m c
    | ⟨1, _⟩ => stg0_1 m c
    | ⟨2, _⟩ => stg0_2 m c
    | ⟨3, _⟩ => (prepOut m c).1.1
    | ⟨4, _⟩ => (prepOut m c).1.2.1
    | ⟨5, _⟩ => (prepOut m c).1.2.2.1
    | ⟨6, _⟩ => (prepOut m c).1.2.2.2.1
    | ⟨7, _⟩ => (prepOut m c).1.2.2.2.2.1
    | ⟨8, _⟩ => (prepOut m c).1.2.2.2.2.2.1
    | ⟨9, _⟩ => (prepOut m c).1.2.2.2.2.2.2
  Φ _ := Pipeline.scopedRest spec0 c
  q _ := fullShare
  owed _ := 0

theorem before0 (c : Dev nD) (w : Fin 10) (hw : (cfg0.win w).fetch t0_0 = true) (d : (cfg0.win w).block.Idx → Elt F (cfg0.win w).elt) :
    (dat0 m c).before w t0_0 d = (dat0 m c).fetched w t0_0 d := by
  unfold Dat.before; rw [if_pos hw]

theorem body0 (c : Dev nD) : BodyObligation (dat0 m c) (defs₀ (F := F)) Variants.none () Set.univ := fun t => by
  obtain rfl := fin_N0 t
  rw [bigSep_W0, bigSep_W0]
  simp only [owns_whole_eq]
  rw [show (dat0 m c).Φ t0_0.castSucc = Pipeline.scopedRest spec0 c from rfl, show (dat0 m c).Φ t0_0.succ = Pipeline.scopedRest spec0 c from rfl]
  unfold Dat.owesAt Pipeline.owesWithin
  rw [show (dat0 m c).owed t0_0.castSucc = 0 from rfl, show (dat0 m c).owed t0_0.succ = 0 from rfl]
  iintro ⟨HΦ, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before0 m c 0 (fetch0_0 _)] at hf0
  rw [before0 m c 1 (fetch0_1 _)] at hf1
  rw [before0 m c 2 (fetch0_2 _)] at hf2
  obtain rfl : f0 = stg0_0 m c := hf0
  obtain rfl : f1 = stg0_1 m c := hf1
  obtain rfl : f2 = stg0_2 m c := hf2
  iapply ((prepOut m c).2 f3 f4 f5 f6 f7 f8 f9)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [HO]
  · iexists W; isplitr; · ipureintro; exact fun _ _ => Or.inl trivial
    iexact HO
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  isplitl [H5]; · iexists _; isplitr; swap; (· iexact H5); ipureintro; dsimp only [dat0]
  isplitl [H6]; · iexists _; isplitr; swap; (· iexact H6); ipureintro; dsimp only [dat0]
  isplitl [H7]; · iexists _; isplitr; swap; (· iexact H7); ipureintro; dsimp only [dat0]
  isplitl [H8]; · iexists _; isplitr; swap; (· iexact H8); ipureintro; dsimp only [dat0]
  iexists _; isplitr; swap; (· iexact H9); ipureintro; dsimp only [dat0]

/-- What the region leaves in its seven results (`2`: the second of @main's items), as the run computes it. -/
def outs0 : Outs (F := F) := fun _ r c =>
  if h : r = main_v2_0 then h ▸ (dat0 m c).arrAt 3 cfg0.N
  else if h : r = main_v2_1 then h ▸ (dat0 m c).arrAt 4 cfg0.N
  else if h : r = main_v2_2 then h ▸ (dat0 m c).arrAt 5 cfg0.N
  else if h : r = main_v2_3 then h ▸ (dat0 m c).arrAt 6 cfg0.N
  else if h : r = main_v2_4 then h ▸ (dat0 m c).arrAt 7 cfg0.N
  else if h : r = main_v2_5 then h ▸ (dat0 m c).arrAt 8 cfg0.N
  else if h : r = main_v2_6 then h ▸ (dat0 m c).arrAt 9 cfg0.N
  else m ((c : Thread nD τ).loc r)

end Cert.Proof.KernelIdeal

end
-- ==== Proof.KernelIdeal.PrepValue.lean ====
/-
  The projection as the first call hands it on: its columns in the order in which the sign bits are unpacked.
-/
module

public import proofs.«01_k».proof.Proof.KernelIdeal.Region0
public import proofs.«01_k».proof.Proof.KernelIdeal.Signs
public import Idealize.ShloMosaic.Lib.Pointwise

@[expose] public section

set_option maxRecDepth 65536

noncomputable section

namespace Cert.Proof.KernelIdeal

open Cert.KernelIdeal Cert.KernelIdeal.Gen
open Idealize.ShloMosaic

/-- The sketch coordinate that column `k` of the projection handed on holds. -/
def coord (k : Fin 256) : Fin 256 := ⟨8 * (byteOf k).val + bitOf k, by
  have := (byteOf k).isLt
  have : bitOf k < 8 := Nat.mod_lt _ (by decide)
  omega⟩

theorem prep_v25 (d k : Fin 256) : prepRun.sl.v25 (ix2 d k) = BitVec.ofNat 32 (k.val / 16) := by
  obtain ⟨k, hk⟩ := k
  pointwise [prepRun.sl.v25, prepRun.sl.v0, prepRun.sl.v2, prepRun.sl.v4, prepRun.sl.v6, prepRun.sl.v9, prepRun.sl.v16, prepRun.sl.v17, prepRun.sl.v21, prepRun.sl.v24]
  interval_cases k <;> rfl

theorem prep_v41 (d k : Fin 256) : prepRun.sl.v41 (ix2 d k) = BitVec.ofNat 32 (k.val % 2) := by
  obtain ⟨k, hk⟩ := k
  pointwise [prepRun.sl.v41, prepRun.sl.v0, prepRun.sl.v28, prepRun.sl.v31, prepRun.sl.v33, prepRun.sl.v35, prepRun.sl.v37, prepRun.sl.v40, prepRun.sl.v4]
  interval_cases k <;> rfl

theorem prep_v57 (d k : Fin 256) : prepRun.sl.v57 (ix2 d k) = BitVec.ofNat 32 (k.val % 16) := by
  obtain ⟨k, hk⟩ := k
  pointwise [prepRun.sl.v57, prepRun.sl.v0, prepRun.sl.v2, prepRun.sl.v4, prepRun.sl.v49, prepRun.sl.v35, prepRun.sl.v53, prepRun.sl.v56, prepRun.sl.v21]
  interval_cases k <;> rfl

theorem prep_v81 (d k : Fin 256) : prepRun.sl.v81 (ix2 d k) = BitVec.ofNat 32 (k.val % 16 / 2) := by
  obtain ⟨k, hk⟩ := k
  pointwise [prepRun.sl.v81, prepRun.sl.v4, prepRun.sl.v16, prepRun.sl.v28, prepRun.sl.v62, prepRun.sl.v65, prepRun.sl.v73, prepRun.sl.v77, prepRun.sl.v80]
  simp only [prep_v57]
  interval_cases k <;> rfl

theorem prep_v110 (d k : Fin 256) : prepRun.sl.v110 (ix2 d k) = BitVec.ofNat 32 (k.val / 16 / 8) := by
  obtain ⟨k, hk⟩ := k
  pointwise [prepRun.sl.v110, prepRun.sl.v4, prepRun.sl.v16, prepRun.sl.v87, prepRun.sl.v91, prepRun.sl.v94, prepRun.sl.v102, prepRun.sl.v106, prepRun.sl.v109]
  simp only [prep_v25]
  interval_cases k <;> rfl

theorem prep_v129 (d k : Fin 256) : prepRun.sl.v129 (ix2 d k) = BitVec.ofNat 32 (k.val / 16 % 8) := by
  obtain ⟨k, hk⟩ := k
  pointwise [prepRun.sl.v129, prepRun.sl.v4, prepRun.sl.v16, prepRun.sl.v87, prepRun.sl.v35, prepRun.sl.v121, prepRun.sl.v125, prepRun.sl.v128, prepRun.sl.v106]
  simp only [prep_v25]
  interval_cases k <;> rfl

theorem prep_v113 (d k : Fin 256) : prepRun.sl.v113 (ix2 d k) = BitVec.ofNat 32 (8 * (4 * (k.val % 16 / 2) + 2 * (k.val % 2) + k.val / 16 / 8)) := by
  obtain ⟨k, hk⟩ := k
  pointwise [prepRun.sl.v113, prepRun.sl.v86, prepRun.sl.v82, prepRun.sl.v87]
  simp only [prep_v110, prep_v81, prep_v41]
  interval_cases k <;> rfl

theorem coord_bit (d k : Fin 256) : prepRun.sl.v131 (ix2 d k) = IntOp.cmpi .eq (BitVec.ofNat 32 d.val) (BitVec.ofNat 32 (coord k).val) := by
  pointwise [prepRun.sl.v131]
  rw [prep_v113, prep_v129]
  have h1 : prepRun.sl.v1 (ix2 d k) = BitVec.ofNat 32 d.val := by pointwise [prepRun.sl.v1]
  rw [h1]
  congr 1
  have e : (coord k).val = 8 * (4 * (k.val % 16 / 2) + 2 * (k.val % 2) + k.val / 16 / 8) + k.val / 16 % 8 := by
    show 8 * (4 * ((k.val % 16) / 2) + 2 * (k.val % 16 % 2) + (k.val / 16) / 8) + (k.val / 16) % 8 = _
    omega
  rw [e]
  exact (BitVec.ofNat_add _ _).symm

/-- The projection's columns, moved. -/
theorem prep_cols (P : S128x256.Idx → EReal) (d : Fin 128) (k : Fin 256) :
    (∑ x : Fin 256, P (ix2 d x) * (FloatOps.sitofp (F := Ideal) .f32 ((prepRun.sl.v131 (ix2 x k)).setWidth 32) : EReal)) = P (ix2 d (coord k)) := by
  rw [Finset.sum_eq_single (coord k)]
  · rw [coord_bit]
    have : IntOp.cmpi .eq (BitVec.ofNat 32 (coord k).val) (BitVec.ofNat 32 (coord k).val) = 1#1 := by
      show BitVec.ofBool (decide _) = _; simp
    rw [this]
    show P _ * (((1#1 : BitVec 1).setWidth 32).toInt : ℝ) = _
    rw [show ((1#1 : BitVec 1).setWidth 32).toInt = 1 by decide]
    simp
  · intro x _ hx
    rw [coord_bit]
    have hne : (BitVec.ofNat 32 x.val) ≠ (BitVec.ofNat 32 (coord k).val) := fun h => hx (Fin.ext (by
      have := congrArg BitVec.toNat h
      simp only [BitVec.toNat_ofNat] at this
      have h1 := x.isLt
      have h2 := (coord k).isLt
      omega))
    have : IntOp.cmpi .eq (BitVec.ofNat 32 x.val) (BitVec.ofNat 32 (coord k).val) = 0#1 := by
      show BitVec.ofBool (decide _) = _; simp [hne]
    rw [this]
    show P _ * (((0#1 : BitVec 1).setWidth 32).toInt : ℝ) = _
    rw [show ((0#1 : BitVec 1).setWidth 32).toInt = 0 by decide]
    simp
  · intro h; exact absurd (Finset.mem_univ _) h

theorem prep_payload (c : Dev nD) (M2 : Memref sig .tc .vmem S128x256 .bf16) (f2 : Bf (F := Ideal) c M2) (d : Fin 128) (k : Fin 256) :
    prepRun.sl.v137 (F := Ideal) c M2 f2 (ix2 d k)
      = ∑ x : Fin 256, prepRun.sl.r (F := Ideal) c M2 f2 (ix2 d x) * (FloatOps.sitofp (F := Ideal) .f32 ((prepRun.sl.v131 (ix2 x k)).setWidth 32) : EReal) := by
  pointwise [prepRun.sl.v137, prepRun.sl.v136, prepRun.sl.cst, prepRun.sl.v134, prepRun.sl.v133, prepRun.sl.v132]

end Cert.Proof.KernelIdeal

end
-- ==== Proof.Equation.lean ====
/-
  The kernel's formula of a score is the reference's: the sum with the signs doubled, less the sum of the queries, over the
  sketch coordinates in the order in which the kernel keeps them.
-/
module

public import proofs.«01_k».proof.Proof.RefValue
public import proofs.«01_k».proof.Proof.KernelIdeal.AttValue
public import proofs.«01_k».proof.Proof.KernelIdeal.PrepValue

@[expose] public section

set_option maxRecDepth 65536

noncomputable section

namespace Cert.Proof

open Idealize.ShloMosaic

/-- An element whose absolute value compares below infinity is a real number. -/
theorem real_of_finite (x : Ideal .bf16) (h : FloatOps.cmpf .olt (FloatOps.hostAbsf x) (FloatOps.ofBits (F := Ideal) .bf16 0x7F80#16) = 1#1) :
    ∃ r : ℝ, (x : EReal) = (r : EReal) := by
  have htop : (FloatOps.ofBits (F := Ideal) .bf16 0x7F80#16 : EReal) = ⊤ := by
    show Ideal.ofBits .bf16 0x7F80#16 = ⊤
    show Ideal.ieee 8 7 0x7F80#16 = ⊤
    unfold Ideal.ieee
    simp
  induction x using EReal.rec with
  | coe r => exact ⟨r, rfl⟩
  | top =>
    exfalso; revert h; rw [htop]
    show ¬ BitVec.ofBool (decide (max (⊤ : EReal) (-⊤) < ⊤)) = 1#1
    simp
  | bot =>
    exfalso; revert h; rw [htop]
    show ¬ BitVec.ofBool (decide (max (⊥ : EReal) (-⊥) < ⊤)) = 1#1
    simp

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem coord_injective : Function.Injective KernelIdeal.coord := by
  intro a b h
  have h' : (KernelIdeal.coord a).val = (KernelIdeal.coord b).val := congrArg Fin.val h
  have ea : ∀ k : Fin 256, (KernelIdeal.coord k).val = 8 * (4 * ((k.val % 16) / 2) + 2 * (k.val % 16 % 2) + (k.val / 16) / 8) + (k.val / 16) % 8 := fun _ => rfl
  rw [ea, ea] at h'
  have := a.isLt
  have := b.isLt
  exact Fin.ext (by omega)

/-- The kernel's order of the sketch coordinates. -/
def coordEquiv : Fin 256 ≃ Fin 256 := Equiv.ofBijective KernelIdeal.coord (Finite.injective_iff_bijective.mp coord_injective)

/-- The doubled signs' sum less the plain sum is the sum with the signs. -/
theorem sum_signs (q : Fin 256 → EReal) (s : Fin 256 → Bool) (hq : ∀ k, ∃ r : ℝ, q k = (r : EReal)) :
    (∑ k, q (KernelIdeal.coord k) * (if s (KernelIdeal.coord k) then (2 : EReal) else 0)) - ∑ k, q (KernelIdeal.coord k)
      = ∑ k, (if s k then (2 : EReal) - 1 else 0 - 1) * q k := by
  choose r hr using hq
  have h1 : ∀ k, q k * (if s k then (2 : EReal) else 0) = ((r k * (if s k then 2 else 0) : ℝ) : EReal) := fun k => by
    rw [hr]; split
    · rw [EReal.coe_mul]; rfl
    · rw [EReal.coe_mul]; rfl
  have h2 : ∀ k, (if s k then (2 : EReal) - 1 else 0 - 1) * q k = (((if s k then 2 - 1 else 0 - 1) * r k : ℝ) : EReal) := fun k => by
    rw [hr, EReal.coe_mul]; split
    · rw [EReal.coe_sub]; rfl
    · rw [EReal.coe_sub]; rfl
  have e1 : (∑ k, q (KernelIdeal.coord k) * (if s (KernelIdeal.coord k) then (2 : EReal) else 0)) = ∑ k, q k * (if s k then (2 : EReal) else 0) :=
    Equiv.sum_comp coordEquiv (fun k => q k * (if s k then (2 : EReal) else 0))
  have e2 : (∑ k, q (KernelIdeal.coord k)) = ∑ k, q k := Equiv.sum_comp coordEquiv q
  rw [e1, e2]
  simp only [h1, h2]
  simp only [hr]
  rw [← coe_sum, ← coe_sum, ← coe_sum, ← EReal.coe_sub, ← Finset.sum_sub_distrib]
  refine congrArg _ (Finset.sum_congr rfl fun k _ => ?_)
  split <;> ring

theorem sum_real {n : ℕ} (f : Fin n → EReal) (h : ∀ k, ∃ r : ℝ, f k = (r : EReal)) : ∃ r : ℝ, ∑ k, f k = (r : EReal) := by
  choose r hr using h
  refine ⟨∑ k, r k, ?_⟩
  simp only [hr]
  exact (coe_sum r).symm

/-- A score of the kernel, its operands elements of the arguments, is the reference's. -/
theorem block_eq_ref (x0 : Cert.ReferenceIdeal.S48x6x5120.Idx → EReal) (x3 : Cert.ReferenceIdeal.S128x256.Idx → EReal) (x4 : Cert.ReferenceIdeal.S48x3584x8x32.Idx → BitVec 8)
    (x5 : Cert.ReferenceIdeal.S48x3584x8.Idx → EReal) (x8 : Cert.ReferenceIdeal.S48.Idx → BitVec 32)
    (X : Cert.KernelIdeal.S1x240x128.Idx → EReal) (P : Cert.KernelIdeal.S128x256.Idx → EReal) (B : Cert.KernelIdeal.S1x8x32x3584.Idx → BitVec 8) (N : Cert.KernelIdeal.S1x8x3584.Idx → EReal)
    (b : Fin 48) (t : Fin 6) (h : Fin 40) (p : Fin 3584)
    (hX : ∀ (row : Fin 240) (d : Fin 128), X (ix3 (0 : Fin 1) row d) = x0 (ix3 b (⟨row.val / 8 % 6, Nat.mod_lt _ (by decide)⟩ : Fin 6) (⟨row.val / 48 * 1024 + row.val % 8 * 128 + d.val, by omega⟩ : Fin 5120)))
    (hP : ∀ (d : Fin 128) (k : Fin 256), P (ix2 d k) = x3 (ix2 d (KernelIdeal.coord k)))
    (hB : ∀ (kv : Fin 8) (w : Fin 32), B (ix4 (0 : Fin 1) kv w p) = x4 (ix4 b p kv w))
    (hN : ∀ kv : Fin 8, N (ix3 (0 : Fin 1) kv p) = x5 (ix3 b p kv))
    (r0 : ∀ i, ∃ r : ℝ, x0 i = (r : EReal)) (r3 : ∀ i, ∃ r : ℝ, x3 i = (r : EReal)) :
    KernelIdeal.blockFn X P B N (x8 (ix1 b)).toNat t h p = Reference.refScore x0 x3 x4 x5 x8 b t h p := by
  have hq : ∀ k, KernelIdeal.query X P ⟨48 * (h.val / 8) + (t.val * 8 + h.val % 8), by omega⟩ k
      = (fun k => ∑ d : Fin 128, x0 (ix3 b t (⟨h.val * 128 + d.val, by omega⟩ : Fin 5120)) * x3 (ix2 d k)) (KernelIdeal.coord k) := by
    intro k
    unfold KernelIdeal.query
    refine Finset.sum_congr rfl fun d _ => ?_
    rw [hX, hP]
    refine congrArg (· * x3 (ix2 d (KernelIdeal.coord k))) ?_
    have e1 : (⟨(48 * (h.val / 8) + (t.val * 8 + h.val % 8)) / 8 % 6, Nat.mod_lt _ (by decide)⟩ : Fin 6) = t := Fin.ext (by
      show (48 * (h.val / 8) + (t.val * 8 + h.val % 8)) / 8 % 6 = t.val; omega)
    have e2 : (⟨(48 * (h.val / 8) + (t.val * 8 + h.val % 8)) / 48 * 1024 + (48 * (h.val / 8) + (t.val * 8 + h.val % 8)) % 8 * 128 + d.val, by omega⟩ : Fin 5120)
        = ⟨h.val * 128 + d.val, by omega⟩ := Fin.ext (by
      show (48 * (h.val / 8) + (t.val * 8 + h.val % 8)) / 48 * 1024 + (48 * (h.val / 8) + (t.val * 8 + h.val % 8)) % 8 * 128 + d.val = h.val * 128 + d.val; omega)
    show x0 (ix3 b (⟨(48 * (h.val / 8) + (t.val * 8 + h.val % 8)) / 8 % 6, _⟩ : Fin 6) (⟨(48 * (h.val / 8) + (t.val * 8 + h.val % 8)) / 48 * 1024 + (48 * (h.val / 8) + (t.val * 8 + h.val % 8)) % 8 * 128 + d.val, _⟩ : Fin 5120)) = _
    rw [e1, e2]
  have hs : ∀ k, KernelIdeal.sign2 B ⟨h.val / 5, by omega⟩ k p
      = (fun k : Fin 256 => if (x4 (ix4 b p (⟨h.val / 5, by omega⟩ : Fin 8) (⟨k.val / 8, by omega⟩ : Fin 32))).getLsbD (k.val % 8) then (2 : EReal) else 0) (KernelIdeal.coord k) := by
    intro k
    unfold KernelIdeal.sign2
    rw [hB]
    have hb : KernelIdeal.bitOf k < 8 := Nat.mod_lt _ (by decide)
    have e1 : (⟨(KernelIdeal.coord k).val / 8, by omega⟩ : Fin 32) = KernelIdeal.byteOf k := Fin.ext (by
      show (8 * (KernelIdeal.byteOf k).val + KernelIdeal.bitOf k) / 8 = (KernelIdeal.byteOf k).val; omega)
    have e2 : (KernelIdeal.coord k).val % 8 = KernelIdeal.bitOf k := by
      show (8 * (KernelIdeal.byteOf k).val + KernelIdeal.bitOf k) % 8 = KernelIdeal.bitOf k; omega
    show _ = if (x4 (ix4 b p (⟨h.val / 5, _⟩ : Fin 8) (⟨(KernelIdeal.coord k).val / 8, _⟩ : Fin 32))).getLsbD ((KernelIdeal.coord k).val % 8) then (2 : EReal) else 0
    rw [e1, e2]
  unfold KernelIdeal.blockFn Reference.refScore
  by_cases hl : p.val < (x8 (ix1 b)).toNat
  · rw [if_pos hl, if_pos hl, hN]
    refine congrArg (· * (x5 (ix3 b p (⟨h.val / 5, by omega⟩ : Fin 8)) * Ideal.ofBits .f32 971169733#32)) ?_
    simp only [hq, hs]
    refine sum_signs (fun k => ∑ d : Fin 128, x0 (ix3 b t (⟨h.val * 128 + d.val, by omega⟩ : Fin 5120)) * x3 (ix2 d k))
      (fun k => (x4 (ix4 b p (⟨h.val / 5, by omega⟩ : Fin 8) (⟨k.val / 8, by omega⟩ : Fin 32))).getLsbD (k.val % 8)) (fun k => sum_real _ fun d => ?_)
    obtain ⟨a, ha⟩ := r0 (ix3 b t (⟨h.val * 128 + d.val, by omega⟩ : Fin 5120))
    obtain ⟨e, he⟩ := r3 (ix2 d k)
    exact ⟨a * e, by rw [ha, he, EReal.coe_mul]⟩
  · rw [if_neg hl, if_neg hl]

end Cert.Proof

end
-- ==== Proof.Pre.lean ====
/-
  What the precondition `in_range` says of the lengths: every one is at most 3584.
-/
module

public import proofs.«01_k».proof.Defs
public import proofs.«01_k».proof.Proof.Gen.Pre_in_range
public import Idealize.ShloMosaic.Lib.Affine

@[expose] public section

noncomputable section

namespace Cert.Proof.Pre

open Idealize.ShloMosaic

variable {F : FTy → Type} [FloatOps F]

/-- A word that compares at least 0 and at most 3584 is at most 3584 as a natural number. -/
theorem word_le (w : BitVec 32) (h0 : IntOp.cmpi .sge w 0#32 = 1#1) (h1 : IntOp.cmpi .sle w 3584#32 = 1#1) : w.toNat ≤ 3584 := by
  have h0 : BitVec.ofBool ((0#32).sle w) = 1#1 := h0
  have h1 : BitVec.ofBool (w.sle 3584#32) = 1#1 := h1
  have a0 : (0#32).sle w = true := by
    cases h : (0#32).sle w
    · rw [h] at h0; exact absurd h0 (by decide)
    · rfl
  have a1 : w.sle 3584#32 = true := by
    cases h : w.sle 3584#32
    · rw [h] at h1; exact absurd h1 (by decide)
    · rfl
  have b0 := BitVec.sle_iff_toInt_le.1 a0
  have b1 := BitVec.sle_iff_toInt_le.1 a1
  have c0 : (0#32).toInt = 0 := by decide
  have c1 : (3584#32).toInt = 3584 := by decide
  rw [c0] at b0
  rw [c1] at b1
  have := BitVec.toInt_eq_toNat_cond w
  have hw := w.isLt
  split at this <;> omega

/-- `in_range` all ones: every length is at most 3584. -/
theorem in_range_le (x0 : FVec F Cert.Pre_in_range.S48x6x5120 .bf16) (x1 x2 : FVec F Cert.Pre_in_range.S48x6x8x128 .bf16)
    (x3 : FVec F Cert.Pre_in_range.S128x256 .bf16) (x4 : IVec Cert.Pre_in_range.S48x3584x8x32 8)
    (x5 : FVec F Cert.Pre_in_range.S48x3584x8 .bf16) (x6 : IVec Cert.Pre_in_range.S48x3584x8x64 8)
    (x7 : FVec F Cert.Pre_in_range.S48x3584x8 .f32) (x8 : IVec Cert.Pre_in_range.S48 32)
    (h : Cert.Pre_in_range.fn x0 x1 x2 x3 x4 x5 x6 x7 x8 = fun _ => 1#1) (i : Cert.Pre_in_range.S48.Idx) : (x8 i).toNat ≤ 3584 := by
  have h := congrFun h i
  obtain ⟨h0, h1⟩ := IntOp.andi_eq_one.1 h
  exact word_le _ h0 h1

end Cert.Proof.Pre

end
-- ==== Proof.PreFinite.lean ====
/-
  What the precondition `finite` says: every length is at most 3584, and every element of `x` and `proj` is finite.
-/
module

public import proofs.«01_k».proof.Proof.Pre
public import proofs.«01_k».proof.Proof.Gen.Pre_finite
public import Idealize.ShloMosaic.Lib.ReduceAll
public import Idealize.ShloMosaic.Lib.Affine

@[expose] public section

noncomputable section

namespace Cert.Proof.Pre

open Idealize.ShloMosaic

variable {F : FTy → Type} [FloatOps F]

instance : Subsingleton Cert.Pre_finite.S_.Idx := ⟨fun a b => funext fun k => k.elim0⟩

/-- `finite` all ones: every length is at most 3584, and the absolute values of `x` and `proj` compare below infinity. -/
theorem finite_all (x0 : FVec F Cert.Pre_finite.S48x6x5120 .bf16) (x1 x2 : FVec F Cert.Pre_finite.S48x6x8x128 .bf16)
    (x3 : FVec F Cert.Pre_finite.S128x256 .bf16) (x4 : IVec Cert.Pre_finite.S48x3584x8x32 8)
    (x5 : FVec F Cert.Pre_finite.S48x3584x8 .bf16) (x6 : IVec Cert.Pre_finite.S48x3584x8x64 8)
    (x7 : FVec F Cert.Pre_finite.S48x3584x8 .f32) (x8 : IVec Cert.Pre_finite.S48 32)
    (h : Cert.Pre_finite.fn x0 x1 x2 x3 x4 x5 x6 x7 x8 = fun _ => 1#1) :
    (∀ i, (x8 i).toNat ≤ 3584)
      ∧ (∀ i, FloatOps.cmpf .olt (FloatOps.hostAbsf (x0 i)) (FloatOps.ofBits (F := F) .bf16 0x7F80#16) = 1#1)
      ∧ (∀ i, FloatOps.cmpf .olt (FloatOps.hostAbsf (x3 i)) (FloatOps.ofBits (F := F) .bf16 0x7F80#16) = 1#1) := by
  have h := congrFun h (fun k => k.elim0)
  obtain ⟨h01, h2⟩ := IntOp.andi_eq_one.1 h
  obtain ⟨h0, h1⟩ := IntOp.andi_eq_one.1 h01
  refine ⟨fun i => ?_, fun i => ?_, fun i => ?_⟩
  · obtain ⟨a, b⟩ := IntOp.andi_eq_one.1 (Host.reduce_andi_all _ _ _ _ _ h0 i)
    exact word_le _ a b
  · exact Host.reduce_andi_all _ _ _ _ _ h1 i
  · exact Host.reduce_andi_all _ _ _ _ _ h2 i

end Cert.Proof.Pre

end
-- ==== Proof.Kernel.Prep.lean ====
/-
  The body of the call that prepares the new tokens' keys and values, run once at symbolic operands: from its three
  inputs held at any contents and its seven results held at anything it returns, the inputs as they were and each
  result at contents that are a function of the inputs alone.
-/
module

public import proofs.«01_k».proof.Proof.Gen.Kernel.Skeleton
public import Idealize.ShloMosaic.Lib.Tactic
public import Idealize.ShloMosaic.Lib.Pipeline.Kit

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's algebra: the cells of its own transfers only. -/
abbrev UU : Type := URounds (GSem nD τ sig) Unit

local notation "𝕄" => MT nD τ sig Unit (Elt F) ℕ UU ℕ

/-- The contents of a memref's buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
set_option maxRecDepth 65536 in
/-- What the body leaves in its seven results, with the proof that it runs there. -/
noncomputable def prepRun (c : Dev nD)
    (M0 : Memref sig .tc .vmem S2304x128 .bf16) (h0 : M0.IsWhole)
    (M1 : Memref sig .tc .vmem S2304x128 .bf16) (h1 : M1.IsWhole)
    (M2 : Memref sig .tc .vmem S128x256 .bf16) (h2 : M2.IsWhole)
    (M3 : Memref sig .tc .vmem S2304x32 .i8) (h3 : M3.IsWhole)
    (M4 : Memref sig .tc .vmem S2304x1 .bf16) (h4 : M4.IsWhole)
    (M5 : Memref sig .tc .vmem S2304x64 .i8) (h5 : M5.IsWhole)
    (M6 : Memref sig .tc .vmem S2304x1 .f32) (h6 : M6.IsWhole)
    (M7 : Memref sig .tc .vmem S2304x256 .bf16) (h7 : M7.IsWhole)
    (M8 : Memref sig .tc .vmem S2304x128 .bf16) (h8 : M8.IsWhole)
    (M9 : Memref sig .tc .vmem S128x256 .bf16) (h9 : M9.IsWhole)
    (f0 : Bf (F := F) c M0) (f1 : Bf (F := F) c M1) (f2 : Bf (F := F) c M2) :
    { W : Bf (F := F) c M3 × Bf (F := F) c M4 × Bf (F := F) c M5 × Bf (F := F) c M6 × Bf (F := F) c M7 × Bf (F := F) c M8 × Bf (F := F) c M9 //
      ∀ (f3 : Bf (F := F) c M3) (f4 : Bf (F := F) c M4) (f5 : Bf (F := F) c M5) (f6 : Bf (F := F) c M6) (f7 : Bf (F := F) c M7) (f8 : Bf (F := F) c M8) (f9 : Bf (F := F) c M9) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
          ∗ (iprop(pt c M0 f0 ∗ pt c M1 f1 ∗ pt c M2 f2 ∗ pt c M3 W.1 ∗ pt c M4 W.2.1 ∗ pt c M5 W.2.2.1 ∗ pt c M6 W.2.2.2.1 ∗ pt c M7 W.2.2.2.2.1 ∗ pt c M8 W.2.2.2.2.2.1 ∗ pt c M9 W.2.2.2.2.2.2) -∗ Q ⟨⟩))
        ⊢ wp frame (wpE (defs₀ (F := F)) Variants.none c none) E
            (cc0_prep M0 h0 M1 h1 M2 h2 M3 h3 M4 h4 M5 h5 M6 h6 M7 h7 M8 h8 M9 h9) Q } := by
  refine ⟨⟨?_, ?_, ?_, ?_, ?_, ?_, ?_⟩, fun f3 f4 f5 f6 f7 f8 f9 E Q => ?run⟩
  case run =>
    rw [cc0_prep_eq_skeleton]
    iintro ⟨H0, H1, H2, H3, H4, H5, H6, H7, H8, H9, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.Kernel

end
-- ==== Proof.Kernel.Region0.lean ====
/-
  The first call's run between its region's ends: the proof data of its ten whole-array windows, the results' windows at
  what the body leaves in them, and the body obligation.
-/
module

public import proofs.«01_k».proof.Proof.Kernel.Prep
public import proofs.«01_k».proof.Proof.Gen.Kernel.Launch
public import proofs.«01_k».proof.Proof.Gen.Kernel.Points
public import proofs.«01_k».proof.Proof.Gen.Kernel.Regions
public import Idealize.ShloMosaic.Lib.Pipeline.Regions
public import Idealize.ShloMosaic.Lib.Pipeline.RegionsLoop

@[expose] public section

set_option maxRecDepth 65536
set_option maxHeartbeats 4000000

noncomputable section

namespace Cert.Proof.Kernel

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (m : (ℓ : Loc nD τ sig) → Buf (Elt F) ℓ)

/-- The inputs' arrays as the region finds them: the whole of each is staged. -/
abbrev stg0_0 (c : Dev nD) : (cfg0.win 0).block.Idx → Elt F (cfg0.win 0).elt := ((cfg0.win 0).blk t0_0).view.read (Elt F) (V1 m c main_v0)
abbrev stg0_1 (c : Dev nD) : (cfg0.win 1).block.Idx → Elt F (cfg0.win 1).elt := ((cfg0.win 1).blk t0_0).view.read (Elt F) (V1 m c main_v1)
abbrev stg0_2 (c : Dev nD) : (cfg0.win 2).block.Idx → Elt F (cfg0.win 2).elt := ((cfg0.win 2).blk t0_0).view.read (Elt F) (V1 m c main_arg3)

/-- The body's run at those. -/
def prepOut (c : Dev nD) :=
  prepRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stg0_0 m c) (stg0_1 m c) (stg0_2 m c)

/-- The proof data: the arrays at entry, the windows after the body, the scoped buffers riding along. -/
def dat0 (c : Dev nD) : Dat τ (Elt F) Unit ℕ UU ℕ cfg0 c where
  A w := V1 m c (Pipeline.arrRef spec0 w)
  after w _ := match w with
    | ⟨0, _⟩ => stg0_0 m c
    | ⟨1, _⟩ => stg0_1 m c
    | ⟨2, _⟩ => stg0_2 m c
    | ⟨3, _⟩ => (prepOut m c).1.1
    | ⟨4, _⟩ => (prepOut m c).1.2.1
    | ⟨5, _⟩ => (prepOut m c).1.2.2.1
    | ⟨6, _⟩ => (prepOut m c).1.2.2.2.1
    | ⟨7, _⟩ => (prepOut m c).1.2.2.2.2.1
    | ⟨8, _⟩ => (prepOut m c).1.2.2.2.2.2.1
    | ⟨9, _⟩ => (prepOut m c).1.2.2.2.2.2.2
  Φ _ := Pipeline.scopedRest spec0 c
  q _ := fullShare
  owed _ := 0

theorem before0 (c : Dev nD) (w : Fin 10) (hw : (cfg0.win w).fetch t0_0 = true) (d : (cfg0.win w).block.Idx → Elt F (cfg0.win w).elt) :
    (dat0 m c).before w t0_0 d = (dat0 m c).fetched w t0_0 d := by
  unfold Dat.before; rw [if_pos hw]

theorem body0 (c : Dev nD) : BodyObligation (dat0 m c) (defs₀ (F := F)) Variants.none () Set.univ := fun t => by
  obtain rfl := fin_N0 t
  rw [bigSep_W0, bigSep_W0]
  simp only [owns_whole_eq]
  rw [show (dat0 m c).Φ t0_0.castSucc = Pipeline.scopedRest spec0 c from rfl, show (dat0 m c).Φ t0_0.succ = Pipeline.scopedRest spec0 c from rfl]
  unfold Dat.owesAt Pipeline.owesWithin
  rw [show (dat0 m c).owed t0_0.castSucc = 0 from rfl, show (dat0 m c).owed t0_0.succ = 0 from rfl]
  iintro ⟨HΦ, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before0 m c 0 (fetch0_0 _)] at hf0
  rw [before0 m c 1 (fetch0_1 _)] at hf1
  rw [before0 m c 2 (fetch0_2 _)] at hf2
  obtain rfl : f0 = stg0_0 m c := hf0
  obtain rfl : f1 = stg0_1 m c := hf1
  obtain rfl : f2 = stg0_2 m c := hf2
  iapply ((prepOut m c).2 f3 f4 f5 f6 f7 f8 f9)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [HO]
  · iexists W; isplitr; · ipureintro; exact fun _ _ => Or.inl trivial
    iexact HO
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  isplitl [H5]; · iexists _; isplitr; swap; (· iexact H5); ipureintro; dsimp only [dat0]
  isplitl [H6]; · iexists _; isplitr; swap; (· iexact H6); ipureintro; dsimp only [dat0]
  isplitl [H7]; · iexists _; isplitr; swap; (· iexact H7); ipureintro; dsimp only [dat0]
  isplitl [H8]; · iexists _; isplitr; swap; (· iexact H8); ipureintro; dsimp only [dat0]
  iexists _; isplitr; swap; (· iexact H9); ipureintro; dsimp only [dat0]

/-- What the region leaves in its seven results (`2`: the second of @main's items), as the run computes it. -/
def outs0 : Outs (F := F) := fun _ r c =>
  if h : r = main_v2_0 then h ▸ (dat0 m c).arrAt 3 cfg0.N
  else if h : r = main_v2_1 then h ▸ (dat0 m c).arrAt 4 cfg0.N
  else if h : r = main_v2_2 then h ▸ (dat0 m c).arrAt 5 cfg0.N
  else if h : r = main_v2_3 then h ▸ (dat0 m c).arrAt 6 cfg0.N
  else if h : r = main_v2_4 then h ▸ (dat0 m c).arrAt 7 cfg0.N
  else if h : r = main_v2_5 then h ▸ (dat0 m c).arrAt 8 cfg0.N
  else if h : r = main_v2_6 then h ▸ (dat0 m c).arrAt 9 cfg0.N
  else m ((c : Thread nD τ).loc r)

end Cert.Proof.Kernel

end
-- ==== Proof.Kernel.Chk.lean ====
/-
  The side conditions the attention call assumes of a sequence's length hold when the length lies between 0 and 3584:
  its loops over chunks of 512 positions have a meaning, and every chunk lies inside the arrays.
-/
module

public import proofs.«01_k».proof.Kernel
public import proofs.«01_k».proof.Proof.Words

@[expose] public section

set_option maxRecDepth 65536

namespace Cert.Proof.Kernel

open Cert.Kernel Idealize.ShloMosaic

/-- The loop over the chunks below the length runs from 0 to the number of chunks. -/
theorem t1_lb (v1 : BitVec 32) : (k1_t1_loop v1).lb = 0#32 := rfl
theorem t1_st (v1 : BitVec 32) : (k1_t1_loop v1).st = 1#32 := rfl
theorem t1_ub (v1 : BitVec 32) : (k1_t1_loop v1).ub = Words.chunks v1 :=
  (Words.whole_loop _ _).trans (Words.sub_zero' _)
/-- The loop over the chunks beyond the length runs from there to 7. -/
theorem t3_lb (v1 : BitVec 32) : (k1_t3_loop v1).lb = Words.chunks v1 := rfl
theorem t3_st (v1 : BitVec 32) : (k1_t3_loop v1).st = 1#32 := rfl
theorem t3_ub (v1 : BitVec 32) : (k1_t3_loop v1).ub = 7#32 := (Words.whole_loop _ _).trans (Words.seven _)
/-- The other two loops are empty. -/
theorem t2_ub (v1 : BitVec 32) : (k1_t2_loop v1).ub = (k1_t2_loop v1).lb := (Words.whole_loop _ _).symm
theorem t4_ub (v1 : BitVec 32) : (k1_t4_loop v1).ub = (k1_t4_loop v1).lb := (Words.whole_loop _ _).symm
theorem t2_trips (v1 : BitVec 32) : (k1_t2_loop v1).trips = 0 := by
  rw [Scf.Loop.trips, t2_ub]; exact Words.empty_trips _
theorem t4_trips (v1 : BitVec 32) : (k1_t4_loop v1).trips = 0 := by
  rw [Scf.Loop.trips, t4_ub]; exact Words.empty_trips _

theorem t1_trips (v1 : BitVec 32) (h : v1.toNat ≤ 3584) : (k1_t1_loop v1).trips = (v1.toNat + 511) / 512 := by
  rw [Scf.Loop.trips, t1_lb, t1_ub, t1_st, Words.chunks_eq v1 h]
  exact Words.up_trips ⟨_, Nat.lt_succ_of_le (Words.chunks_le v1 h)⟩
theorem t3_trips (v1 : BitVec 32) (h : v1.toNat ≤ 3584) : (k1_t3_loop v1).trips = 7 - (v1.toNat + 511) / 512 := by
  rw [Scf.Loop.trips, t3_lb, t3_ub, t3_st, Words.chunks_eq v1 h]
  exact Words.down_trips ⟨_, Nat.lt_succ_of_le (Words.chunks_le v1 h)⟩

/-- The first position of the chunk of a trip below the length. -/
theorem start1 (v1 : BitVec 32) (h : v1.toNat ≤ 3584) (k : Fin (k1_t1_loop v1).trips) : (k1_mult1 v1 k).toNat = 512 * k.val := by
  have hk : k.val < 8 := by have := k.isLt; have := t1_trips v1 h; have := Words.chunks_le v1 h; omega
  exact (Words.start_eq 0 ⟨k.val, hk⟩).trans (congrArg (512 * ·) (Nat.zero_add _))
/-- The first position of the chunk of a trip beyond the length. -/
theorem start3 (v1 : BitVec 32) (h : v1.toNat ≤ 3584) (k : Fin (k1_t3_loop v1).trips) :
    (k1_mult3 v1 k).toNat = 512 * ((v1.toNat + 511) / 512 + k.val) := by
  have hk : k.val < 8 := by have := k.isLt; have := t3_trips v1 h; omega
  show ((Words.chunks v1 + BitVec.ofNat 32 k.val * 1#32) * 512#32).toNat = _
  rw [Words.chunks_eq v1 h]
  exact Words.start_eq ⟨_, Nat.lt_succ_of_le (Words.chunks_le v1 h)⟩ ⟨k.val, hk⟩

/-- What the call assumes of the length. -/
theorem chk1 (v1 : BitVec 32) (h : v1.toNat ≤ 3584) : k1_chk1 v1 := by
  have hn := Nat.lt_succ_of_le (Words.chunks_le v1 h)
  have h1 : ∀ k : Fin (k1_t1_loop v1).trips, (k1_mult1 v1 k).toNat ≤ 3072 ∧ 512 ∣ (k1_mult1 v1 k).toNat := fun k => by
    rw [start1 v1 h]; have := k.isLt; have := t1_trips v1 h; exact ⟨by omega, Dvd.intro _ rfl⟩
  have h3 : ∀ k : Fin (k1_t3_loop v1).trips, (k1_mult3 v1 k).toNat ≤ 3072 ∧ 512 ∣ (k1_mult3 v1 k).toNat := fun k => by
    rw [start3 v1 h]; have := k.isLt; have := t3_trips v1 h; exact ⟨by omega, Dvd.intro _ rfl⟩
  exact ⟨⟨by rw [Scf.Loop.OK, t1_lb, t1_ub, t1_st, Words.chunks_eq v1 h]; exact Words.up_ok ⟨_, hn⟩,
    fun k => (h1 k).2,
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits3 _ _ _ _ _ _ _ (h1 k).1 (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    fun k => Words.fits4 _ _ _ _ _ _ _ _ _ _ (h1 k).1 (by decide) (by decide) (by decide),
    by rw [Scf.Loop.OK, t2_ub]; exact Words.empty_ok _,
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _)⟩,
    ⟨fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    fun k => absurd (lt_of_lt_of_eq k.isLt (t2_trips v1)) (Nat.not_lt_zero _),
    by rw [Scf.Loop.OK, t3_lb, t3_ub, t3_st, Words.chunks_eq v1 h]; exact Words.down_ok ⟨_, hn⟩,
    fun k => (h3 k).2,
    fun k => Words.fits4 _ _ _ _ _ _ _ _ _ _ (h3 k).1 (by decide) (by decide) (by decide),
    by rw [Scf.Loop.OK, t4_ub]; exact Words.empty_ok _,
    fun k => absurd (lt_of_lt_of_eq k.isLt (t4_trips v1)) (Nat.not_lt_zero _),
    fun k => absurd (lt_of_lt_of_eq k.isLt (t4_trips v1)) (Nat.not_lt_zero _)⟩⟩

end Cert.Proof.Kernel

end
-- ==== Proof.Kernel.Loops.lean ====
/-
  The body of the call that attends over the cached positions, run once at symbolic operands. Its loop over the chunks
  of positions below the sequence's length is taken through the invariant that names the pieces of the scores written
  so far and keeps the two accumulators at anything; its loop over the chunks beyond the length through the one that
  names the zero pieces. The other two loops make no trip.
-/
module

public import proofs.«01_k».proof.Proof.Kernel.Prep
public import proofs.«01_k».proof.Proof.Kernel.Chk
public import Idealize.ShloMosaic.Lib.Exec

@[expose] public section

set_option maxRecDepth 65536
set_option maxHeartbeats 40000000

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One trip over a chunk below the length: the pieces of the scores it writes, functions of what it reads. -/
def trip (c : Dev nD) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (v621 : IVec S8x512 32)
    (X8 : Bf (F := F) c arg8) (X9 : Bf (F := F) c arg9) (X10 : Bf (F := F) c arg10) (X11 : Bf (F := F) c arg11) (X15 : Bf (F := F) c arg15) (k : Fin (k1_t1_loop v1).trips) :
    { L : List (View.Piece (Elt F) S1x6x40x3584 .f32) //
      ∀ (acc : FVec F S240x1 .f32 × FVec F S240x1 .f32) (f13 : Bf (F := F) c arg13) (f16 : Bf (F := F) c arg16) (E : Set ℕ),
      (iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg15.view.loc (c : Thread nD τ) ↦[arg15.view.set]{fullShare} X15) ∗ (arg13.view.loc (c : Thread nD τ) ↦[arg13.view.set]{fullShare} f13) ∗ (arg16.view.loc (c : Thread nD τ) ↦[arg16.view.set]{fullShare} f16)) : sProp 𝕄)
      ⊢ wp frame (wpE (defs₀ (F := F)) Variants.none (c : Thread nD τ) none) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 k acc)
         (fun yld => iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg15.view.loc (c : Thread nD τ) ↦[arg15.view.set]{fullShare} X15) ∗ (∃ f : Bf (F := F) c arg16, (arg16.view.loc (c : Thread nD τ) ↦[arg16.view.set]{fullShare} f))
            ∗ (arg13.view.loc (c : Thread nD τ) ↦[arg13.view.set]{fullShare} (arg13.view.writes (Elt F) f13 L)))) } := by
  refine ⟨?_, fun acc f13 f16 E => ?run⟩
  case run =>
    unfold k1_t1_body
    iintro ⟨H8, H9, H10, H11, H15, H13, H16⟩
    sl_exec
    sl_step
    isplitl [H8]; · iexact H8
    isplitl [H9]; · iexact H9
    isplitl [H10]; · iexact H10
    isplitl [H11]; · iexact H11
    isplitl [H15]; · iexact H15
    isplitl [H16]; · iexists _; iexact H16
    iexact H13

/-- The pieces of the scores the trips before `k` wrote, the last first. -/
def st1 (c : Dev nD) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (v621 : IVec S8x512 32)
    (X8 : Bf (F := F) c arg8) (X9 : Bf (F := F) c arg9) (X10 : Bf (F := F) c arg10) (X11 : Bf (F := F) c arg11) (X15 : Bf (F := F) c arg15) : ℕ → List (View.Piece (Elt F) S1x6x40x3584 .f32)
  | 0 => []
  | k + 1 => if h : k < (k1_t1_loop v1).trips then
      (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 ⟨k, h⟩).1 ++ st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 k
    else st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 k

set_option warn.classDefReducibility false in
/-- The loop over the chunks below the length. -/
@[sl_loop] def loop1 (c : Dev nD) (E : Set ℕ) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (v621 : IVec S8x512 32)
    (X8 : Bf (F := F) c arg8) (X9 : Bf (F := F) c arg9) (X10 : Bf (F := F) c arg10) (X11 : Bf (F := F) c arg11) (X15 : Bf (F := F) c arg15) (G13 : Bf (F := F) c arg13) (init : FVec F S240x1 .f32 × FVec F S240x1 .f32) :
    LoopInv (M := 𝕄) frame (wpE (defs₀ (F := F)) Variants.none (c : Thread nD τ) none) E
      (k1_t1_loop v1).lb (k1_t1_loop v1).ub (k1_t1_loop v1).st (k1_t1_ok v1 k1_hw1) init (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621) where
  inv k acc := iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg15.view.loc (c : Thread nD τ) ↦[arg15.view.set]{fullShare} X15) ∗ (∃ f : Bf (F := F) c arg16, (arg16.view.loc (c : Thread nD τ) ↦[arg16.view.set]{fullShare} f))
      ∗ (∃ f : Bf (F := F) c arg13, (arg13.view.loc (c : Thread nD τ) ↦[arg13.view.set]{fullShare} f) ∗ ⌜f = arg13.view.writes (Elt F) G13 (st1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 k)⌝))
  step k acc := by
    iintro ⟨H8, H9, H10, H11, H15, ⟨%f16, H16⟩, ⟨%f13, H13, %h13⟩⟩
    subst h13
    iapply (wp_wand_r Idealize.ShloMosaic.frame (wpE (defs₀ (F := F)) Variants.none (c : Thread nD τ) none) E)
    isplitl [H8 H9 H10 H11 H15 H13 H16]
    · iapply ((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 X8 X9 X10 X11 X15 k).2 acc _ f16 E)
      isplitl [H8]; · iexact H8
      isplitl [H9]; · iexact H9
      isplitl [H10]; · iexact H10
      isplitl [H11]; · iexact H11
      isplitl [H15]; · iexact H15
      isplitl [H13]; · iexact H13
      iexact H16
    · iintro %y ⟨H8, H9, H10, H11, H15, H16, H13⟩
      isplitl [H8]; · iexact H8
      isplitl [H9]; · iexact H9
      isplitl [H10]; · iexact H10
      isplitl [H11]; · iexact H11
      isplitl [H15]; · iexact H15
      isplitl [H16]; · iexact H16
      iexists _
      isplitl [H13]; · iexact H13
      ipureintro
      rw [st1, dif_pos k.isLt, View.writes_append]

set_option warn.classDefReducibility false in
/-- The loop over the remainder of the full chunks, which makes no trip. -/
@[sl_loop] def loop2 (c : Dev nD) (E : Set ℕ) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (v621 : IVec S8x512 32) (v629 : BitVec 32) (init : FVec F S240x1 .f32 × FVec F S240x1 .f32) :
    LoopInv (M := 𝕄) frame (wpE (defs₀ (F := F)) Variants.none (c : Thread nD τ) none) E
      (k1_t2_loop v1).lb (k1_t2_loop v1).ub (k1_t2_loop v1).st (k1_t2_ok v1 k1_hw1) init (k1_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603 v621 v629) where
  inv k acc := iprop(⌜0 ≤ k⌝)
  step k acc := absurd (lt_of_lt_of_eq k.isLt (t2_trips v1)) (Nat.not_lt_zero _)

/-- The zero pieces the trips before `k` wrote beyond the length, the last first. -/
def st3 (v1 : BitVec 32) (k1_hw1 : k1_chk1 v1) : ℕ → List (View.Piece (Elt F) S1x6x40x3584 .f32)
  | 0 => []
  | k + 1 => if h : k < (k1_t3_loop v1).trips then
      ⟨Rect.unit (s := S1x6x40x3584) (k1_off38 v1 ⟨k, h⟩) S1x6x40x512.size (k1_off38_inb v1 k1_hw1 ⟨k, h⟩), k1_pay412 (F := F)⟩ :: st3 v1 k1_hw1 k
    else st3 v1 k1_hw1 k

set_option warn.classDefReducibility false in
/-- The loop over the chunks beyond the length. -/
@[sl_loop] def loop3 (c : Dev nD) (E : Set ℕ) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (G13 : Bf (F := F) c arg13) (init : Unit) :
    LoopInv (M := 𝕄) frame (wpE (defs₀ (F := F)) Variants.none (c : Thread nD τ) none) E
      (k1_t3_loop v1).lb (k1_t3_loop v1).ub (k1_t3_loop v1).st (k1_t3_ok v1 k1_hw1) init (k1_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603) where
  inv k acc := iprop(∃ f : Bf (F := F) c arg13, (arg13.view.loc (c : Thread nD τ) ↦[arg13.view.set]{fullShare} f) ∗ ⌜f = arg13.view.writes (Elt F) G13 (st3 v1 k1_hw1 k)⌝)
  step k acc := by
    iintro ⟨%f13, H13, %h13⟩
    subst h13
    unfold k1_t3_body
    sl_exec
    sl_step
    iexists _
    isplitl [H13]; · iexact H13
    ipureintro
    rw [st3, dif_pos k.isLt]

set_option warn.classDefReducibility false in
/-- The loop over the remainder of the zero chunks, which makes no trip. -/
@[sl_loop] def loop4 (c : Dev nD) (E : Set ℕ) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (v1 : Elt F .i32) (k1_hw1 : k1_chk1 v1) (v7 : FVec F S240x256 .bf16) (v13 : FVec F S240x1 .f32) (v602 : IVec S240x48 1) (v603 : Vec F S1x48x256 .bf16) (init : Unit) :
    LoopInv (M := 𝕄) frame (wpE (defs₀ (F := F)) Variants.none (c : Thread nD τ) none) E
      (k1_t4_loop v1).lb (k1_t4_loop v1).ub (k1_t4_loop v1).st (k1_t4_ok v1 k1_hw1) init (k1_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k1_hw1 v7 v13 v602 v603) where
  inv k acc := iprop(⌜0 ≤ k⌝)
  step k acc := absurd (lt_of_lt_of_eq k.isLt (t4_trips v1)) (Nat.not_lt_zero _)

end Cert.Proof.Kernel

end
-- ==== Proof.Kernel.Att.lean ====
/-
  The body of the call that attends over the cached positions, run once at symbolic operands and for a length in the
  range: its inputs as they were, the block of scores the pieces the body writes into it, and the rest at some contents.
-/
module

public import proofs.«01_k».proof.Proof.Kernel.Loops

@[expose] public section

set_option maxRecDepth 65536
set_option maxHeartbeats 40000000

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The length of the sequence at point `i`, as the body reads it. -/
def attWord (c : Dev nD) (i : grid1.Coords) (arg1 : Memref sig .tc .smem S48 .i32) (X1 : Bf (F := F) c arg1) : BitVec 32 :=
  View.readAt (Elt F) arg1.view (Rect.unit (s := S48) (k1_off1 i) S1.size (k1_off1_inb i)).toLoadRect X1 (Shape.Idx.first (numel1_S1.symm ▸ Nat.one_pos))

/-- The pieces of the scores the body writes, the last first, with the proof that it runs there. -/
def attRun (c : Dev nD) (i : grid1.Coords) (arg1 : Memref sig .tc .smem S48 .i32) (harg1 : arg1.IsWhole) (arg2 : Memref sig .tc .vmem S1x240x128 .bf16) (harg2 : arg2.IsWhole)
    (arg3 : Memref sig .tc .vmem S128x256 .bf16) (harg3 : arg3.IsWhole) (arg4 : Memref sig .tc .vmem S1x48x256 .bf16) (harg4 : arg4.IsWhole) (arg5 : Memref sig .tc .vmem S1x48x128 .bf16)
    (harg5 : arg5.IsWhole) (arg6 : Memref sig .tc .vmem S1x1x48 .bf16) (harg6 : arg6.IsWhole) (arg7 : Memref sig .tc .vmem S1x1x48 .f32) (harg7 : arg7.IsWhole)
    (arg8 : Memref sig .tc .vmem S1x8x32x3584 .i8) (harg8 : arg8.IsWhole) (arg9 : Memref sig .tc .vmem S1x8x3584 .bf16) (harg9 : arg9.IsWhole) (arg10 : Memref sig .tc .vmem S1x8x64x3584 .i8)
    (harg10 : arg10.IsWhole) (arg11 : Memref sig .tc .vmem S1x8x3584 .f32) (harg11 : arg11.IsWhole) (arg12 : Memref sig .tc .vmem S1x240x128 .bf16) (harg12 : arg12.IsWhole)
    (arg13 : Memref sig .tc .vmem S1x6x40x3584 .f32) (harg13 : arg13.IsWhole) (arg14 : Memref sig .tc .vmem S240x256 .bf16) (harg14 : arg14.IsWhole) (arg15 : Memref sig .tc .vmem S8x96x256 .bf16)
    (harg15 : arg15.IsWhole) (arg16 : Memref sig .tc .vmem S4x96x256 .f32) (harg16 : arg16.IsWhole) (arg17 : Memref sig .tc .vmem S8x128 .f32) (harg17 : arg17.IsWhole)
    (X1 : Bf (F := F) c arg1) (X2 : Bf (F := F) c arg2) (X3 : Bf (F := F) c arg3) (X4 : Bf (F := F) c arg4) (X5 : Bf (F := F) c arg5) (X6 : Bf (F := F) c arg6) (X7 : Bf (F := F) c arg7) (X8 : Bf (F := F) c arg8) (X9 : Bf (F := F) c arg9) (X10 : Bf (F := F) c arg10) (X11 : Bf (F := F) c arg11) (f15 : Bf (F := F) c arg15) (hchk : ∀ w, w = attWord c i arg1 X1 → k1_chk1 w) :
    { W : List (View.Piece (Elt F) S1x6x40x3584 .f32) //
      ∀ (f12 : Bf (F := F) c arg12) (f13 : Bf (F := F) c arg13) (f14 : Bf (F := F) c arg14) (f16 : Bf (F := F) c arg16) (f17 : Bf (F := F) c arg17) (E : Set ℕ) (Q : PUnit → sProp 𝕄),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f : Bf (F := F) c arg12, (arg12.view.loc (c : Thread nD τ) ↦[arg12.view.set]{fullShare} f)) ∗ (arg13.view.loc (c : Thread nD τ) ↦[arg13.view.set]{fullShare} (arg13.view.writes (Elt F) f13 W)) ∗ (∃ f : Bf (F := F) c arg14, (arg14.view.loc (c : Thread nD τ) ↦[arg14.view.set]{fullShare} f)) ∗ (∃ f : Bf (F := F) c arg15, (arg15.view.loc (c : Thread nD τ) ↦[arg15.view.set]{fullShare} f)) ∗ (∃ f : Bf (F := F) c arg16, (arg16.view.loc (c : Thread nD τ) ↦[arg16.view.set]{fullShare} f)) ∗ (∃ f : Bf (F := F) c arg17, (arg17.view.loc (c : Thread nD τ) ↦[arg17.view.set]{fullShare} f))) -∗ Q ⟨⟩)) : sProp 𝕄)
      ⊢ wp frame (wpE (defs₀ (F := F)) Variants.none (c : Thread nD τ) none) E (cc1_attend (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q } := by
  refine ⟨?_, fun f12 f13 f14 f16 f17 E Q => ?run⟩
  case run =>
    rw [cc1_attend_eq_skeleton]
    iintro ⟨H1, H2, H3, H4, H5, H6, H7, H8, H9, H10, H11, H12, H13, H14, H15, H16, H17, Hk⟩
    sl_exec (disch := exact hchk _ rfl)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexists _; iexact H14
    isplitl [H15]; · iexists _; iexact H15
    isplitl [H16]; · iexists _; iexact H16
    iexists _; iexact H17

end Cert.Proof.Kernel

end
-- ==== Proof.Kernel.Region1.lean ====
/-
  The second call's run between its region's ends: what its windows hold, a point's block of scores as what the body's
  pieces read back, and the body obligation.
-/
module

public import proofs.«01_k».proof.Proof.Kernel.Region0
public import proofs.«01_k».proof.Proof.Kernel.Att
public import proofs.«01_k».proof.Proof.Words
public import Idealize.ShloMosaic.Lib.Pipeline.TableIdle
public import Idealize.ShloMosaic.Lib.Pipeline.FrameBody

@[expose] public section

set_option maxRecDepth 65536
set_option maxHeartbeats 8000000

noncomputable section

namespace Cert.Proof.Kernel

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (m : (ℓ : Loc nD τ sig) → Buf (Elt F) ℓ)

/-- The one core, and the lengths it reads: the prefetched table's contents. -/
abbrev c₀ : Dev nD := ⟨0, by decide⟩
abbrev tbl : (pcfg1 (F := F)).Adm := ⟨fun k => m ((c₀ : Thread nD τ).loc (pre1.ref k)), trivial⟩
/-- The tables of the two pipelines. -/
abbrev adm : (p : Fin 2) → (pcfgs (F := F) p).Adm := fun | ⟨0, _⟩ => cfg0.toPCfg_adm | ⟨1, _⟩ => tbl m | ⟨_ + 2, h⟩ => absurd h (Nat.not_lt.2 (Nat.le_add_left _ _))

/-- Each input's block at a point, off the contents the region finds. -/
abbrev blk1_0 (c : Dev nD) (t : Fin grid1.N) : ((cfg1 (tbl m)).win 0).block.Idx → Elt F ((cfg1 (tbl m)).win 0).elt := (((cfg1 (tbl m)).win 0).blk t).view.read (Elt F) (V3 m (outs0 m) c main_v5)
abbrev blk1_1 (c : Dev nD) (t : Fin grid1.N) : ((cfg1 (tbl m)).win 1).block.Idx → Elt F ((cfg1 (tbl m)).win 1).elt := (((cfg1 (tbl m)).win 1).blk t).view.read (Elt F) (V3 m (outs0 m) c main_v2_6)
abbrev blk1_2 (c : Dev nD) (t : Fin grid1.N) : ((cfg1 (tbl m)).win 2).block.Idx → Elt F ((cfg1 (tbl m)).win 2).elt := (((cfg1 (tbl m)).win 2).blk t).view.read (Elt F) (V3 m (outs0 m) c main_v6)
abbrev blk1_3 (c : Dev nD) (t : Fin grid1.N) : ((cfg1 (tbl m)).win 3).block.Idx → Elt F ((cfg1 (tbl m)).win 3).elt := (((cfg1 (tbl m)).win 3).blk t).view.read (Elt F) (V3 m (outs0 m) c main_v7)
abbrev blk1_4 (c : Dev nD) (t : Fin grid1.N) : ((cfg1 (tbl m)).win 4).block.Idx → Elt F ((cfg1 (tbl m)).win 4).elt := (((cfg1 (tbl m)).win 4).blk t).view.read (Elt F) (V3 m (outs0 m) c main_v8)
abbrev blk1_5 (c : Dev nD) (t : Fin grid1.N) : ((cfg1 (tbl m)).win 5).block.Idx → Elt F ((cfg1 (tbl m)).win 5).elt := (((cfg1 (tbl m)).win 5).blk t).view.read (Elt F) (V3 m (outs0 m) c main_v9)
abbrev blk1_6 (c : Dev nD) (t : Fin grid1.N) : ((cfg1 (tbl m)).win 6).block.Idx → Elt F ((cfg1 (tbl m)).win 6).elt := (((cfg1 (tbl m)).win 6).blk t).view.read (Elt F) (V3 m (outs0 m) c main_v10)
abbrev blk1_7 (c : Dev nD) (t : Fin grid1.N) : ((cfg1 (tbl m)).win 7).block.Idx → Elt F ((cfg1 (tbl m)).win 7).elt := (((cfg1 (tbl m)).win 7).blk t).view.read (Elt F) (V3 m (outs0 m) c main_v11)
abbrev blk1_8 (c : Dev nD) (t : Fin grid1.N) : ((cfg1 (tbl m)).win 8).block.Idx → Elt F ((cfg1 (tbl m)).win 8).elt := (((cfg1 (tbl m)).win 8).blk t).view.read (Elt F) (V3 m (outs0 m) c main_v12)
abbrev blk1_9 (c : Dev nD) (t : Fin grid1.N) : ((cfg1 (tbl m)).win 9).block.Idx → Elt F ((cfg1 (tbl m)).win 9).elt := (((cfg1 (tbl m)).win 9).blk t).view.read (Elt F) (V3 m (outs0 m) c main_v13)
/-- The staging buffers current at a point. -/
abbrev slot1 (t : Fin grid1.N) := (cfg1 (tbl m)).slots t

/-- What may be left in the scores' buffer at a point: the body's pieces, whatever they were written over. -/
def scoreAfter (c : Dev nD) (t : Fin grid1.N) (X : S1x6x40x3584.Idx → Elt F .f32) : Prop :=
  ∃ (f15 : Bf (F := F) c (Memref.whole cc1_scratch1)) (f13 : Bf (F := F) c (spec1_11.stage (slot1 m t 11)))
    (hchk : ∀ w, w = attWord (F := F) c (grid1.coords t) (Memref.whole main_arg8) (m ((c₀ : Thread nD τ).loc main_arg8)) → k1_chk1 w),
    X = (spec1_11.stage (slot1 m t 11)).view.read (Elt F) ((spec1_11.stage (slot1 m t 11)).view.writes (Elt F) f13
      (attRun (F := F) c (grid1.coords t) (Memref.whole main_arg8) (Memref.isWhole_whole _) (spec1_0.stage (slot1 m t 0)) (hstage1_0 ((slot1 m t 0).cast nbuf1_0)) (spec1_1.stage (slot1 m t 1)) (hstage1_1 ((slot1 m t 1).cast nbuf1_1)) (spec1_2.stage (slot1 m t 2)) (hstage1_2 ((slot1 m t 2).cast nbuf1_2)) (spec1_3.stage (slot1 m t 3)) (hstage1_3 ((slot1 m t 3).cast nbuf1_3)) (spec1_4.stage (slot1 m t 4)) (hstage1_4 ((slot1 m t 4).cast nbuf1_4)) (spec1_5.stage (slot1 m t 5)) (hstage1_5 ((slot1 m t 5).cast nbuf1_5)) (spec1_6.stage (slot1 m t 6)) (hstage1_6 ((slot1 m t 6).cast nbuf1_6)) (spec1_7.stage (slot1 m t 7)) (hstage1_7 ((slot1 m t 7).cast nbuf1_7)) (spec1_8.stage (slot1 m t 8)) (hstage1_8 ((slot1 m t 8).cast nbuf1_8)) (spec1_9.stage (slot1 m t 9)) (hstage1_9 ((slot1 m t 9).cast nbuf1_9)) (spec1_10.stage (slot1 m t 10)) (hstage1_10 ((slot1 m t 10).cast nbuf1_10)) (spec1_11.stage (slot1 m t 11)) (hstage1_11 ((slot1 m t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (m ((c₀ : Thread nD τ).loc main_arg8)) ((spec1_0.stage (slot1 m t 0)).view.rep (Val := Elt F) (blk1_0 m c t)) ((spec1_1.stage (slot1 m t 1)).view.rep (Val := Elt F) (blk1_1 m c t)) ((spec1_2.stage (slot1 m t 2)).view.rep (Val := Elt F) (blk1_2 m c t)) ((spec1_3.stage (slot1 m t 3)).view.rep (Val := Elt F) (blk1_3 m c t)) ((spec1_4.stage (slot1 m t 4)).view.rep (Val := Elt F) (blk1_4 m c t)) ((spec1_5.stage (slot1 m t 5)).view.rep (Val := Elt F) (blk1_5 m c t)) ((spec1_6.stage (slot1 m t 6)).view.rep (Val := Elt F) (blk1_6 m c t)) ((spec1_7.stage (slot1 m t 7)).view.rep (Val := Elt F) (blk1_7 m c t)) ((spec1_8.stage (slot1 m t 8)).view.rep (Val := Elt F) (blk1_8 m c t)) ((spec1_9.stage (slot1 m t 9)).view.rep (Val := Elt F) (blk1_9 m c t)) f15 hchk).1)

/-- The proof data: inputs kept, the first result anything, the scores as above; the scoped buffers and the table ride along. -/
def rd1 (c : Dev nD) : RDat τ (Elt F) Unit ℕ UU ℕ (cfg1 (tbl m)) c where
  A w := V3 m (outs0 m) c (Pipeline.arrRef spec1 w)
  after w t Y X := match w, Y, X with
    | ⟨10, _⟩, _, _ => True
    | ⟨11, _⟩, _, X => scoreAfter m c t X
    | _, Y, X => X = Y
  Φ _ := iprop(Pipeline.scopedRest spec1 c ∗ Pipeline.prefHeld pre1 c (fun _ => fullShare) (tbl m).1)
  q _ := fullShare
  owed _ := 0

theorem whole_pt (c : Dev nD) (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  rw [(Memref.isWhole_whole b).set_eq_univ]

theorem tbl_pt (c : Dev nD) : (Pipeline.prefHeld pre1 c (fun _ => fullShare) (tbl m).1 : sProp 𝕄)
    = (((c : Thread nD τ).loc main_arg8) ↦{fullShare} m ((c₀ : Thread nD τ).loc main_arg8)) := by
  unfold Pipeline.prefHeld
  rw [show (Finset.univ : Finset (Fin 1)) = {0} from rfl, BI.bigSep_singleton]
  rfl

theorem owns_some (c : Dev nD) {sp : Space} {S : Shape} {e : EltTy} (M : Memref sig .tc sp S e) (X : S.Idx → Elt F e) :
    owns (c : Thread nD τ) M fullShare X ⊢ (iprop(∃ f : Bf (F := F) c M, M.view.loc (c : Thread nD τ) ↦[M.view.set]{fullShare} f) : sProp 𝕄) := by
  unfold owns; iintro ⟨%f, %hf, H⟩; iexists f; iexact H

theorem owns_read (c : Dev nD) {sp : Space} {S : Shape} {e : EltTy} (M : Memref sig .tc sp S e) (f : Bf (F := F) c M) :
    (M.view.loc (c : Thread nD τ) ↦[M.view.set]{fullShare} f : sProp 𝕄) ⊢ owns (c : Thread nD τ) M fullShare (M.view.read (Elt F) f) := by
  unfold owns; iintro H; iexists f; isplitr; · ipureintro; rfl
  iexact H

theorem finds1_0 (c : Dev nD) (t : Fin grid1.N) (Y) (h : (rd1 m c).Finds 0 t Y) : Y = blk1_0 m c t := by
  obtain ⟨d, hd⟩ := (rd1 m c).finds_in_eq_fetched 0 rfl (fun _ _ _ => rfl) (fun _ _ _ h => h) t Y h
  exact hd
theorem finds1_1 (c : Dev nD) (t : Fin grid1.N) (Y) (h : (rd1 m c).Finds 1 t Y) : Y = blk1_1 m c t := by
  obtain ⟨d, hd⟩ := (rd1 m c).finds_in_eq_fetched 1 rfl (fun _ _ _ => rfl) (fun _ _ _ h => h) t Y h
  exact hd
theorem finds1_2 (c : Dev nD) (t : Fin grid1.N) (Y) (h : (rd1 m c).Finds 2 t Y) : Y = blk1_2 m c t := by
  obtain ⟨d, hd⟩ := (rd1 m c).finds_in_eq_fetched 2 rfl (fun _ _ _ => rfl) (fun _ _ _ h => h) t Y h
  exact hd
theorem finds1_3 (c : Dev nD) (t : Fin grid1.N) (Y) (h : (rd1 m c).Finds 3 t Y) : Y = blk1_3 m c t := by
  obtain ⟨d, hd⟩ := (rd1 m c).finds_in_eq_fetched 3 rfl (fun _ _ _ => rfl) (fun _ _ _ h => h) t Y h
  exact hd
theorem finds1_4 (c : Dev nD) (t : Fin grid1.N) (Y) (h : (rd1 m c).Finds 4 t Y) : Y = blk1_4 m c t := by
  obtain ⟨d, hd⟩ := (rd1 m c).finds_in_eq_fetched 4 rfl (fun _ _ _ => rfl) (fun _ _ _ h => h) t Y h
  exact hd
theorem finds1_5 (c : Dev nD) (t : Fin grid1.N) (Y) (h : (rd1 m c).Finds 5 t Y) : Y = blk1_5 m c t := by
  obtain ⟨d, hd⟩ := (rd1 m c).finds_in_eq_fetched 5 rfl (fun _ _ _ => rfl) (fun _ _ _ h => h) t Y h
  exact hd
theorem finds1_6 (c : Dev nD) (t : Fin grid1.N) (Y) (h : (rd1 m c).Finds 6 t Y) : Y = blk1_6 m c t := by
  obtain ⟨d, hd⟩ := (rd1 m c).finds_in_eq_fetched 6 rfl (fun _ _ _ => rfl) (fun _ _ _ h => h) t Y h
  exact hd
theorem finds1_7 (c : Dev nD) (t : Fin grid1.N) (Y) (h : (rd1 m c).Finds 7 t Y) : Y = blk1_7 m c t := by
  obtain ⟨d, hd⟩ := (rd1 m c).finds_in_eq_fetched 7 rfl (fun _ _ _ => rfl) (fun _ _ _ h => h) t Y h
  exact hd
theorem finds1_8 (c : Dev nD) (t : Fin grid1.N) (Y) (h : (rd1 m c).Finds 8 t Y) : Y = blk1_8 m c t := by
  obtain ⟨d, hd⟩ := (rd1 m c).finds_in_eq_fetched 8 rfl (fun _ _ _ => rfl) (fun _ _ _ h => h) t Y h
  exact hd
theorem finds1_9 (c : Dev nD) (t : Fin grid1.N) (Y) (h : (rd1 m c).Finds 9 t Y) : Y = blk1_9 m c t := by
  obtain ⟨d, hd⟩ := (rd1 m c).finds_in_eq_fetched 9 rfl (fun _ _ _ => rfl) (fun _ _ _ h => h) t Y h
  exact hd

set_option backward.isDefEq.respectTransparency.types false in
theorem body1 (hlen : ∀ i : grid1.Coords, (attWord (F := F) c₀ i (Memref.whole main_arg8) (m ((c₀ : Thread nD τ).loc main_arg8))).toNat ≤ 3584)
    (c : Dev nD) : (rd1 m c).BodyObligation (defs₀ (F := F)) Variants.none () Set.univ := fun t Y hY => by
  obtain rfl : c = c₀ := Subsingleton.elim _ _
  have hchk : ∀ w, w = attWord (F := F) c₀ (grid1.coords t) (Memref.whole main_arg8) (m ((c₀ : Thread nD τ).loc main_arg8)) → k1_chk1 w :=
    fun w hw => chk1 w (hw ▸ hlen _)
  have e0 := finds1_0 m c₀ t _ (hY 0)
  have e1 := finds1_1 m c₀ t _ (hY 1)
  have e2 := finds1_2 m c₀ t _ (hY 2)
  have e3 := finds1_3 m c₀ t _ (hY 3)
  have e4 := finds1_4 m c₀ t _ (hY 4)
  have e5 := finds1_5 m c₀ t _ (hY 5)
  have e6 := finds1_6 m c₀ t _ (hY 6)
  have e7 := finds1_7 m c₀ t _ (hY 7)
  have e8 := finds1_8 m c₀ t _ (hY 8)
  have e9 := finds1_9 m c₀ t _ (hY 9)
  rw [bigSep_W1, bigSep_W1, e0, e1, e2, e3, e4, e5, e6, e7, e8, e9]
  rw [show (rd1 m c₀).Φ t.castSucc = iprop(Pipeline.scopedRest spec1 c₀ ∗ Pipeline.prefHeld pre1 c₀ (fun _ => fullShare) (tbl m).1) from rfl,
    show (rd1 m c₀).Φ t.succ = iprop(Pipeline.scopedRest spec1 c₀ ∗ Pipeline.prefHeld pre1 c₀ (fun _ => fullShare) (tbl m).1) from rfl]
  unfold RDat.owesAt Pipeline.owesWithin
  rw [show (rd1 m c₀).owed t.castSucc = 0 from rfl, show (rd1 m c₀).owed t.succ = 0 from rfl, scopedRest1_eq, tbl_pt]
  iintro ⟨⟨⟨R0, R1, R2, R3, R4, R5, R6, R7, R8, R9, ⟨%f14, S0⟩, ⟨%f15, S1⟩, ⟨%f16, S2⟩, ⟨%f17, S3⟩⟩, HT⟩, ⟨%W, %hW, HO⟩, H0, H1, H2, H3, H4, H5, H6, H7, H8, H9, H10, H11⟩
  ihave H10 := (owns_some c₀ _ _) $$ H10
  ihave H11 := (owns_some c₀ _ _) $$ H11
  icases H10 with ⟨%f12, H10⟩
  icases H11 with ⟨%f13, H11⟩
  iapply ((attRun (F := F) c₀ (grid1.coords t) (Memref.whole main_arg8) (Memref.isWhole_whole _) (spec1_0.stage (slot1 m t 0)) (hstage1_0 ((slot1 m t 0).cast nbuf1_0)) (spec1_1.stage (slot1 m t 1)) (hstage1_1 ((slot1 m t 1).cast nbuf1_1)) (spec1_2.stage (slot1 m t 2)) (hstage1_2 ((slot1 m t 2).cast nbuf1_2)) (spec1_3.stage (slot1 m t 3)) (hstage1_3 ((slot1 m t 3).cast nbuf1_3)) (spec1_4.stage (slot1 m t 4)) (hstage1_4 ((slot1 m t 4).cast nbuf1_4)) (spec1_5.stage (slot1 m t 5)) (hstage1_5 ((slot1 m t 5).cast nbuf1_5)) (spec1_6.stage (slot1 m t 6)) (hstage1_6 ((slot1 m t 6).cast nbuf1_6)) (spec1_7.stage (slot1 m t 7)) (hstage1_7 ((slot1 m t 7).cast nbuf1_7)) (spec1_8.stage (slot1 m t 8)) (hstage1_8 ((slot1 m t 8).cast nbuf1_8)) (spec1_9.stage (slot1 m t 9)) (hstage1_9 ((slot1 m t 9).cast nbuf1_9)) (spec1_10.stage (slot1 m t 10)) (hstage1_10 ((slot1 m t 10).cast nbuf1_10)) (spec1_11.stage (slot1 m t 11)) (hstage1_11 ((slot1 m t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (m ((c₀ : Thread nD τ).loc main_arg8)) ((spec1_0.stage (slot1 m t 0)).view.rep (Val := Elt F) (blk1_0 m c₀ t)) ((spec1_1.stage (slot1 m t 1)).view.rep (Val := Elt F) (blk1_1 m c₀ t)) ((spec1_2.stage (slot1 m t 2)).view.rep (Val := Elt F) (blk1_2 m c₀ t)) ((spec1_3.stage (slot1 m t 3)).view.rep (Val := Elt F) (blk1_3 m c₀ t)) ((spec1_4.stage (slot1 m t 4)).view.rep (Val := Elt F) (blk1_4 m c₀ t)) ((spec1_5.stage (slot1 m t 5)).view.rep (Val := Elt F) (blk1_5 m c₀ t)) ((spec1_6.stage (slot1 m t 6)).view.rep (Val := Elt F) (blk1_6 m c₀ t)) ((spec1_7.stage (slot1 m t 7)).view.rep (Val := Elt F) (blk1_7 m c₀ t)) ((spec1_8.stage (slot1 m t 8)).view.rep (Val := Elt F) (blk1_8 m c₀ t)) ((spec1_9.stage (slot1 m t 9)).view.rep (Val := Elt F) (blk1_9 m c₀ t)) f15 hchk).2 f12 f13 f14 f16 f17 Set.univ)
  isplitl [HT]; · iapply (Entails.of_eq (whole_pt c₀ main_arg8 _)); iexact HT
  isplitl [H0]; · iapply (rep_of_owns _ _ _ _); iexact H0
  isplitl [H1]; · iapply (rep_of_owns _ _ _ _); iexact H1
  isplitl [H2]; · iapply (rep_of_owns _ _ _ _); iexact H2
  isplitl [H3]; · iapply (rep_of_owns _ _ _ _); iexact H3
  isplitl [H4]; · iapply (rep_of_owns _ _ _ _); iexact H4
  isplitl [H5]; · iapply (rep_of_owns _ _ _ _); iexact H5
  isplitl [H6]; · iapply (rep_of_owns _ _ _ _); iexact H6
  isplitl [H7]; · iapply (rep_of_owns _ _ _ _); iexact H7
  isplitl [H8]; · iapply (rep_of_owns _ _ _ _); iexact H8
  isplitl [H9]; · iapply (rep_of_owns _ _ _ _); iexact H9
  isplitl [H10]; · iexact H10
  isplitl [H11]; · iexact H11
  isplitl [S0]; · iapply (Entails.of_eq (whole_pt c₀ cc1_scratch0 _)); iexact S0
  isplitl [S1]; · iapply (Entails.of_eq (whole_pt c₀ cc1_scratch1 _)); iexact S1
  isplitl [S2]; · iapply (Entails.of_eq (whole_pt c₀ cc1_scratch2 _)); iexact S2
  isplitl [S3]; · iapply (Entails.of_eq (whole_pt c₀ cc1_scratch3 _)); iexact S3
  iintro ⟨HT, H0, H1, H2, H3, H4, H5, H6, H7, H8, H9, ⟨%g12, H10⟩, H11, ⟨%g14, S0⟩, ⟨%g15, S1⟩, ⟨%g16, S2⟩, ⟨%g17, S3⟩⟩
  isplitl [HT R0 R1 R2 R3 R4 R5 R6 R7 R8 R9 S0 S1 S2 S3]
  · isplitr [HT]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [S0]; · iexists _; iapply (Entails.of_eq (whole_pt c₀ cc1_scratch0 _).symm); iexact S0
      isplitl [S1]; · iexists _; iapply (Entails.of_eq (whole_pt c₀ cc1_scratch1 _).symm); iexact S1
      isplitl [S2]; · iexists _; iapply (Entails.of_eq (whole_pt c₀ cc1_scratch2 _).symm); iexact S2
      iexists _; iapply (Entails.of_eq (whole_pt c₀ cc1_scratch3 _).symm); iexact S3
    iapply (Entails.of_eq (whole_pt c₀ main_arg8 _).symm); iexact HT
  isplitl [HO]
  · iexists W; isplitr; · ipureintro; exact fun _ _ => Or.inl trivial
    iexact HO
  isplitl [H0]; · iexists _; isplitr; swap; (· iapply (owns_of_rep _ _ _ _); iexact H0); ipureintro; exact rfl
  isplitl [H1]; · iexists _; isplitr; swap; (· iapply (owns_of_rep _ _ _ _); iexact H1); ipureintro; exact rfl
  isplitl [H2]; · iexists _; isplitr; swap; (· iapply (owns_of_rep _ _ _ _); iexact H2); ipureintro; exact rfl
  isplitl [H3]; · iexists _; isplitr; swap; (· iapply (owns_of_rep _ _ _ _); iexact H3); ipureintro; exact rfl
  isplitl [H4]; · iexists _; isplitr; swap; (· iapply (owns_of_rep _ _ _ _); iexact H4); ipureintro; exact rfl
  isplitl [H5]; · iexists _; isplitr; swap; (· iapply (owns_of_rep _ _ _ _); iexact H5); ipureintro; exact rfl
  isplitl [H6]; · iexists _; isplitr; swap; (· iapply (owns_of_rep _ _ _ _); iexact H6); ipureintro; exact rfl
  isplitl [H7]; · iexists _; isplitr; swap; (· iapply (owns_of_rep _ _ _ _); iexact H7); ipureintro; exact rfl
  isplitl [H8]; · iexists _; isplitr; swap; (· iapply (owns_of_rep _ _ _ _); iexact H8); ipureintro; exact rfl
  isplitl [H9]; · iexists _; isplitr; swap; (· iapply (owns_of_rep _ _ _ _); iexact H9); ipureintro; exact rfl
  isplitl [H10]; · iexists _; isplitr; swap; (· iapply (owns_read c₀ _ _); iexact H10); ipureintro; exact trivial
  iexists _; isplitr; swap; (· iapply (owns_read c₀ _ _); iexact H11); ipureintro; exact ⟨f15, f13, hchk, rfl⟩

end Cert.Proof.Kernel

end
-- ==== Proof.Kernel.Run.lean ====
/-
  The whole program's run: its two calls' regions and the host operations around them as a list of segments, and what every
  final state holds.
-/
module

public import proofs.«01_k».proof.Proof.Kernel.Region1

@[expose] public section

set_option maxRecDepth 65536
set_option maxHeartbeats 4000000

noncomputable section

namespace Cert.Proof.Kernel

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0
/-- What rides beside the buffers: the core's dues, none. -/
abbrev R (c : Dev nD) : sProp 𝕄 := iprop(∃ W, owes (c : Thread nD τ) (0 : CellTallies nD τ sig Unit) W)

/-- The two pipelines' proof data. -/
def rdats : (p : Fin 2) → (c : Dev nD) → RDat τ (Elt F) Unit ℕ UU ℕ (Pipeline.pin (pcfgs (F := F)) (adm m) p) c
  | ⟨0, _⟩ => fun c => (dat0 m c).toR
  | ⟨1, _⟩ => fun c => rd1 m c
  | ⟨_ + 2, h⟩ => absurd h (Nat.not_lt.2 (Nat.le_add_left _ _))

/-! ## The first region's results in the valuation after it -/

theorem V2_res0 (c : Dev nD) : V2 m (outs0 m) c main_v2_0 = (dat0 m c).arrAt 3 cfg0.N := by
  rw [show V2 m (outs0 m) c main_v2_0 = outs0 m 2 main_v2_0 c from by rw [V2, Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]]
  unfold outs0
  rw [dif_pos rfl]
theorem V2_res1 (c : Dev nD) : V2 m (outs0 m) c main_v2_1 = (dat0 m c).arrAt 4 cfg0.N := by
  rw [show V2 m (outs0 m) c main_v2_1 = outs0 m 2 main_v2_1 c from by rw [V2, Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]]
  unfold outs0
  rw [dif_neg (show main_v2_1 ≠ main_v2_0 from by decide)]
  rw [dif_pos rfl]
theorem V2_res2 (c : Dev nD) : V2 m (outs0 m) c main_v2_2 = (dat0 m c).arrAt 5 cfg0.N := by
  rw [show V2 m (outs0 m) c main_v2_2 = outs0 m 2 main_v2_2 c from by rw [V2, Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]]
  unfold outs0
  rw [dif_neg (show main_v2_2 ≠ main_v2_0 from by decide)]
  rw [dif_neg (show main_v2_2 ≠ main_v2_1 from by decide)]
  rw [dif_pos rfl]
theorem V2_res3 (c : Dev nD) : V2 m (outs0 m) c main_v2_3 = (dat0 m c).arrAt 6 cfg0.N := by
  rw [show V2 m (outs0 m) c main_v2_3 = outs0 m 2 main_v2_3 c from by rw [V2, Function.update_of_ne (StableHlo.devRef_ne_of_ne (by decide)), Function.update_of_ne (StableHlo.devRef_ne_of_ne (by decide)), Function.update_of_ne (StableHlo.devRef_ne_of_ne (by decide)), Function.update_self]]
  unfold outs0
  rw [dif_neg (show main_v2_3 ≠ main_v2_0 from by decide)]
  rw [dif_neg (show main_v2_3 ≠ main_v2_1 from by decide)]
  rw [dif_neg (show main_v2_3 ≠ main_v2_2 from by decide)]
  rw [dif_pos rfl]
theorem V2_res4 (c : Dev nD) : V2 m (outs0 m) c main_v2_4 = (dat0 m c).arrAt 7 cfg0.N := by
  rw [show V2 m (outs0 m) c main_v2_4 = outs0 m 2 main_v2_4 c from by rw [V2, Function.update_of_ne (StableHlo.devRef_ne_of_ne (by decide)), Function.update_of_ne (StableHlo.devRef_ne_of_ne (by decide)), Function.update_self]]
  unfold outs0
  rw [dif_neg (show main_v2_4 ≠ main_v2_0 from by decide)]
  rw [dif_neg (show main_v2_4 ≠ main_v2_1 from by decide)]
  rw [dif_neg (show main_v2_4 ≠ main_v2_2 from by decide)]
  rw [dif_neg (show main_v2_4 ≠ main_v2_3 from by decide)]
  rw [dif_pos rfl]
theorem V2_res5 (c : Dev nD) : V2 m (outs0 m) c main_v2_5 = (dat0 m c).arrAt 8 cfg0.N := by
  rw [show V2 m (outs0 m) c main_v2_5 = outs0 m 2 main_v2_5 c from by rw [V2, Function.update_of_ne (StableHlo.devRef_ne_of_ne (by decide)), Function.update_self]]
  unfold outs0
  rw [dif_neg (show main_v2_5 ≠ main_v2_0 from by decide)]
  rw [dif_neg (show main_v2_5 ≠ main_v2_1 from by decide)]
  rw [dif_neg (show main_v2_5 ≠ main_v2_2 from by decide)]
  rw [dif_neg (show main_v2_5 ≠ main_v2_3 from by decide)]
  rw [dif_neg (show main_v2_5 ≠ main_v2_4 from by decide)]
  rw [dif_pos rfl]
theorem V2_res6 (c : Dev nD) : V2 m (outs0 m) c main_v2_6 = (dat0 m c).arrAt 9 cfg0.N := by
  rw [show V2 m (outs0 m) c main_v2_6 = outs0 m 2 main_v2_6 c from by rw [V2, Function.update_self]]
  unfold outs0
  rw [dif_neg (show main_v2_6 ≠ main_v2_0 from by decide)]
  rw [dif_neg (show main_v2_6 ≠ main_v2_1 from by decide)]
  rw [dif_neg (show main_v2_6 ≠ main_v2_2 from by decide)]
  rw [dif_neg (show main_v2_6 ≠ main_v2_3 from by decide)]
  rw [dif_neg (show main_v2_6 ≠ main_v2_4 from by decide)]
  rw [dif_neg (show main_v2_6 ≠ main_v2_5 from by decide)]
  rw [dif_pos rfl]

theorem arrAt0 (c : Dev nD) : ∀ w : Fin 10, (dat0 m c).arrAt w cfg0.N = V2 m (outs0 m) c (Pipeline.arrRef spec0 w)
  | ⟨0, _⟩ => ((dat0 m c).arrAt_in 0 rfl _).trans (V2_of m (outs0 m) c main_v0 (by decide)).symm
  | ⟨1, _⟩ => ((dat0 m c).arrAt_in 1 rfl _).trans (V2_of m (outs0 m) c main_v1 (by decide)).symm
  | ⟨2, _⟩ => ((dat0 m c).arrAt_in 2 rfl _).trans (V2_of m (outs0 m) c main_arg3 (by decide)).symm
  | ⟨3, _⟩ => (V2_res0 m c).symm
  | ⟨4, _⟩ => (V2_res1 m c).symm
  | ⟨5, _⟩ => (V2_res2 m c).symm
  | ⟨6, _⟩ => (V2_res3 m c).symm
  | ⟨7, _⟩ => (V2_res4 m c).symm
  | ⟨8, _⟩ => (V2_res5 m c).symm
  | ⟨9, _⟩ => (V2_res6 m c).symm
  | ⟨_ + 10, h⟩ => absurd h (Nat.not_lt.2 (Nat.le_add_left _ _))

/-- The first region's arrays, back among the core's unscoped buffers. -/
theorem exit0 (c : Dev nD) : iprop((dat0 m c).arrays ((dat0 m c).arrAt · cfg0.N) ∗ Pipeline.unscopedRest spec0 c (fun b => V1 m c b))
    ⊢ (StableHlo.held (c : Thread nD τ) (Pipeline.ucRefs τ sig) (V2 m (outs0 m) c) : sProp 𝕄) := by
  rw [← Pipeline.unscopedBufs_held (Ix := Unit) (Name := ℕ) (U := UU) (Lvl := ℕ) c (V2 m (outs0 m) c),
    Pipeline.unscopedBufs_split (Pipeline.pin (pcfgs (F := F)) (adm m)) 0 (launch0 (F := F)).win.arr_unscoped (launch0 (F := F)).win.arr_inj c (fun b => V2 m (outs0 m) c b)]
  refine sep_mono (Entails.of_eq ?_) (Entails.of_eq ?_)
  · unfold Dat.arrays
    exact bigSep_congr fun w _ => by
      rw [(arr_whole0 w).set_eq_univ, (dat0 m c).share_full fun _ => rfl]
      show ((_ ↦{fullShare} (dat0 m c).arrAt w cfg0.N) : sProp 𝕄) = _
      rw [arrAt0]
      rfl
  · unfold Pipeline.unscopedRest
    refine bigSep_congr fun b hb => ?_
    show (((c : Thread nD τ).loc b ↦{fullShare} V1 m c b) : sProp 𝕄) = ((c : Thread nD τ).loc b ↦{fullShare} V2 m (outs0 m) c b)
    rw [V2_of m (outs0 m) c b fun h => (Finset.mem_sdiff.mp hb).2 ((by decide : ∀ r ∈ ([main_v2_0, main_v2_1, main_v2_2, main_v2_3, main_v2_4, main_v2_5, main_v2_6] : List (Ref sig .tc)), r ∈ Finset.univ.image (Pipeline.arrRef spec0)) b h)]

set_option backward.isDefEq.respectTransparency.types false in
/-- The first region. -/
def reg0 : Pipeline.RDat.RegionSeg (pcfgs (F := F)) (adm m) (rdats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (body0 m c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs0 m) c) ∗ R c)
  X c := iprop(emp)
  Y c := iprop(emp)
  Z c := Pipeline.unscopedRest spec0 c (fun b => V1 m c b)
  hentry c := by
    rw [← Pipeline.unscopedBufs_held (Ix := Unit) (Name := ℕ) (U := UU) (Lvl := ℕ) c (V1 m c), Pipeline.ownSems0_none]
    have hsplit := Pipeline.RDat.arrays_of_unscopedBufs (pcfgs (F := F)) (adm m) (rdats m) (p := 0) (launch0 (F := F)).win (launch0 (F := F)).arr_whole c
      ((rdats m 0 c).share_full fun _ => rfl) (fun b => V1 m c b) (fun w => rfl)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hr
  hin c := by
    rw [show (rdats m 0 c).Φ 0 = Pipeline.scopedRest spec0 c from rfl]
    iintro ⟨-, -, Hr⟩
    iexact Hr
  hout c := by
    rw [Pipeline.ownSems0_none, show (rdats m 0 c).Φ (Fin.last (Pipeline.pin (pcfgs (F := F)) (adm m) 0).N) = Pipeline.scopedRest spec0 c from rfl]
    iintro Hr
    isplitr; · iempintro
    isplitr; · iempintro
    iexact Hr
  hexit c := by
    rw [show (rdats m 0 c).arraysAt (Pipeline.pin (pcfgs (F := F)) (adm m) 0).N = ((dat0 m c).arrays ((dat0 m c).arrAt · cfg0.N) : sProp 𝕄) from (dat0 m c).toR_arraysAt_eq cfg0.N]
    iintro ⟨Ha, HO, -, Hr⟩
    imodintro
    isplitr [HO]
    · iapply (exit0 m c)
      isplitl [Ha]; · iexact Ha
      iexact Hr
    · unfold Pipeline.RDat.owesAt Pipeline.owesWithin
      icases HO with ⟨%W, -, HO⟩; iexists W; iexact HO

theorem V3_arg8 (c : Dev nD) : (fun k => V3 m (outs0 m) c (pre1.ref k)) = (tbl m).1 := by
  obtain rfl : c = c₀ := Subsingleton.elim _ _
  funext k
  obtain rfl : k = 0 := Subsingleton.elim _ _
  exact (V3_of m (outs0 m) c₀ main_arg8 (by decide)).trans ((V2_of m (outs0 m) c₀ main_arg8 (by decide)).trans ((V1_of m c₀ main_arg8 (by decide)).trans rfl))

/-- What the second region leaves for the end. -/
abbrev Tₙ (c : Dev nD) : sProp 𝕄 :=
  iprop((rdats m 1 c).arraysAt grid1.N ∗ Pipeline.prefHeld pre1 c (fun _ => fullShare) (tbl m).1 ∗ Pipeline.unscopedRestP pre1 spec1 c (fun b => V3 m (outs0 m) c b))

/-- The length every point reads is in the range. -/
def Fits : Prop := ∀ i : grid1.Coords, (attWord (F := F) c₀ i (Memref.whole main_arg8) (m ((c₀ : Thread nD τ).loc main_arg8))).toNat ≤ 3584

set_option backward.isDefEq.respectTransparency.types false in
/-- The second region. -/
def reg1 (hlen : Fits m) : Pipeline.RDat.RegionSeg (pcfgs (F := F)) (adm m) (rdats m) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := body1 m hlen c
  hwaits := Pipeline.RDat.hwaits_of_owed_zero _ _ _ _ L lv 1 fun _ _ => rfl
  pre c := iprop(StableHlo.held (c : Thread nD τ) (Pipeline.ucRefs τ sig) (V3 m (outs0 m) c) ∗ R c)
  post c := iprop(Tₙ m c ∗ R c)
  X c := iprop(emp)
  Y c := Pipeline.prefHeld pre1 c (fun _ => fullShare) (tbl m).1
  Z c := Pipeline.unscopedRestP pre1 spec1 c (fun b => V3 m (outs0 m) c b)
  hentry c := by
    rw [← Pipeline.unscopedBufs_held (Ix := Unit) (Name := ℕ) (U := UU) (Lvl := ℕ) c (V3 m (outs0 m) c), Pipeline.ownSems0_none]
    have hsplit := (Pipeline.RDat.arrays_of_unscopedBufs (pcfgs (F := F)) (adm m) (rdats m) (p := 1) (launch1 (F := F)).win (launch1 (F := F)).arr_whole c
      ((rdats m 1 c).share_full fun _ => rfl) (fun b => V3 m (outs0 m) c b) (fun w => rfl)).trans
      (sep_mono .rfl (Entails.of_eq (Pipeline.unscopedRest_split preFacts1 c (fun b => V3 m (outs0 m) c b))))
    rw [V3_arg8 m c] at hsplit
    iintro ⟨⟨Hub, HO⟩, -, -⟩
    ihave H := hsplit $$ Hub
    icases H with ⟨Ha, Ht, Hr⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitr; · iempintro
    iexact Hr
  hin c := by
    rw [show (rdats m 1 c).Φ 0 = iprop(Pipeline.scopedRest spec1 c ∗ Pipeline.prefHeld pre1 c (fun _ => fullShare) (tbl m).1) from rfl]
    iintro ⟨-, Ht, Hr⟩
    isplitl [Hr]; · iexact Hr
    iexact Ht
  hout c := by
    rw [Pipeline.ownSems0_none, show (rdats m 1 c).Φ (Fin.last (Pipeline.pin (pcfgs (F := F)) (adm m) 1).N)
      = iprop(Pipeline.scopedRest spec1 c ∗ Pipeline.prefHeld pre1 c (fun _ => fullShare) (tbl m).1) from rfl]
    iintro ⟨Hr, Ht⟩
    isplitl [Ht]; · iexact Ht
    isplitr; · iempintro
    iexact Hr
  hexit c := by
    iintro ⟨Ha, HO, Ht, Hr⟩
    imodintro
    isplitr [HO]
    · isplitl [Ha]; · iexact Ha
      isplitl [Ht]; · iexact Ht
      iexact Hr
    · unfold Pipeline.RDat.owesAt Pipeline.owesWithin
      icases HO with ⟨%W, -, HO⟩; iexists W; iexact HO

/-- @main as the list of its four items. -/
abbrev segs (hlen : Fits m) : List (Pipeline.RDat.Seg (pcfgs (F := F)) (adm m) (rdats m) () defs₀ Variants.none L lv) :=
  [.host (Cert.Kernel.Gen.seg0 m Variants.none L lv (fun _ => R)), .region (reg0 m), .host (Cert.Kernel.Gen.seg2 m (outs0 m) Variants.none L lv (fun _ => R)), .region (reg1 m hlen)]

/-- What a final state holds: the arguments as launched, the scores as the second region's write-backs leave them. -/
def Final (mem : (ℓ : Loc nD τ sig) → Buf (Elt F) ℓ) : Prop := ∀ c : Dev nD,
    (rd1 m c).ArrAt 11 grid1.N (mem ((c : Thread nD τ).loc main_v14_1))
      ∧ mem ((c : Thread nD τ).loc main_arg0) = m ((c : Thread nD τ).loc main_arg0)
      ∧ mem ((c : Thread nD τ).loc main_arg1) = m ((c : Thread nD τ).loc main_arg1)
      ∧ mem ((c : Thread nD τ).loc main_arg2) = m ((c : Thread nD τ).loc main_arg2)
      ∧ mem ((c : Thread nD τ).loc main_arg3) = m ((c : Thread nD τ).loc main_arg3)
      ∧ mem ((c : Thread nD τ).loc main_arg4) = m ((c : Thread nD τ).loc main_arg4)
      ∧ mem ((c : Thread nD τ).loc main_arg5) = m ((c : Thread nD τ).loc main_arg5)
      ∧ mem ((c : Thread nD τ).loc main_arg6) = m ((c : Thread nD τ).loc main_arg6)
      ∧ mem ((c : Thread nD τ).loc main_arg7) = m ((c : Thread nD τ).loc main_arg7)
      ∧ mem ((c : Thread nD τ).loc main_arg8) = m ((c : Thread nD τ).loc main_arg8)

set_option backward.isDefEq.respectTransparency.types false in
theorem run_main (hlen : Fits m) (ρ : Dev nD → PrngReg) :
    θ_run defs (onTc (τ := τ) (main (F := F))) ⟨m, fun _ => 0, ρ⟩ (fun r => Final m r.2.mem ∧ r.2.sem = fun _ => 0) := by
  refine Pipeline.RDat.θ_run_regions_kit_dev_sems (pcfgs (F := F)) (adm m) (rdats m) () (cellOf_inj (adm m)) emb₁ defs₀ Variants.none L lv m ρ main
    (fun _ => segs m hlen)
    (fun c Q => by
      rewrite [main_chain c, Pipeline.RDat.Seg.run_eq_chain,
        show (segs m hlen).map Pipeline.RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := ?_)
    (T₀ := fun c => iprop(StableHlo.held (c : Thread nD τ) (Pipeline.ucRefs τ sig) (V0 m c) ∗ R c))
    (Tₙ := Tₙ m) (hch := fun c => ⟨.rfl, .rfl, .rfl, .rfl, by show _ ⊢ _; exact .rfl⟩)
    (hinit := ?_)
    (QY := fun c mem => (rd1 m c).ArrAt 11 grid1.N (mem.mem ((c : Thread nD τ).loc main_v14_1))
      ∧ mem.mem ((c : Thread nD τ).loc main_arg0) = m ((c : Thread nD τ).loc main_arg0)
      ∧ mem.mem ((c : Thread nD τ).loc main_arg1) = m ((c : Thread nD τ).loc main_arg1)
      ∧ mem.mem ((c : Thread nD τ).loc main_arg2) = m ((c : Thread nD τ).loc main_arg2)
      ∧ mem.mem ((c : Thread nD τ).loc main_arg3) = m ((c : Thread nD τ).loc main_arg3)
      ∧ mem.mem ((c : Thread nD τ).loc main_arg4) = m ((c : Thread nD τ).loc main_arg4)
      ∧ mem.mem ((c : Thread nD τ).loc main_arg5) = m ((c : Thread nD τ).loc main_arg5)
      ∧ mem.mem ((c : Thread nD τ).loc main_arg6) = m ((c : Thread nD τ).loc main_arg6)
      ∧ mem.mem ((c : Thread nD τ).loc main_arg7) = m ((c : Thread nD τ).loc main_arg7)
      ∧ mem.mem ((c : Thread nD τ).loc main_arg8) = m ((c : Thread nD τ).loc main_arg8))
    (hfin := fun c s' => ?_) (hQ := fun _ h hz => ⟨h, funext fun g => hz g (.inr (regions_no_unscoped g.2))⟩)
  · iintro Hu
    imodintro
    isplitl [Hu]; · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · dsimp only [Tₙ]
    rw [tbl_pt, unscopedRestP1_eq]
    iintro ⟨⟨Ha, H8, H0, H1, H2, H3, H4, H5, H6, H7, -, -, -, -, -, -, -, -, -, -⟩, HSI⟩
    icombine HSI H0 gives %h0
    icombine HSI H1 gives %h1
    icombine HSI H2 gives %h2
    icombine HSI H3 gives %h3
    icombine HSI H4 gives %h4
    icombine HSI H5 gives %h5
    icombine HSI H6 gives %h6
    icombine HSI H7 gives %h7
    icombine HSI H8 gives %h8
    ihave Hr := (Pipeline.RDat.arrays_read (pcfgs (F := F)) (adm m) (rdats m) (p := 1) (launch1 (F := F)).arr_whole c _ s') $$ [Ha HSI]
    · isplitl [Ha] <;> iassumption
    icases Hr with ⟨%ha, HSI⟩
    imodintro
    isplitr
    · ipureintro
      have e := fun (b : Ref sig .tc) h3 h2 h1 => (V3_of m (outs0 m) c b h3).trans ((V2_of m (outs0 m) c b h2).trans (V1_of m c b h1))
      refine ⟨ha 11, ?_⟩
      obtain rfl : c = c₀ := Subsingleton.elim _ _
      exact ⟨(Buf.eq_of_forall_mem_univ h0).trans (e main_arg0 (by decide) (by decide) (by decide)),
        (Buf.eq_of_forall_mem_univ h1).trans (e main_arg1 (by decide) (by decide) (by decide)),
        (Buf.eq_of_forall_mem_univ h2).trans (e main_arg2 (by decide) (by decide) (by decide)),
        (Buf.eq_of_forall_mem_univ h3).trans (e main_arg3 (by decide) (by decide) (by decide)),
        (Buf.eq_of_forall_mem_univ h4).trans (e main_arg4 (by decide) (by decide) (by decide)),
        (Buf.eq_of_forall_mem_univ h5).trans (e main_arg5 (by decide) (by decide) (by decide)),
        (Buf.eq_of_forall_mem_univ h6).trans (e main_arg6 (by decide) (by decide) (by decide)),
        (Buf.eq_of_forall_mem_univ h7).trans (e main_arg7 (by decide) (by decide) (by decide)),
        Buf.eq_of_forall_mem_univ h8⟩
    · iexact HSI

end Cert.Proof.Kernel

end
-- ==== Proof.KernelIdeal.Region1.lean ====
/-
  The second call's run between its region's ends: what its windows hold, a point's block of scores as what the body's
  pieces read back, and the body obligation.
-/
module

public import proofs.«01_k».proof.Proof.KernelIdeal.Region0
public import proofs.«01_k».proof.Proof.KernelIdeal.Att
public import proofs.«01_k».proof.Proof.Words
public import Idealize.ShloMosaic.Lib.Pipeline.TableIdle
public import Idealize.ShloMosaic.Lib.Pipeline.FrameBody

@[expose] public section

set_option maxRecDepth 65536
set_option maxHeartbeats 8000000

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ UU ℕ

variable (m : (ℓ : Loc nD τ sig) → Buf (Elt F) ℓ)

/-- The one core, and the lengths it reads: the prefetched table's contents. -/
abbrev c₀ : Dev nD := ⟨0, by decide⟩
abbrev tbl : (pcfg1 (F := F)).Adm := ⟨fun k => m ((c₀ : Thread nD τ).loc (pre1.ref k)), trivial⟩
/-- The tables of the two pipelines. -/
abbrev adm : (p : Fin 2) → (pcfgs (F := F) p).Adm := fun | ⟨0, _⟩ => cfg0.toPCfg_adm | ⟨1, _⟩ => tbl m | ⟨_ + 2, h⟩ => absurd h (Nat.not_lt.2 (Nat.le_add_left _ _))

/-- Each input's block at a point, off the contents the region finds. -/
abbrev blk1_0 (c : Dev nD) (t : Fin grid1.N) : ((cfg1 (tbl m)).win 0).block.Idx → Elt F ((cfg1 (tbl m)).win 0).elt := (((cfg1 (tbl m)).win 0).blk t).view.read (Elt F) (V3 m (outs0 m) c main_v5)
abbrev blk1_1 (c : Dev nD) (t : Fin grid1.N) : ((cfg1 (tbl m)).win 1).block.Idx → Elt F ((cfg1 (tbl m)).win 1).elt := (((cfg1 (tbl m)).win 1).blk t).view.read (Elt F) (V3 m (outs0 m) c main_v2_6)
abbrev blk1_2 (c : Dev nD) (t : Fin grid1.N) : ((cfg1 (tbl m)).win 2).block.Idx → Elt F ((cfg1 (tbl m)).win 2).elt := (((cfg1 (tbl m)).win 2).blk t).view.read (Elt F) (V3 m (outs0 m) c main_v6)
abbrev blk1_3 (c : Dev nD) (t : Fin grid1.N) : ((cfg1 (tbl m)).win 3).block.Idx → Elt F ((cfg1 (tbl m)).win 3).elt := (((cfg1 (tbl m)).win 3).blk t).view.read (Elt F) (V3 m (outs0 m) c main_v7)
abbrev blk1_4 (c : Dev nD) (t : Fin grid1.N) : ((cfg1 (tbl m)).win 4).block.Idx → Elt F ((cfg1 (tbl m)).win 4).elt := (((cfg1 (tbl m)).win 4).blk t).view.read (Elt F) (V3 m (outs0 m) c main_v8)
abbrev blk1_5 (c : Dev nD) (t : Fin grid1.N) : ((cfg1 (tbl m)).win 5).block.Idx → Elt F ((cfg1 (tbl m)).win 5).elt := (((cfg1 (tbl m)).win 5).blk t).view.read (Elt F) (V3 m (outs0 m) c main_v9)
abbrev blk1_6 (c : Dev nD) (t : Fin grid1.N) : ((cfg1 (tbl m)).win 6).block.Idx → Elt F ((cfg1 (tbl m)).win 6).elt := (((cfg1 (tbl m)).win 6).blk t).view.read (Elt F) (V3 m (outs0 m) c main_v10)
abbrev blk1_7 (c : Dev nD) (t : Fin grid1.N) : ((cfg1 (tbl m)).win 7).block.Idx → Elt F ((cfg1 (tbl m)).win 7).elt := (((cfg1 (tbl m)).win 7).blk t).view.read (Elt F) (V3 m (outs0 m) c main_v11)
abbrev blk1_8 (c : Dev nD) (t : Fin grid1.N) : ((cfg1 (tbl m)).win 8).block.Idx → Elt F ((cfg1 (tbl m)).win 8).elt := (((cfg1 (tbl m)).win 8).blk t).view.read (Elt F) (V3 m (outs0 m) c main_v12)
abbrev blk1_9 (c : Dev nD) (t : Fin grid1.N) : ((cfg1 (tbl m)).win 9).block.Idx → Elt F ((cfg1 (tbl m)).win 9).elt := (((cfg1 (tbl m)).win 9).blk t).view.read (Elt F) (V3 m (outs0 m) c main_v13)
/-- The staging buffers current at a point. -/
abbrev slot1 (t : Fin grid1.N) := (cfg1 (tbl m)).slots t

/-- What may be left in the scores' buffer at a point: the body's pieces, whatever they were written over. -/
def scoreAfter (c : Dev nD) (t : Fin grid1.N) (X : S1x6x40x3584.Idx → Elt F .f32) : Prop :=
  ∃ (f15 : Bf (F := F) c (Memref.whole cc1_scratch1)) (f13 : Bf (F := F) c (spec1_11.stage (slot1 m t 11)))
    (hchk : ∀ w, w = attWord (F := F) c (grid1.coords t) (Memref.whole main_arg8) (m ((c₀ : Thread nD τ).loc main_arg8)) → k1_chk1 w),
    X = (spec1_11.stage (slot1 m t 11)).view.read (Elt F) ((spec1_11.stage (slot1 m t 11)).view.writes (Elt F) f13
      (attRun (F := F) c (grid1.coords t) (Memref.whole main_arg8) (Memref.isWhole_whole _) (spec1_0.stage (slot1 m t 0)) (hstage1_0 ((slot1 m t 0).cast nbuf1_0)) (spec1_1.stage (slot1 m t 1)) (hstage1_1 ((slot1 m t 1).cast nbuf1_1)) (spec1_2.stage (slot1 m t 2)) (hstage1_2 ((slot1 m t 2).cast nbuf1_2)) (spec1_3.stage (slot1 m t 3)) (hstage1_3 ((slot1 m t 3).cast nbuf1_3)) (spec1_4.stage (slot1 m t 4)) (hstage1_4 ((slot1 m t 4).cast nbuf1_4)) (spec1_5.stage (slot1 m t 5)) (hstage1_5 ((slot1 m t 5).cast nbuf1_5)) (spec1_6.stage (slot1 m t 6)) (hstage1_6 ((slot1 m t 6).cast nbuf1_6)) (spec1_7.stage (slot1 m t 7)) (hstage1_7 ((slot1 m t 7).cast nbuf1_7)) (spec1_8.stage (slot1 m t 8)) (hstage1_8 ((slot1 m t 8).cast nbuf1_8)) (spec1_9.stage (slot1 m t 9)) (hstage1_9 ((slot1 m t 9).cast nbuf1_9)) (spec1_10.stage (slot1 m t 10)) (hstage1_10 ((slot1 m t 10).cast nbuf1_10)) (spec1_11.stage (slot1 m t 11)) (hstage1_11 ((slot1 m t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (m ((c₀ : Thread nD τ).loc main_arg8)) ((spec1_0.stage (slot1 m t 0)).view.rep (Val := Elt F) (blk1_0 m c t)) ((spec1_1.stage (slot1 m t 1)).view.rep (Val := Elt F) (blk1_1 m c t)) ((spec1_2.stage (slot1 m t 2)).view.rep (Val := Elt F) (blk1_2 m c t)) ((spec1_3.stage (slot1 m t 3)).view.rep (Val := Elt F) (blk1_3 m c t)) ((spec1_4.stage (slot1 m t 4)).view.rep (Val := Elt F) (blk1_4 m c t)) ((spec1_5.stage (slot1 m t 5)).view.rep (Val := Elt F) (blk1_5 m c t)) ((spec1_6.stage (slot1 m t 6)).view.rep (Val := Elt F) (blk1_6 m c t)) ((spec1_7.stage (slot1 m t 7)).view.rep (Val := Elt F) (blk1_7 m c t)) ((spec1_8.stage (slot1 m t 8)).view.rep (Val := Elt F) (blk1_8 m c t)) ((spec1_9.stage (slot1 m t 9)).view.rep (Val := Elt F) (blk1_9 m c t)) f15 hchk).1)

/-- The proof data: inputs kept, the first result anything, the scores as above; the scoped buffers and the table ride along. -/
def rd1 (c : Dev nD) : RDat τ (Elt F) Unit ℕ UU ℕ (cfg1 (tbl m)) c where
  A w := V3 m (outs0 m) c (Pipeline.arrRef spec1 w)
  after w t Y X := match w, Y, X with
    | ⟨10, _⟩, _, _ => True
    | ⟨11, _⟩, _, X => scoreAfter m c t X
    | _, Y, X => X = Y
  Φ _ := iprop(Pipeline.scopedRest spec1 c ∗ Pipeline.prefHeld pre1 c (fun _ => fullShare) (tbl m).1)
  q _ := fullShare
  owed _ := 0

theorem whole_pt (c : Dev nD) (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  rw [(Memref.isWhole_whole b).set_eq_univ]

theorem tbl_pt (c : Dev nD) : (Pipeline.prefHeld pre1 c (fun _ => fullShare) (tbl m).1 : sProp 𝕄)
    = (((c : Thread nD τ).loc main_arg8) ↦{fullShare} m ((c₀ : Thread nD τ).loc main_arg8)) := by
  unfold Pipeline.prefHeld
  rw [show (Finset.univ : Finset (Fin 1)) = {0} from rfl, BI.bigSep_singleton]
  rfl

theorem owns_some (c : Dev nD) {sp : Space} {S : Shape} {e : EltTy} (M : Memref sig .tc sp S e) (X : S.Idx → Elt F e) :
    owns (c : Thread nD τ) M fullShare X ⊢ (iprop(∃ f : Bf (F := F) c M, M.view.loc (c : Thread nD τ) ↦[M.view.set]{fullShare} f) : sProp 𝕄) := by
  unfold owns; iintro ⟨%f, %hf, H⟩; iexists f; iexact H

theorem owns_read (c : Dev nD) {sp : Space} {S : Shape} {e : EltTy} (M : Memref sig .tc sp S e) (f : Bf (F := F) c M) :
    (M.view.loc (c : Thread nD τ) ↦[M.view.set]{fullShare} f : sProp 𝕄) ⊢ owns (c : Thread nD τ) M fullShare (M.view.read (Elt F) f) := by
  unfold owns; iintro H; iexists f; isplitr; · ipureintro; rfl
  iexact H

theorem finds1_0 (c : Dev nD) (t : Fin grid1.N) (Y) (h : (rd1 m c).Finds 0 t Y) : Y = blk1_0 m c t := by
  obtain ⟨d, hd⟩ := (rd1 m c).finds_in_eq_fetched 0 rfl (fun _ _ _ => rfl) (fun _ _ _ h => h) t Y h
  exact hd
theorem finds1_1 (c : Dev nD) (t : Fin grid1.N) (Y) (h : (rd1 m c).Finds 1 t Y) : Y = blk1_1 m c t := by
  obtain ⟨d, hd⟩ := (rd1 m c).finds_in_eq_fetched 1 rfl (fun _ _ _ => rfl) (fun _ _ _ h => h) t Y h
  exact hd
theorem finds1_2 (c : Dev nD) (t : Fin grid1.N) (Y) (h : (rd1 m c).Finds 2 t Y) : Y = blk1_2 m c t := by
  obtain ⟨d, hd⟩ := (rd1 m c).finds_in_eq_fetched 2 rfl (fun _ _ _ => rfl) (fun _ _ _ h => h) t Y h
  exact hd
theorem finds1_3 (c : Dev nD) (t : Fin grid1.N) (Y) (h : (rd1 m c).Finds 3 t Y) : Y = blk1_3 m c t := by
  obtain ⟨d, hd⟩ := (rd1 m c).finds_in_eq_fetched 3 rfl (fun _ _ _ => rfl) (fun _ _ _ h => h) t Y h
  exact hd
theorem finds1_4 (c : Dev nD) (t : Fin grid1.N) (Y) (h : (rd1 m c).Finds 4 t Y) : Y = blk1_4 m c t := by
  obtain ⟨d, hd⟩ := (rd1 m c).finds_in_eq_fetched 4 rfl (fun _ _ _ => rfl) (fun _ _ _ h => h) t Y h
  exact hd
theorem finds1_5 (c : Dev nD) (t : Fin grid1.N) (Y) (h : (rd1 m c).Finds 5 t Y) : Y = blk1_5 m c t := by
  obtain ⟨d, hd⟩ := (rd1 m c).finds_in_eq_fetched 5 rfl (fun _ _ _ => rfl) (fun _ _ _ h => h) t Y h
  exact hd
theorem finds1_6 (c : Dev nD) (t : Fin grid1.N) (Y) (h : (rd1 m c).Finds 6 t Y) : Y = blk1_6 m c t := by
  obtain ⟨d, hd⟩ := (rd1 m c).finds_in_eq_fetched 6 rfl (fun _ _ _ => rfl) (fun _ _ _ h => h) t Y h
  exact hd
theorem finds1_7 (c : Dev nD) (t : Fin grid1.N) (Y) (h : (rd1 m c).Finds 7 t Y) : Y = blk1_7 m c t := by
  obtain ⟨d, hd⟩ := (rd1 m c).finds_in_eq_fetched 7 rfl (fun _ _ _ => rfl) (fun _ _ _ h => h) t Y h
  exact hd
theorem finds1_8 (c : Dev nD) (t : Fin grid1.N) (Y) (h : (rd1 m c).Finds 8 t Y) : Y = blk1_8 m c t := by
  obtain ⟨d, hd⟩ := (rd1 m c).finds_in_eq_fetched 8 rfl (fun _ _ _ => rfl) (fun _ _ _ h => h) t Y h
  exact hd
theorem finds1_9 (c : Dev nD) (t : Fin grid1.N) (Y) (h : (rd1 m c).Finds 9 t Y) : Y = blk1_9 m c t := by
  obtain ⟨d, hd⟩ := (rd1 m c).finds_in_eq_fetched 9 rfl (fun _ _ _ => rfl) (fun _ _ _ h => h) t Y h
  exact hd

set_option backward.isDefEq.respectTransparency.types false in
theorem body1 (hlen : ∀ i : grid1.Coords, (attWord (F := F) c₀ i (Memref.whole main_arg8) (m ((c₀ : Thread nD τ).loc main_arg8))).toNat ≤ 3584)
    (c : Dev nD) : (rd1 m c).BodyObligation (defs₀ (F := F)) Variants.none () Set.univ := fun t Y hY => by
  obtain rfl : c = c₀ := Subsingleton.elim _ _
  have hchk : ∀ w, w = attWord (F := F) c₀ (grid1.coords t) (Memref.whole main_arg8) (m ((c₀ : Thread nD τ).loc main_arg8)) → k1_chk1 w :=
    fun w hw => chk1 w (hw ▸ hlen _)
  have e0 := finds1_0 m c₀ t _ (hY 0)
  have e1 := finds1_1 m c₀ t _ (hY 1)
  have e2 := finds1_2 m c₀ t _ (hY 2)
  have e3 := finds1_3 m c₀ t _ (hY 3)
  have e4 := finds1_4 m c₀ t _ (hY 4)
  have e5 := finds1_5 m c₀ t _ (hY 5)
  have e6 := finds1_6 m c₀ t _ (hY 6)
  have e7 := finds1_7 m c₀ t _ (hY 7)
  have e8 := finds1_8 m c₀ t _ (hY 8)
  have e9 := finds1_9 m c₀ t _ (hY 9)
  rw [bigSep_W1, bigSep_W1, e0, e1, e2, e3, e4, e5, e6, e7, e8, e9]
  rw [show (rd1 m c₀).Φ t.castSucc = iprop(Pipeline.scopedRest spec1 c₀ ∗ Pipeline.prefHeld pre1 c₀ (fun _ => fullShare) (tbl m).1) from rfl,
    show (rd1 m c₀).Φ t.succ = iprop(Pipeline.scopedRest spec1 c₀ ∗ Pipeline.prefHeld pre1 c₀ (fun _ => fullShare) (tbl m).1) from rfl]
  unfold RDat.owesAt Pipeline.owesWithin
  rw [show (rd1 m c₀).owed t.castSucc = 0 from rfl, show (rd1 m c₀).owed t.succ = 0 from rfl, scopedRest1_eq, tbl_pt]
  iintro ⟨⟨⟨R0, R1, R2, R3, R4, R5, R6, R7, R8, R9, ⟨%f14, S0⟩, ⟨%f15, S1⟩, ⟨%f16, S2⟩, ⟨%f17, S3⟩⟩, HT⟩, ⟨%W, %hW, HO⟩, H0, H1, H2, H3, H4, H5, H6, H7, H8, H9, H10, H11⟩
  ihave H10 := (owns_some c₀ _ _) $$ H10
  ihave H11 := (owns_some c₀ _ _) $$ H11
  icases H10 with ⟨%f12, H10⟩
  icases H11 with ⟨%f13, H11⟩
  iapply ((attRun (F := F) c₀ (grid1.coords t) (Memref.whole main_arg8) (Memref.isWhole_whole _) (spec1_0.stage (slot1 m t 0)) (hstage1_0 ((slot1 m t 0).cast nbuf1_0)) (spec1_1.stage (slot1 m t 1)) (hstage1_1 ((slot1 m t 1).cast nbuf1_1)) (spec1_2.stage (slot1 m t 2)) (hstage1_2 ((slot1 m t 2).cast nbuf1_2)) (spec1_3.stage (slot1 m t 3)) (hstage1_3 ((slot1 m t 3).cast nbuf1_3)) (spec1_4.stage (slot1 m t 4)) (hstage1_4 ((slot1 m t 4).cast nbuf1_4)) (spec1_5.stage (slot1 m t 5)) (hstage1_5 ((slot1 m t 5).cast nbuf1_5)) (spec1_6.stage (slot1 m t 6)) (hstage1_6 ((slot1 m t 6).cast nbuf1_6)) (spec1_7.stage (slot1 m t 7)) (hstage1_7 ((slot1 m t 7).cast nbuf1_7)) (spec1_8.stage (slot1 m t 8)) (hstage1_8 ((slot1 m t 8).cast nbuf1_8)) (spec1_9.stage (slot1 m t 9)) (hstage1_9 ((slot1 m t 9).cast nbuf1_9)) (spec1_10.stage (slot1 m t 10)) (hstage1_10 ((slot1 m t 10).cast nbuf1_10)) (spec1_11.stage (slot1 m t 11)) (hstage1_11 ((slot1 m t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (m ((c₀ : Thread nD τ).loc main_arg8)) ((spec1_0.stage (slot1 m t 0)).view.rep (Val := Elt F) (blk1_0 m c₀ t)) ((spec1_1.stage (slot1 m t 1)).view.rep (Val := Elt F) (blk1_1 m c₀ t)) ((spec1_2.stage (slot1 m t 2)).view.rep (Val := Elt F) (blk1_2 m c₀ t)) ((spec1_3.stage (slot1 m t 3)).view.rep (Val := Elt F) (blk1_3 m c₀ t)) ((spec1_4.stage (slot1 m t 4)).view.rep (Val := Elt F) (blk1_4 m c₀ t)) ((spec1_5.stage (slot1 m t 5)).view.rep (Val := Elt F) (blk1_5 m c₀ t)) ((spec1_6.stage (slot1 m t 6)).view.rep (Val := Elt F) (blk1_6 m c₀ t)) ((spec1_7.stage (slot1 m t 7)).view.rep (Val := Elt F) (blk1_7 m c₀ t)) ((spec1_8.stage (slot1 m t 8)).view.rep (Val := Elt F) (blk1_8 m c₀ t)) ((spec1_9.stage (slot1 m t 9)).view.rep (Val := Elt F) (blk1_9 m c₀ t)) f15 hchk).2 f12 f13 f14 f16 f17 Set.univ)
  isplitl [HT]; · iapply (Entails.of_eq (whole_pt c₀ main_arg8 _)); iexact HT
  isplitl [H0]; · iapply (rep_of_owns _ _ _ _); iexact H0
  isplitl [H1]; · iapply (rep_of_owns _ _ _ _); iexact H1
  isplitl [H2]; · iapply (rep_of_owns _ _ _ _); iexact H2
  isplitl [H3]; · iapply (rep_of_owns _ _ _ _); iexact H3
  isplitl [H4]; · iapply (rep_of_owns _ _ _ _); iexact H4
  isplitl [H5]; · iapply (rep_of_owns _ _ _ _); iexact H5
  isplitl [H6]; · iapply (rep_of_owns _ _ _ _); iexact H6
  isplitl [H7]; · iapply (rep_of_owns _ _ _ _); iexact H7
  isplitl [H8]; · iapply (rep_of_owns _ _ _ _); iexact H8
  isplitl [H9]; · iapply (rep_of_owns _ _ _ _); iexact H9
  isplitl [H10]; · iexact H10
  isplitl [H11]; · iexact H11
  isplitl [S0]; · iapply (Entails.of_eq (whole_pt c₀ cc1_scratch0 _)); iexact S0
  isplitl [S1]; · iapply (Entails.of_eq (whole_pt c₀ cc1_scratch1 _)); iexact S1
  isplitl [S2]; · iapply (Entails.of_eq (whole_pt c₀ cc1_scratch2 _)); iexact S2
  isplitl [S3]; · iapply (Entails.of_eq (whole_pt c₀ cc1_scratch3 _)); iexact S3
  iintro ⟨HT, H0, H1, H2, H3, H4, H5, H6, H7, H8, H9, ⟨%g12, H10⟩, H11, ⟨%g14, S0⟩, ⟨%g15, S1⟩, ⟨%g16, S2⟩, ⟨%g17, S3⟩⟩
  isplitl [HT R0 R1 R2 R3 R4 R5 R6 R7 R8 R9 S0 S1 S2 S3]
  · isplitr [HT]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [S0]; · iexists _; iapply (Entails.of_eq (whole_pt c₀ cc1_scratch0 _).symm); iexact S0
      isplitl [S1]; · iexists _; iapply (Entails.of_eq (whole_pt c₀ cc1_scratch1 _).symm); iexact S1
      isplitl [S2]; · iexists _; iapply (Entails.of_eq (whole_pt c₀ cc1_scratch2 _).symm); iexact S2
      iexists _; iapply (Entails.of_eq (whole_pt c₀ cc1_scratch3 _).symm); iexact S3
    iapply (Entails.of_eq (whole_pt c₀ main_arg8 _).symm); iexact HT
  isplitl [HO]
  · iexists W; isplitr; · ipureintro; exact fun _ _ => Or.inl trivial
    iexact HO
  isplitl [H0]; · iexists _; isplitr; swap; (· iapply (owns_of_rep _ _ _ _); iexact H0); ipureintro; exact rfl
  isplitl [H1]; · iexists _; isplitr; swap; (· iapply (owns_of_rep _ _ _ _); iexact H1); ipureintro; exact rfl
  isplitl [H2]; · iexists _; isplitr; swap; (· iapply (owns_of_rep _ _ _ _); iexact H2); ipureintro; exact rfl
  isplitl [H3]; · iexists _; isplitr; swap; (· iapply (owns_of_rep _ _ _ _); iexact H3); ipureintro; exact rfl
  isplitl [H4]; · iexists _; isplitr; swap; (· iapply (owns_of_rep _ _ _ _); iexact H4); ipureintro; exact rfl
  isplitl [H5]; · iexists _; isplitr; swap; (· iapply (owns_of_rep _ _ _ _); iexact H5); ipureintro; exact rfl
  isplitl [H6]; · iexists _; isplitr; swap; (· iapply (owns_of_rep _ _ _ _); iexact H6); ipureintro; exact rfl
  isplitl [H7]; · iexists _; isplitr; swap; (· iapply (owns_of_rep _ _ _ _); iexact H7); ipureintro; exact rfl
  isplitl [H8]; · iexists _; isplitr; swap; (· iapply (owns_of_rep _ _ _ _); iexact H8); ipureintro; exact rfl
  isplitl [H9]; · iexists _; isplitr; swap; (· iapply (owns_of_rep _ _ _ _); iexact H9); ipureintro; exact rfl
  isplitl [H10]; · iexists _; isplitr; swap; (· iapply (owns_read c₀ _ _); iexact H10); ipureintro; exact trivial
  iexists _; isplitr; swap; (· iapply (owns_read c₀ _ _); iexact H11); ipureintro; exact ⟨f15, f13, hchk, rfl⟩

end Cert.Proof.KernelIdeal

end
-- ==== Proof.KernelIdeal.Run.lean ====
/-
  The whole program's run: its two calls' regions and the host operations around them as a list of segments, and what every
  final state holds.
-/
module

public import proofs.«01_k».proof.Proof.KernelIdeal.Region1

@[expose] public section

set_option maxRecDepth 65536
set_option maxHeartbeats 4000000

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ UU ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0
/-- What rides beside the buffers: the core's dues, none. -/
abbrev R (c : Dev nD) : sProp 𝕄 := iprop(∃ W, owes (c : Thread nD τ) (0 : CellTallies nD τ sig Unit) W)

/-- The two pipelines' proof data. -/
def rdats : (p : Fin 2) → (c : Dev nD) → RDat τ (Elt F) Unit ℕ UU ℕ (Pipeline.pin (pcfgs (F := F)) (adm m) p) c
  | ⟨0, _⟩ => fun c => (dat0 m c).toR
  | ⟨1, _⟩ => fun c => rd1 m c
  | ⟨_ + 2, h⟩ => absurd h (Nat.not_lt.2 (Nat.le_add_left _ _))

/-! ## The first region's results in the valuation after it -/

theorem V2_res0 (c : Dev nD) : V2 m (outs0 m) c main_v2_0 = (dat0 m c).arrAt 3 cfg0.N := by
  rw [show V2 m (outs0 m) c main_v2_0 = outs0 m 2 main_v2_0 c from by rw [V2, Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]]
  unfold outs0
  rw [dif_pos rfl]
theorem V2_res1 (c : Dev nD) : V2 m (outs0 m) c main_v2_1 = (dat0 m c).arrAt 4 cfg0.N := by
  rw [show V2 m (outs0 m) c main_v2_1 = outs0 m 2 main_v2_1 c from by rw [V2, Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]]
  unfold outs0
  rw [dif_neg (show main_v2_1 ≠ main_v2_0 from by decide)]
  rw [dif_pos rfl]
theorem V2_res2 (c : Dev nD) : V2 m (outs0 m) c main_v2_2 = (dat0 m c).arrAt 5 cfg0.N := by
  rw [show V2 m (outs0 m) c main_v2_2 = outs0 m 2 main_v2_2 c from by rw [V2, Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]]
  unfold outs0
  rw [dif_neg (show main_v2_2 ≠ main_v2_0 from by decide)]
  rw [dif_neg (show main_v2_2 ≠ main_v2_1 from by decide)]
  rw [dif_pos rfl]
theorem V2_res3 (c : Dev nD) : V2 m (outs0 m) c main_v2_3 = (dat0 m c).arrAt 6 cfg0.N := by
  rw [show V2 m (outs0 m) c main_v2_3 = outs0 m 2 main_v2_3 c from by rw [V2, Function.update_of_ne (StableHlo.devRef_ne_of_ne (by decide)), Function.update_of_ne (StableHlo.devRef_ne_of_ne (by decide)), Function.update_of_ne (StableHlo.devRef_ne_of_ne (by decide)), Function.update_self]]
  unfold outs0
  rw [dif_neg (show main_v2_3 ≠ main_v2_0 from by decide)]
  rw [dif_neg (show main_v2_3 ≠ main_v2_1 from by decide)]
  rw [dif_neg (show main_v2_3 ≠ main_v2_2 from by decide)]
  rw [dif_pos rfl]
theorem V2_res4 (c : Dev nD) : V2 m (outs0 m) c main_v2_4 = (dat0 m c).arrAt 7 cfg0.N := by
  rw [show V2 m (outs0 m) c main_v2_4 = outs0 m 2 main_v2_4 c from by rw [V2, Function.update_of_ne (StableHlo.devRef_ne_of_ne (by decide)), Function.update_of_ne (StableHlo.devRef_ne_of_ne (by decide)), Function.update_self]]
  unfold outs0
  rw [dif_neg (show main_v2_4 ≠ main_v2_0 from by decide)]
  rw [dif_neg (show main_v2_4 ≠ main_v2_1 from by decide)]
  rw [dif_neg (show main_v2_4 ≠ main_v2_2 from by decide)]
  rw [dif_neg (show main_v2_4 ≠ main_v2_3 from by decide)]
  rw [dif_pos rfl]
theorem V2_res5 (c : Dev nD) : V2 m (outs0 m) c main_v2_5 = (dat0 m c).arrAt 8 cfg0.N := by
  rw [show V2 m (outs0 m) c main_v2_5 = outs0 m 2 main_v2_5 c from by rw [V2, Function.update_of_ne (StableHlo.devRef_ne_of_ne (by decide)), Function.update_self]]
  unfold outs0
  rw [dif_neg (show main_v2_5 ≠ main_v2_0 from by decide)]
  rw [dif_neg (show main_v2_5 ≠ main_v2_1 from by decide)]
  rw [dif_neg (show main_v2_5 ≠ main_v2_2 from by decide)]
  rw [dif_neg (show main_v2_5 ≠ main_v2_3 from by decide)]
  rw [dif_neg (show main_v2_5 ≠ main_v2_4 from by decide)]
  rw [dif_pos rfl]
theorem V2_res6 (c : Dev nD) : V2 m (outs0 m) c main_v2_6 = (dat0 m c).arrAt 9 cfg0.N := by
  rw [show V2 m (outs0 m) c main_v2_6 = outs0 m 2 main_v2_6 c from by rw [V2, Function.update_self]]
  unfold outs0
  rw [dif_neg (show main_v2_6 ≠ main_v2_0 from by decide)]
  rw [dif_neg (show main_v2_6 ≠ main_v2_1 from by decide)]
  rw [dif_neg (show main_v2_6 ≠ main_v2_2 from by decide)]
  rw [dif_neg (show main_v2_6 ≠ main_v2_3 from by decide)]
  rw [dif_neg (show main_v2_6 ≠ main_v2_4 from by decide)]
  rw [dif_neg (show main_v2_6 ≠ main_v2_5 from by decide)]
  rw [dif_pos rfl]

theorem arrAt0 (c : Dev nD) : ∀ w : Fin 10, (dat0 m c).arrAt w cfg0.N = V2 m (outs0 m) c (Pipeline.arrRef spec0 w)
  | ⟨0, _⟩ => ((dat0 m c).arrAt_in 0 rfl _).trans (V2_of m (outs0 m) c main_v0 (by decide)).symm
  | ⟨1, _⟩ => ((dat0 m c).arrAt_in 1 rfl _).trans (V2_of m (outs0 m) c main_v1 (by decide)).symm
  | ⟨2, _⟩ => ((dat0 m c).arrAt_in 2 rfl _).trans (V2_of m (outs0 m) c main_arg3 (by decide)).symm
  | ⟨3, _⟩ => (V2_res0 m c).symm
  | ⟨4, _⟩ => (V2_res1 m c).symm
  | ⟨5, _⟩ => (V2_res2 m c).symm
  | ⟨6, _⟩ => (V2_res3 m c).symm
  | ⟨7, _⟩ => (V2_res4 m c).symm
  | ⟨8, _⟩ => (V2_res5 m c).symm
  | ⟨9, _⟩ => (V2_res6 m c).symm
  | ⟨_ + 10, h⟩ => absurd h (Nat.not_lt.2 (Nat.le_add_left _ _))

/-- The first region's arrays, back among the core's unscoped buffers. -/
theorem exit0 (c : Dev nD) : iprop((dat0 m c).arrays ((dat0 m c).arrAt · cfg0.N) ∗ Pipeline.unscopedRest spec0 c (fun b => V1 m c b))
    ⊢ (StableHlo.held (c : Thread nD τ) (Pipeline.ucRefs τ sig) (V2 m (outs0 m) c) : sProp 𝕄) := by
  rw [← Pipeline.unscopedBufs_held (Ix := Unit) (Name := ℕ) (U := UU) (Lvl := ℕ) c (V2 m (outs0 m) c),
    Pipeline.unscopedBufs_split (Pipeline.pin (pcfgs (F := F)) (adm m)) 0 (launch0 (F := F)).win.arr_unscoped (launch0 (F := F)).win.arr_inj c (fun b => V2 m (outs0 m) c b)]
  refine sep_mono (Entails.of_eq ?_) (Entails.of_eq ?_)
  · unfold Dat.arrays
    exact bigSep_congr fun w _ => by
      rw [(arr_whole0 w).set_eq_univ, (dat0 m c).share_full fun _ => rfl]
      show ((_ ↦{fullShare} (dat0 m c).arrAt w cfg0.N) : sProp 𝕄) = _
      rw [arrAt0]
      rfl
  · unfold Pipeline.unscopedRest
    refine bigSep_congr fun b hb => ?_
    show (((c : Thread nD τ).loc b ↦{fullShare} V1 m c b) : sProp 𝕄) = ((c : Thread nD τ).loc b ↦{fullShare} V2 m (outs0 m) c b)
    rw [V2_of m (outs0 m) c b fun h => (Finset.mem_sdiff.mp hb).2 ((by decide : ∀ r ∈ ([main_v2_0, main_v2_1, main_v2_2, main_v2_3, main_v2_4, main_v2_5, main_v2_6] : List (Ref sig .tc)), r ∈ Finset.univ.image (Pipeline.arrRef spec0)) b h)]

set_option backward.isDefEq.respectTransparency.types false in
/-- The first region. -/
def reg0 : Pipeline.RDat.RegionSeg (pcfgs (F := F)) (adm m) (rdats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (body0 m c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs0 m) c) ∗ R c)
  X c := iprop(emp)
  Y c := iprop(emp)
  Z c := Pipeline.unscopedRest spec0 c (fun b => V1 m c b)
  hentry c := by
    rw [← Pipeline.unscopedBufs_held (Ix := Unit) (Name := ℕ) (U := UU) (Lvl := ℕ) c (V1 m c), Pipeline.ownSems0_none]
    have hsplit := Pipeline.RDat.arrays_of_unscopedBufs (pcfgs (F := F)) (adm m) (rdats m) (p := 0) (launch0 (F := F)).win (launch0 (F := F)).arr_whole c
      ((rdats m 0 c).share_full fun _ => rfl) (fun b => V1 m c b) (fun w => rfl)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hr
  hin c := by
    rw [show (rdats m 0 c).Φ 0 = Pipeline.scopedRest spec0 c from rfl]
    iintro ⟨-, -, Hr⟩
    iexact Hr
  hout c := by
    rw [Pipeline.ownSems0_none, show (rdats m 0 c).Φ (Fin.last (Pipeline.pin (pcfgs (F := F)) (adm m) 0).N) = Pipeline.scopedRest spec0 c from rfl]
    iintro Hr
    isplitr; · iempintro
    isplitr; · iempintro
    iexact Hr
  hexit c := by
    rw [show (rdats m 0 c).arraysAt (Pipeline.pin (pcfgs (F := F)) (adm m) 0).N = ((dat0 m c).arrays ((dat0 m c).arrAt · cfg0.N) : sProp 𝕄) from (dat0 m c).toR_arraysAt_eq cfg0.N]
    iintro ⟨Ha, HO, -, Hr⟩
    imodintro
    isplitr [HO]
    · iapply (exit0 m c)
      isplitl [Ha]; · iexact Ha
      iexact Hr
    · unfold Pipeline.RDat.owesAt Pipeline.owesWithin
      icases HO with ⟨%W, -, HO⟩; iexists W; iexact HO

theorem V3_arg8 (c : Dev nD) : (fun k => V3 m (outs0 m) c (pre1.ref k)) = (tbl m).1 := by
  obtain rfl : c = c₀ := Subsingleton.elim _ _
  funext k
  obtain rfl : k = 0 := Subsingleton.elim _ _
  exact (V3_of m (outs0 m) c₀ main_arg8 (by decide)).trans ((V2_of m (outs0 m) c₀ main_arg8 (by decide)).trans ((V1_of m c₀ main_arg8 (by decide)).trans rfl))

/-- What the second region leaves for the end. -/
abbrev Tₙ (c : Dev nD) : sProp 𝕄 :=
  iprop((rdats m 1 c).arraysAt grid1.N ∗ Pipeline.prefHeld pre1 c (fun _ => fullShare) (tbl m).1 ∗ Pipeline.unscopedRestP pre1 spec1 c (fun b => V3 m (outs0 m) c b))

/-- The length every point reads is in the range. -/
def Fits : Prop := ∀ i : grid1.Coords, (attWord (F := F) c₀ i (Memref.whole main_arg8) (m ((c₀ : Thread nD τ).loc main_arg8))).toNat ≤ 3584

set_option backward.isDefEq.respectTransparency.types false in
/-- The second region. -/
def reg1 (hlen : Fits m) : Pipeline.RDat.RegionSeg (pcfgs (F := F)) (adm m) (rdats m) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := body1 m hlen c
  hwaits := Pipeline.RDat.hwaits_of_owed_zero _ _ _ _ L lv 1 fun _ _ => rfl
  pre c := iprop(StableHlo.held (c : Thread nD τ) (Pipeline.ucRefs τ sig) (V3 m (outs0 m) c) ∗ R c)
  post c := iprop(Tₙ m c ∗ R c)
  X c := iprop(emp)
  Y c := Pipeline.prefHeld pre1 c (fun _ => fullShare) (tbl m).1
  Z c := Pipeline.unscopedRestP pre1 spec1 c (fun b => V3 m (outs0 m) c b)
  hentry c := by
    rw [← Pipeline.unscopedBufs_held (Ix := Unit) (Name := ℕ) (U := UU) (Lvl := ℕ) c (V3 m (outs0 m) c), Pipeline.ownSems0_none]
    have hsplit := (Pipeline.RDat.arrays_of_unscopedBufs (pcfgs (F := F)) (adm m) (rdats m) (p := 1) (launch1 (F := F)).win (launch1 (F := F)).arr_whole c
      ((rdats m 1 c).share_full fun _ => rfl) (fun b => V3 m (outs0 m) c b) (fun w => rfl)).trans
      (sep_mono .rfl (Entails.of_eq (Pipeline.unscopedRest_split preFacts1 c (fun b => V3 m (outs0 m) c b))))
    rw [V3_arg8 m c] at hsplit
    iintro ⟨⟨Hub, HO⟩, -, -⟩
    ihave H := hsplit $$ Hub
    icases H with ⟨Ha, Ht, Hr⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitr; · iempintro
    iexact Hr
  hin c := by
    rw [show (rdats m 1 c).Φ 0 = iprop(Pipeline.scopedRest spec1 c ∗ Pipeline.prefHeld pre1 c (fun _ => fullShare) (tbl m).1) from rfl]
    iintro ⟨-, Ht, Hr⟩
    isplitl [Hr]; · iexact Hr
    iexact Ht
  hout c := by
    rw [Pipeline.ownSems0_none, show (rdats m 1 c).Φ (Fin.last (Pipeline.pin (pcfgs (F := F)) (adm m) 1).N)
      = iprop(Pipeline.scopedRest spec1 c ∗ Pipeline.prefHeld pre1 c (fun _ => fullShare) (tbl m).1) from rfl]
    iintro ⟨Hr, Ht⟩
    isplitl [Ht]; · iexact Ht
    isplitr; · iempintro
    iexact Hr
  hexit c := by
    iintro ⟨Ha, HO, Ht, Hr⟩
    imodintro
    isplitr [HO]
    · isplitl [Ha]; · iexact Ha
      isplitl [Ht]; · iexact Ht
      iexact Hr
    · unfold Pipeline.RDat.owesAt Pipeline.owesWithin
      icases HO with ⟨%W, -, HO⟩; iexists W; iexact HO

/-- @main as the list of its four items. -/
abbrev segs (hlen : Fits m) : List (Pipeline.RDat.Seg (pcfgs (F := F)) (adm m) (rdats m) () defs₀ Variants.none L lv) :=
  [.host (Cert.KernelIdeal.Gen.seg0 m Variants.none L lv (fun _ => R)), .region (reg0 m), .host (Cert.KernelIdeal.Gen.seg2 m (outs0 m) Variants.none L lv (fun _ => R)), .region (reg1 m hlen)]

/-- What a final state holds: the arguments as launched, the scores as the second region's write-backs leave them. -/
def Final (mem : (ℓ : Loc nD τ sig) → Buf (Elt F) ℓ) : Prop := ∀ c : Dev nD,
    (rd1 m c).ArrAt 11 grid1.N (mem ((c : Thread nD τ).loc main_v14_1))
      ∧ mem ((c : Thread nD τ).loc main_arg0) = m ((c : Thread nD τ).loc main_arg0)
      ∧ mem ((c : Thread nD τ).loc main_arg1) = m ((c : Thread nD τ).loc main_arg1)
      ∧ mem ((c : Thread nD τ).loc main_arg2) = m ((c : Thread nD τ).loc main_arg2)
      ∧ mem ((c : Thread nD τ).loc main_arg3) = m ((c : Thread nD τ).loc main_arg3)
      ∧ mem ((c : Thread nD τ).loc main_arg4) = m ((c : Thread nD τ).loc main_arg4)
      ∧ mem ((c : Thread nD τ).loc main_arg5) = m ((c : Thread nD τ).loc main_arg5)
      ∧ mem ((c : Thread nD τ).loc main_arg6) = m ((c : Thread nD τ).loc main_arg6)
      ∧ mem ((c : Thread nD τ).loc main_arg7) = m ((c : Thread nD τ).loc main_arg7)
      ∧ mem ((c : Thread nD τ).loc main_arg8) = m ((c : Thread nD τ).loc main_arg8)

set_option backward.isDefEq.respectTransparency.types false in
theorem run_main (hlen : Fits m) (ρ : Dev nD → PrngReg) :
    θ_run defs (onTc (τ := τ) (main (F := F))) ⟨m, fun _ => 0, ρ⟩ (fun r => Final m r.2.mem ∧ r.2.sem = fun _ => 0) := by
  refine Pipeline.RDat.θ_run_regions_kit_dev_sems (pcfgs (F := F)) (adm m) (rdats m) () (cellOf_inj (adm m)) emb₁ defs₀ Variants.none L lv m ρ main
    (fun _ => segs m hlen)
    (fun c Q => by
      rewrite [main_chain c, Pipeline.RDat.Seg.run_eq_chain,
        show (segs m hlen).map Pipeline.RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := ?_)
    (T₀ := fun c => iprop(StableHlo.held (c : Thread nD τ) (Pipeline.ucRefs τ sig) (V0 m c) ∗ R c))
    (Tₙ := Tₙ m) (hch := fun c => ⟨.rfl, .rfl, .rfl, .rfl, by show _ ⊢ _; exact .rfl⟩)
    (hinit := ?_)
    (QY := fun c mem => (rd1 m c).ArrAt 11 grid1.N (mem.mem ((c : Thread nD τ).loc main_v14_1))
      ∧ mem.mem ((c : Thread nD τ).loc main_arg0) = m ((c : Thread nD τ).loc main_arg0)
      ∧ mem.mem ((c : Thread nD τ).loc main_arg1) = m ((c : Thread nD τ).loc main_arg1)
      ∧ mem.mem ((c : Thread nD τ).loc main_arg2) = m ((c : Thread nD τ).loc main_arg2)
      ∧ mem.mem ((c : Thread nD τ).loc main_arg3) = m ((c : Thread nD τ).loc main_arg3)
      ∧ mem.mem ((c : Thread nD τ).loc main_arg4) = m ((c : Thread nD τ).loc main_arg4)
      ∧ mem.mem ((c : Thread nD τ).loc main_arg5) = m ((c : Thread nD τ).loc main_arg5)
      ∧ mem.mem ((c : Thread nD τ).loc main_arg6) = m ((c : Thread nD τ).loc main_arg6)
      ∧ mem.mem ((c : Thread nD τ).loc main_arg7) = m ((c : Thread nD τ).loc main_arg7)
      ∧ mem.mem ((c : Thread nD τ).loc main_arg8) = m ((c : Thread nD τ).loc main_arg8))
    (hfin := fun c s' => ?_) (hQ := fun _ h hz => ⟨h, funext fun g => hz g (.inr (regions_no_unscoped g.2))⟩)
  · iintro Hu
    imodintro
    isplitl [Hu]; · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · dsimp only [Tₙ]
    rw [tbl_pt, unscopedRestP1_eq]
    iintro ⟨⟨Ha, H8, H0, H1, H2, H3, H4, H5, H6, H7, -, -, -, -, -, -, -, -, -, -⟩, HSI⟩
    icombine HSI H0 gives %h0
    icombine HSI H1 gives %h1
    icombine HSI H2 gives %h2
    icombine HSI H3 gives %h3
    icombine HSI H4 gives %h4
    icombine HSI H5 gives %h5
    icombine HSI H6 gives %h6
    icombine HSI H7 gives %h7
    icombine HSI H8 gives %h8
    ihave Hr := (Pipeline.RDat.arrays_read (pcfgs (F := F)) (adm m) (rdats m) (p := 1) (launch1 (F := F)).arr_whole c _ s') $$ [Ha HSI]
    · isplitl [Ha] <;> iassumption
    icases Hr with ⟨%ha, HSI⟩
    imodintro
    isplitr
    · ipureintro
      have e := fun (b : Ref sig .tc) h3 h2 h1 => (V3_of m (outs0 m) c b h3).trans ((V2_of m (outs0 m) c b h2).trans (V1_of m c b h1))
      refine ⟨ha 11, ?_⟩
      obtain rfl : c = c₀ := Subsingleton.elim _ _
      exact ⟨(Buf.eq_of_forall_mem_univ h0).trans (e main_arg0 (by decide) (by decide) (by decide)),
        (Buf.eq_of_forall_mem_univ h1).trans (e main_arg1 (by decide) (by decide) (by decide)),
        (Buf.eq_of_forall_mem_univ h2).trans (e main_arg2 (by decide) (by decide) (by decide)),
        (Buf.eq_of_forall_mem_univ h3).trans (e main_arg3 (by decide) (by decide) (by decide)),
        (Buf.eq_of_forall_mem_univ h4).trans (e main_arg4 (by decide) (by decide) (by decide)),
        (Buf.eq_of_forall_mem_univ h5).trans (e main_arg5 (by decide) (by decide) (by decide)),
        (Buf.eq_of_forall_mem_univ h6).trans (e main_arg6 (by decide) (by decide) (by decide)),
        (Buf.eq_of_forall_mem_univ h7).trans (e main_arg7 (by decide) (by decide) (by decide)),
        Buf.eq_of_forall_mem_univ h8⟩
    · iexact HSI

end Cert.Proof.KernelIdeal

end
-- ==== Proof.Frames.lean ====
/-
  The frames of the kernel, its idealization and the reference, and the idealization's one rewrite.
-/
module

public import proofs.«01_k».proof.Proof.Pre
public import proofs.«01_k».proof.Proof.Reference
public import proofs.«01_k».proof.Proof.Kernel.Run
public import proofs.«01_k».proof.Proof.KernelIdeal.Run

@[expose] public section

set_option maxRecDepth 65536

noncomputable section

namespace Cert.Proof.Frames

open Idealize.ShloMosaic Idealize.ShloMosaic.TcCoe Idealize.SL.Sem

/-- The word the body reads for a point is one of the lengths. -/
theorem kernel_word (X : Buf (Elt Bits) ((Cert.Proof.Kernel.c₀ : Thread Cert.Kernel.nD Cert.Kernel.τ).loc Cert.Kernel.main_arg8)) (i : Cert.Kernel.grid1.Coords) :
    ∃ j : Cert.Kernel.S48.Idx, Cert.Proof.Kernel.attWord (F := Bits) Cert.Proof.Kernel.c₀ i (Memref.whole Cert.Kernel.main_arg8) X = X j :=
  ⟨_, rfl⟩

/-- The word the body reads for a point is one of the lengths. -/
theorem kernelIdeal_word (X : Buf (Elt Ideal) ((Cert.Proof.KernelIdeal.c₀ : Thread Cert.KernelIdeal.nD Cert.KernelIdeal.τ).loc Cert.KernelIdeal.main_arg8)) (i : Cert.KernelIdeal.grid1.Coords) :
    ∃ j : Cert.KernelIdeal.S48.Idx, Cert.Proof.KernelIdeal.attWord (F := Ideal) Cert.Proof.KernelIdeal.c₀ i (Memref.whole Cert.KernelIdeal.main_arg8) X = X j :=
  ⟨_, rfl⟩

theorem fits_kernel (m : (ℓ : Loc Cert.Kernel.nD Cert.Kernel.τ Cert.Kernel.sig) → Buf (Elt Bits) ℓ) (h : Cert.Pre_Kernel m) :
    Cert.Proof.Kernel.Fits (F := Bits) m := fun i => by
  obtain ⟨j, e⟩ := kernel_word (m ((Cert.Proof.Kernel.c₀ : Thread Cert.Kernel.nD Cert.Kernel.τ).loc Cert.Kernel.main_arg8)) i
  rw [e]
  exact Pre.in_range_le _ _ _ _ _ _ _ _ _ (h Cert.Proof.Kernel.c₀) j

theorem fits_kernelIdeal (m : (ℓ : Loc Cert.KernelIdeal.nD Cert.KernelIdeal.τ Cert.KernelIdeal.sig) → Buf (Elt Ideal) ℓ)
    (h : Cert.Pre_KernelIdeal m) : Cert.Proof.KernelIdeal.Fits (F := Ideal) m := fun i => by
  obtain ⟨j, e⟩ := kernelIdeal_word (m ((Cert.Proof.KernelIdeal.c₀ : Thread Cert.KernelIdeal.nD Cert.KernelIdeal.τ).loc Cert.KernelIdeal.main_arg8)) i
  rw [e]
  exact Pre.in_range_le _ _ _ _ _ _ _ _ _ (h Cert.Proof.KernelIdeal.c₀) j

theorem frame_kernel : Cert.quiescent_Kernel := fun m ρ h =>
  (θ_run Cert.Kernel.defs _ _).mono (fun r h => ⟨fun c => (h.1 c).2, h.2⟩)
    (Cert.Proof.Kernel.run_main (F := Bits) m (fits_kernel m h) ρ)

theorem frame_kernelIdeal : Cert.quiescent_KernelIdeal := fun m ρ h =>
  (θ_run Cert.KernelIdeal.defs _ _).mono (fun r h => ⟨fun c => (h.1 c).2, h.2⟩)
    (Cert.Proof.KernelIdeal.run_main (F := Ideal) m (fits_kernelIdeal m h) ρ)

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "neg" .f32 0xF149F2CA#32 ⊥ rfl

end Cert.Proof.Frames

end
-- ==== Proof.FramesFinite.lean ====
/-
  The frames of the idealized kernel and of the reference under the precondition `finite`.
-/
module

public import proofs.«01_k».proof.Proof.PreFinite
public import proofs.«01_k».proof.Proof.Frames

@[expose] public section

set_option maxRecDepth 65536

noncomputable section

namespace Cert.Proof.Frames

open Idealize.ShloMosaic Idealize.ShloMosaic.TcCoe Idealize.SL.Sem

theorem fits_finite (m : (ℓ : Loc Cert.KernelIdeal.nD Cert.KernelIdeal.τ Cert.KernelIdeal.sig) → Buf (Elt Ideal) ℓ)
    (h : Cert.Pre_KernelIdeal_finite m) : Cert.Proof.KernelIdeal.Fits (F := Ideal) m := fun i => by
  obtain ⟨j, e⟩ := kernelIdeal_word (m ((Cert.Proof.KernelIdeal.c₀ : Thread Cert.KernelIdeal.nD Cert.KernelIdeal.τ).loc Cert.KernelIdeal.main_arg8)) i
  rw [e]
  exact (Pre.finite_all _ _ _ _ _ _ _ _ _ (h Cert.Proof.KernelIdeal.c₀)).1 j

theorem frame_kernelIdeal_finite : Cert.quiescent_KernelIdeal_pre_finite := fun m ρ h =>
  (θ_run Cert.KernelIdeal.defs _ _).mono (fun r h => ⟨fun c => (h.1 c).2, h.2⟩)
    (Cert.Proof.KernelIdeal.run_main (F := Ideal) m (fits_finite m h) ρ)

theorem frame_reference_finite : Cert.quiescent_ReferenceIdeal_pre_finite := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof.Frames

end
-- ==== Proof.KernelIdeal.Operands.lean ====
/-
  What the second call stages at a grid point, at an index, as elements of the arguments.
-/
module

public import proofs.«01_k».proof.Proof.KernelIdeal.PrepValue
public import proofs.«01_k».proof.Proof.KernelIdeal.Run
public import Idealize.ShloMosaic.Lib.StableHlo.ReadAt
public import Idealize.ShloMosaic.Lib.Pipeline.ValueKit

@[expose] public section

set_option maxRecDepth 65536

noncomputable section

namespace Cert.Proof.KernelIdeal

open Cert.KernelIdeal Cert.KernelIdeal.Gen
open Idealize.ShloMosaic
open Idealize.ShloMosaic.TcCoe

variable (m : (ℓ : Loc nD τ sig) → Buf (Elt Ideal) ℓ) (c : Dev nD)

theorem host_x (b : Fin 48) (row : Fin 240) (d : Fin 128) :
    V3 m (outs0 m) c main_v5 (ix3 b row d)
      = m ((c : Thread nD τ).loc main_arg0) (ix3 b (⟨row.val / 8 % 6, Nat.mod_lt _ (by decide)⟩ : Fin 6) (⟨row.val / 48 * 1024 + row.val % 8 * 128 + d.val, by omega⟩ : Fin 5120)) := by
  unfold V3
  after_reads_at
  exact congrFun ((V2_of m (outs0 m) c main_arg0 (by decide)).trans (V1_of m c main_arg0 (by decide))) _

theorem host_bits (b : Fin 48) (kv : Fin 8) (w : Fin 32) (p : Fin 3584) :
    V3 m (outs0 m) c main_v10 (ix4 b kv w p) = m ((c : Thread nD τ).loc main_arg4) (ix4 b p kv w) := by
  unfold V3
  after_reads_at
  exact congrFun ((V2_of m (outs0 m) c main_arg4 (by decide)).trans (V1_of m c main_arg4 (by decide))) _

theorem host_norm (b : Fin 48) (kv : Fin 8) (p : Fin 3584) :
    V3 m (outs0 m) c main_v11 (ix3 b kv p) = m ((c : Thread nD τ).loc main_arg5) (ix3 b p kv) := by
  unfold V3
  after_reads_at
  exact congrFun ((V2_of m (outs0 m) c main_arg5 (by decide)).trans (V1_of m c main_arg5 (by decide))) _

theorem index_x : ∀ t : Fin grid1.N, cc1_transform_0 (grid1.coords t) = ![(grid1.coords t 0).val, 0, 0] := by decide +kernel
theorem index_proj : ∀ t : Fin grid1.N, cc1_transform_1 (grid1.coords t) = ![0, 0] := by decide +kernel
theorem index_bits : ∀ t : Fin grid1.N, cc1_transform_6 (grid1.coords t) = ![(grid1.coords t 0).val, 0, 0, 0] := by decide +kernel
theorem index_norm : ∀ t : Fin grid1.N, cc1_transform_7 (grid1.coords t) = ![(grid1.coords t 0).val, 0, 0] := by decide +kernel
theorem index_out : ∀ t : Fin grid1.N, cc1_transform_11 (grid1.coords t) = ![(grid1.coords t 0).val, 0, 0, 0] := by decide +kernel

variable (t : Fin grid1.N)

theorem blk_x (row : Fin 240) (d : Fin 128) :
    blk1_0 m c t (ix3 (0 : Fin 1) row d) = V3 m (outs0 m) c main_v5 (ix3 (grid1.coords t 0) row d) := by
  have e : ((cfg1 (tbl m)).win 0).index t = ![(grid1.coords t 0).val, 0, 0] := index_x t
  show V3 m (outs0 m) c main_v5 ((((cfg1 (tbl m)).win 0).blk t).view.emb (ix3 (0 : Fin 1) row d)) = _
  refine congrArg _ (funext fun a => Fin.ext ?_)
  refine (((cfg1 (tbl m)).win 0).rect_emb_val t (ix3 (0 : Fin 1) row d) a).trans ?_
  rw [e]
  match a with
  | ⟨0, _⟩ => show (grid1.coords t 0).val * 1 + 0 = (grid1.coords t 0).val; omega
  | ⟨1, _⟩ => show 0 * 240 + row.val = row.val; omega
  | ⟨2, _⟩ => show 0 * 128 + d.val = d.val; omega

theorem blk_proj (d : Fin 128) (k : Fin 256) :
    blk1_1 m c t (ix2 d k) = V3 m (outs0 m) c main_v2_6 (ix2 d k) := by
  have e : ((cfg1 (tbl m)).win 1).index t = ![0, 0] := index_proj t
  show V3 m (outs0 m) c main_v2_6 ((((cfg1 (tbl m)).win 1).blk t).view.emb (ix2 d k)) = _
  refine congrArg _ (funext fun a => Fin.ext ?_)
  refine (((cfg1 (tbl m)).win 1).rect_emb_val t (ix2 d k) a).trans ?_
  rw [e]
  match a with
  | ⟨0, _⟩ => show 0 * 128 + d.val = d.val; omega
  | ⟨1, _⟩ => show 0 * 256 + k.val = k.val; omega

theorem blk_bits (kv : Fin 8) (w : Fin 32) (p : Fin 3584) :
    blk1_6 m c t (ix4 (0 : Fin 1) kv w p) = V3 m (outs0 m) c main_v10 (ix4 (grid1.coords t 0) kv w p) := by
  have e : ((cfg1 (tbl m)).win 6).index t = ![(grid1.coords t 0).val, 0, 0, 0] := index_bits t
  show V3 m (outs0 m) c main_v10 ((((cfg1 (tbl m)).win 6).blk t).view.emb (ix4 (0 : Fin 1) kv w p)) = _
  refine congrArg _ (funext fun a => Fin.ext ?_)
  refine (((cfg1 (tbl m)).win 6).rect_emb_val t (ix4 (0 : Fin 1) kv w p) a).trans ?_
  rw [e]
  match a with
  | ⟨0, _⟩ => show (grid1.coords t 0).val * 1 + 0 = (grid1.coords t 0).val; omega
  | ⟨1, _⟩ => show 0 * 8 + kv.val = kv.val; omega
  | ⟨2, _⟩ => show 0 * 32 + w.val = w.val; omega
  | ⟨3, _⟩ => show 0 * 3584 + p.val = p.val; omega

theorem blk_norm (kv : Fin 8) (p : Fin 3584) :
    blk1_7 m c t (ix3 (0 : Fin 1) kv p) = V3 m (outs0 m) c main_v11 (ix3 (grid1.coords t 0) kv p) := by
  have e : ((cfg1 (tbl m)).win 7).index t = ![(grid1.coords t 0).val, 0, 0] := index_norm t
  show V3 m (outs0 m) c main_v11 ((((cfg1 (tbl m)).win 7).blk t).view.emb (ix3 (0 : Fin 1) kv p)) = _
  refine congrArg _ (funext fun a => Fin.ext ?_)
  refine (((cfg1 (tbl m)).win 7).rect_emb_val t (ix3 (0 : Fin 1) kv p) a).trans ?_
  rw [e]
  match a with
  | ⟨0, _⟩ => show (grid1.coords t 0).val * 1 + 0 = (grid1.coords t 0).val; omega
  | ⟨1, _⟩ => show 0 * 8 + kv.val = kv.val; omega
  | ⟨2, _⟩ => show 0 * 3584 + p.val = p.val; omega

theorem word_read {S : Shape} (X : S48.Idx → BitVec 32) (off : Fin 1 → ℕ) (inb : ∀ a, off a + S1.size a ≤ S48.size a) (y : S1.Idx) (b : Fin 48) (h : off 0 = b.val) :
    View.readAt (Elt Ideal) (Memref.whole main_arg8).view (Rect.unit (s := S48) off S1.size inb).toLoadRect X y = X (ix1 b) := by
  refine (View.readAt_apply ..).trans ?_
  refine congrArg X (funext fun a => Fin.ext ?_)
  match a with
  | ⟨0, _⟩ =>
    show off 0 + 1 * (y 0).val = b.val
    have : (y 0).val < 1 := (y 0).isLt
    omega

theorem off_word : ∀ t : Fin grid1.N, k1_off1 (grid1.coords t) 0 = (grid1.coords t 0).val := by decide +kernel

theorem len_word : attWord (F := Ideal) c (grid1.coords t) (Memref.whole main_arg8) (m ((c₀ : Thread nD τ).loc main_arg8))
    = m ((c₀ : Thread nD τ).loc main_arg8) (ix1 (grid1.coords t 0)) := by
  unfold attWord
  exact word_read (S := S48) _ _ _ _ _ (off_word t)

theorem stage_proj (d : Fin 128) (k : Fin 256) : prepRun.sl.r (F := Ideal) c (stage0_2 0) (stg0_2 m c) (ix2 d k) = m ((c : Thread nD τ).loc main_arg3) (ix2 d k) := by
  have h1 : V1 m c main_arg3 = m ((c : Thread nD τ).loc main_arg3) := V1_of m c main_arg3 (by decide)
  unfold prepRun.sl.r
  refine (View.readAt_apply ..).trans ?_
  show V1 m c main_arg3 _ = _
  rw [h1]
  refine congrArg _ (funext fun a => Fin.ext ?_)
  match a with
  | ⟨0, _⟩ => show 0 + 1 * (0 + 1 * d.val) = d.val; omega
  | ⟨1, _⟩ => show 0 + 1 * (0 + 1 * k.val) = k.val; omega

theorem prep_result (d : Fin 128) (k : Fin 256) : (prepOut m c).1.2.2.2.2.2.2 (ix2 d k) = m ((c : Thread nD τ).loc main_arg3) (ix2 d (coord k)) := by
  show (stage0_9 0).view.read (Elt Ideal) ((stage0_9 0).view.writes (Elt Ideal) (stage0_9 0).view.junk (prepRun.sl.H9_1 (F := Ideal) c (stage0_2 0) (stg0_2 m c))) (ix2 d k) = _
  refine (View.read_writes_apply_of_pieces _ _ (prepRun.sl.v137 (F := Ideal) c (stage0_2 0) (stg0_2 m c)) _ ?_ _ ?_).trans ?_
  · intro p hp x
    unfold prepRun.sl.H9_1 at hp
    obtain rfl := List.mem_singleton.mp hp
    refine congrArg _ (funext fun a => Fin.ext ?_)
    match a with
    | ⟨0, _⟩ => show (x 0).val = 0 + 1 * (x 0).val; omega
    | ⟨1, _⟩ => show (x 1).val = 0 + 1 * (x 1).val; omega
  · unfold prepRun.sl.H9_1
    refine ⟨_, List.mem_singleton.mpr rfl, ?_⟩
    rw [Rect.mem_set_unit]
    intro a
    match a with
    | ⟨0, _⟩ => exact ⟨Nat.zero_le _, by show d.val < 0 + 128; omega⟩
    | ⟨1, _⟩ => exact ⟨Nat.zero_le _, by show k.val < 0 + 256; omega⟩
  · refine (prep_payload c (stage0_2 0) (stg0_2 m c) d k).trans ?_
    refine (Finset.sum_congr rfl fun x _ => ?_).trans (prep_cols (m ((c : Thread nD τ).loc main_arg3)) d k)
    exact congrArg (fun u : EReal => u * (FloatOps.sitofp (F := Ideal) .f32 ((prepRun.sl.v131 (ix2 x k)).setWidth 32) : EReal)) (stage_proj m c d x)

theorem host_proj (d : Fin 128) (k : Fin 256) :
    V3 m (outs0 m) c main_v2_6 (ix2 d k) = m ((c : Thread nD τ).loc main_arg3) (ix2 d (coord k)) := by
  rw [V3_of m (outs0 m) c main_v2_6 (by decide), V2_res6]
  refine ((dat0 m c).arrAt_emb_eq_after_last 9 t0_0 (by decide +kernel) (ix2 d k)).trans ?_
  exact prep_result m c d k

end Cert.Proof.KernelIdeal

end
-- ==== Proof.KernelIdeal.ScoresArray.lean ====
/-
  The array of scores after the run: at every index, the block formula of the grid point that writes it.
-/
module

public import proofs.«01_k».proof.Proof.KernelIdeal.AttValue
public import proofs.«01_k».proof.Proof.KernelIdeal.Operands
public import Idealize.ShloMosaic.Lib.Pipeline.ArrRel
public import Idealize.ShloMosaic.Lib.Pipeline.Covers

@[expose] public section

set_option maxRecDepth 65536

noncomputable section

namespace Cert.Proof.KernelIdeal

open Cert.KernelIdeal Cert.KernelIdeal.Gen
open Idealize.ShloMosaic
open Idealize.ShloMosaic.TcCoe
open Idealize.ShloMosaic.Pipeline (Dat RDat Cfg Window)

variable (m : (ℓ : Loc nD τ sig) → Buf (Elt Ideal) ℓ) (c : Dev nD)

/-- The block of scores left at a grid point. -/
def pointScore (t : Fin grid1.N) (tt : Fin 6) (h : Fin 40) (pos : Fin 3584) : EReal :=
  blockFn (blk1_0 m c t) (blk1_1 m c t) (blk1_6 m c t) (blk1_7 m c t) (m ((c₀ : Thread nD τ).loc main_arg8) (ix1 (grid1.coords t 0))).toNat tt h pos

theorem blockFn_congr {x x' : S1x240x128.Idx → EReal} {P P' : S128x256.Idx → EReal} {B B' : S1x8x32x3584.Idx → BitVec 8} {N N' : S1x8x3584.Idx → EReal} {len len' : ℕ}
    (hx : x = x') (hP : P = P') (hB : B = B') (hN : N = N') (hl : len = len') (tt : Fin 6) (h : Fin 40) (pos : Fin 3584) :
    blockFn x P B N len tt h pos = blockFn x' P' B' N' len' tt h pos := by
  subst hx hP hB hN hl; rfl

theorem score_of_after (hlen : Fits m) (t : Fin grid1.N) (X : S1x6x40x3584.Idx → EReal) (hX : scoreAfter m c t X)
    (z : Fin 1) (tt : Fin 6) (h : Fin 40) (pos : Fin 3584) : X (ix4 z tt h pos) = pointScore m c t tt h pos := by
  obtain ⟨f15, f13, hchk, rfl⟩ := hX
  obtain rfl : c = c₀ := Subsingleton.elim _ _
  have hv := hlen (grid1.coords t)
  refine (att_block (hv := hv) (z := z) (t := tt) (h := h) (pos := pos) ..).trans ?_
  exact blockFn_congr (View.read_rep _ _) (View.read_rep _ _) (View.read_rep _ _) (View.read_rep _ _) (congrArg BitVec.toNat (len_word m c₀ t)) tt h pos

/-- The grid point that writes a batch entry's block. -/
def point (b : Fin 48) : Fin grid1.N := ⟨b.val, b.isLt⟩

theorem point_coords : ∀ t : Fin grid1.N, point (grid1.coords t 0) = t := by decide +kernel

theorem coords_point_val : ∀ b : Fin 48, (grid1.coords (point b) 0).val = b.val := by decide +kernel

theorem coords_point (b : Fin 48) : grid1.coords (point b) 0 = b := Fin.ext (coords_point_val b)

/-- An index of the array by its entries. -/
theorem scores_index (i : S48x6x40x3584.Idx) : i = ix4 (i 0) (i 1) (i 2) (i 3) := funext fun a => Fin.ext (by
  match a with
  | ⟨0, _⟩ => rfl
  | ⟨1, _⟩ => rfl
  | ⟨2, _⟩ => rfl
  | ⟨3, _⟩ => rfl)

/-- The array of scores. -/
def scores (i : S48x6x40x3584.Idx) : EReal := pointScore m c (point (i 0)) (i 1) (i 2) (i 3)

theorem emb_out (t : Fin grid1.N) (y : S1x6x40x3584.Idx) :
    (((cfg1 (tbl m)).win 11).blk t).view.emb y = ix4 (grid1.coords t 0) (y 1) (y 2) (y 3) := by
  have e : ((cfg1 (tbl m)).win 11).index t = ![(grid1.coords t 0).val, 0, 0, 0] := index_out t
  refine funext fun a => Fin.ext ?_
  refine (((cfg1 (tbl m)).win 11).rect_emb_val t y a).trans ?_
  rw [e]
  match a with
  | ⟨0, _⟩ =>
    have h : (y 0).val < 1 := (y 0).isLt
    show (grid1.coords t 0).val * 1 + (y 0).val = (grid1.coords t 0).val; omega
  | ⟨1, _⟩ => show 0 * 6 + (y 1).val = (y 1).val; omega
  | ⟨2, _⟩ => show 0 * 40 + (y 2).val = (y 2).val; omega
  | ⟨3, _⟩ => show 0 * 3584 + (y 3).val = (y 3).val; omega

theorem size_out (a : Fin 4) : ((cfg1 (tbl m)).win 11).size a = (![1, 6, 40, 3584] : Fin 4 → ℕ) a := by
  match a with
  | ⟨0, _⟩ => rfl
  | ⟨1, _⟩ => rfl
  | ⟨2, _⟩ => rfl
  | ⟨3, _⟩ => rfl

theorem shape_out (a : Fin 4) : ((cfg1 (tbl m)).win 11).shape.size a = (![48, 6, 40, 3584] : Fin 4 → ℕ) a := by
  match a with
  | ⟨0, _⟩ => rfl
  | ⟨1, _⟩ => rfl
  | ⟨2, _⟩ => rfl
  | ⟨3, _⟩ => rfl

theorem blocks_out (a : Fin 4) : ((cfg1 (tbl m)).win 11).nblk a = (![48, 1, 1, 1] : Fin 4 → ℕ) a := by
  show (((cfg1 (tbl m)).win 11).shape.size a + ((cfg1 (tbl m)).win 11).size a - 1) / ((cfg1 (tbl m)).win 11).size a = _
  rw [show ((cfg1 (tbl m)).win 11).shape.size a = _ from shape_out m a, show ((cfg1 (tbl m)).win 11).size a = _ from size_out m a]
  revert a
  decide

theorem covers_out : ((cfg1 (tbl m)).win 11).Covers :=
  ((cfg1 (tbl m)).win 11).covers_of_indexMap_surj rfl (show ∀ a : Fin 4, 0 < (![1, 6, 40, 3584] : Fin 4 → ℕ) a by decide) fun β => by
    have h0 : (β (0 : Fin 4)).val < 48 := lt_of_lt_of_eq (β (0 : Fin 4)).isLt (blocks_out m 0)
    have h1 : (β (1 : Fin 4)).val < 1 := lt_of_lt_of_eq (β (1 : Fin 4)).isLt (blocks_out m 1)
    have h2 : (β (2 : Fin 4)).val < 1 := lt_of_lt_of_eq (β (2 : Fin 4)).isLt (blocks_out m 2)
    have h3 : (β (3 : Fin 4)).val < 1 := lt_of_lt_of_eq (β (3 : Fin 4)).isLt (blocks_out m 3)
    refine ⟨grid1.coords (point ⟨(β (0 : Fin 4)).val, h0⟩), fun a => ?_⟩
    have e := congrFun (index_out (point ⟨(β (0 : Fin 4)).val, h0⟩)) a
    refine Eq.trans e ?_
    match a with
    | ⟨0, _⟩ => exact coords_point_val _
    | ⟨1, _⟩ => show 0 = (β (1 : Fin 4)).val; omega
    | ⟨2, _⟩ => show 0 = (β (2 : Fin 4)).val; omega
    | ⟨3, _⟩ => show 0 = (β (3 : Fin 4)).val; omega

/-- An index of the block by its entries. -/
theorem block_index (y : S1x6x40x3584.Idx) : y = ix4 (0 : Fin 1) (y 1) (y 2) (y 3) := funext fun a => Fin.ext (by
  match a with
  | ⟨0, _⟩ => have h : (y 0).val < 1 := (y 0).isLt; show (y 0).val = 0; omega
  | ⟨1, _⟩ => rfl
  | ⟨2, _⟩ => rfl
  | ⟨3, _⟩ => rfl)

theorem score_at (hlen : Fits m) (t : Fin grid1.N) (X : S1x6x40x3584.Idx → EReal) (hX : scoreAfter m c t X) (y : S1x6x40x3584.Idx) :
    X y = scores m c ((((cfg1 (tbl m)).win 11).blk t).view.emb y) := by
  refine Eq.trans ?_ (congrArg (scores m c) (emb_out m t y).symm)
  show X y = pointScore m c (point (grid1.coords t 0)) (y 1) (y 2) (y 3)
  rw [point_coords]
  exact (congrArg X (block_index y)).trans (score_of_after m c hlen t X hX (0 : Fin 1) (y 1) (y 2) (y 3))

/-- What the run leaves in the array of scores. -/
theorem scores_array (hlen : Fits m) (G : S48x6x40x3584.Idx → EReal) (hG : (rd1 m c).ArrAt 11 grid1.N G) : G = scores m c := by
  obtain ⟨X, hX, hA⟩ := hG.exists_exact
  have ha := hA (Function.update (fun _ _ _ => Classical.arbitrary _) 11 X) (fun _ _ _ => by rw [Function.update_self])
  refine ha.trans ?_
  generalize hafter : (Function.update (fun _ _ _ => Classical.arbitrary _) 11 X :
    (w' : Fin (cfg1 (tbl m)).W) → Fin (cfg1 (tbl m)).N → ((cfg1 (tbl m)).win w').block.Idx → Elt Ideal ((cfg1 (tbl m)).win w').elt) = after
  have hself : after 11 = X := by rw [← hafter, Function.update_self]
  refine ((rd1 m c).withAfter after).arrAt_eq_of_covers (11 : Fin 12) (scores m c) (covers_out m) fun t hf y => ?_
  rw [RDat.withAfter_after, hself]
  obtain ⟨Y, -, hs⟩ := hX t t.isLt hf
  have hs' : scoreAfter m c t (X t) := hs
  exact score_at m c hlen t (X t) hs' y

end Cert.Proof.KernelIdeal

end
-- ==== Proof.Value.lean ====
/-
  The value claim: the idealized kernel and the reference, on equal arguments, leave equal scores.
-/
module

public import proofs.«01_k».proof.Proof.Equation
public import proofs.«01_k».proof.Proof.FramesFinite
public import proofs.«01_k».proof.Proof.KernelIdeal.ScoresArray

@[expose] public section

set_option maxRecDepth 65536

noncomputable section

namespace Cert.Proof

open Idealize.ShloMosaic Idealize.ShloMosaic.TcCoe Idealize.SL.Sem

/-- The scores the kernel leaves are the reference's term of the same arguments. -/
theorem scores_eq (m : (ℓ : Loc Cert.KernelIdeal.nD Cert.KernelIdeal.τ Cert.KernelIdeal.sig) → Buf (Elt Ideal) ℓ) (h : Cert.Pre_KernelIdeal_finite m)
    (c : Dev Cert.KernelIdeal.nD) :
    KernelIdeal.scores m c = Cert.ReferenceIdeal.Read.val_main_v37 (F := Ideal)
      (m ((c : Thread Cert.KernelIdeal.nD Cert.KernelIdeal.τ).loc Cert.KernelIdeal.main_arg0)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg8)) := by
  obtain rfl : c = KernelIdeal.c₀ := Subsingleton.elim _ _
  obtain ⟨hlen, h0, h3⟩ := Pre.finite_all _ _ _ _ _ _ _ _ _ (h KernelIdeal.c₀)
  funext i
  obtain ⟨b, t, hd, p, rfl⟩ : ∃ (b : Fin 48) (t : Fin 6) (hd : Fin 40) (p : Fin 3584), i = ix4 b t hd p := ⟨i 0, i 1, i 2, i 3, KernelIdeal.scores_index i⟩
  refine Eq.trans ?_ (Reference.ref_apply _ _ _ _ _ b t hd p (hlen _)).symm
  have hb : Cert.KernelIdeal.grid1.coords (KernelIdeal.point b) 0 = b := KernelIdeal.coords_point b
  show KernelIdeal.pointScore m KernelIdeal.c₀ (KernelIdeal.point b) t hd p = _
  unfold KernelIdeal.pointScore
  rw [hb]
  refine block_eq_ref _ _ _ _ _ _ _ _ _ b t hd p ?_ ?_ ?_ ?_ (fun i => real_of_finite _ (h0 i)) (fun i => real_of_finite _ (h3 i))
  · intro row d
    rw [KernelIdeal.blk_x, hb]
    exact KernelIdeal.host_x m KernelIdeal.c₀ b row d
  · intro d k
    rw [KernelIdeal.blk_proj]
    exact KernelIdeal.host_proj m KernelIdeal.c₀ d k
  · intro kv w
    rw [KernelIdeal.blk_bits, hb]
    exact KernelIdeal.host_bits m KernelIdeal.c₀ b kv w p
  · intro kv
    rw [KernelIdeal.blk_norm, hb]
    exact KernelIdeal.host_norm m KernelIdeal.c₀ b kv p

theorem algebraic : Cert.algebraic_KernelIdeal_ReferenceIdeal_pre_finite := fun m g m' g' hpre hagree => by
  refine ⟨fun c => KernelIdeal.scores m c, ?_, ?_⟩
  · refine (θ_run Cert.KernelIdeal.defs _ _).mono (fun r h c => ?_) (KernelIdeal.run_main (F := Ideal) m (Frames.fits_finite m hpre) g)
    exact ⟨KernelIdeal.scores_array m c (Frames.fits_finite m hpre) _ (h.1 c).1, (h.1 c).2⟩
  · refine (θ_run Cert.ReferenceIdeal.defs _ _).mono (fun r h c => ?_) (Cert.ReferenceIdeal.Value.run (F := Ideal) m' g')
    obtain ⟨a0, a1, a2, a3, a4, a5, a6, a7, a8⟩ := hagree c
    have e := (h c).1.trans (Cert.ReferenceIdeal.Read.val_main_v37_eq (F := Ideal) _ _ _ _ _)
    rw [a0, a3, a4, a5, a8] at e
    exact ⟨e.trans (scores_eq m hpre c).symm, (h c).2⟩

end Cert.Proof

end
-- ==== Proof.lean ====
module

public import proofs.«01_k».proof.Defs
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts, Cert.Pre_finite.Gen.facts,
  Frames.frame_kernel, Frames.frame_kernelIdeal, Frames.frame_kernelIdeal_finite, Frames.frame_reference, Frames.frame_reference_finite, Frames.preserves, algebraic⟩

end Cert.Proof

end
